-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x64 : Shape := ⟨2, ![16384, 64]⟩
abbrev S2x64x64 : Shape := ⟨3, ![2, 64, 64]⟩
abbrev S2x64 : Shape := ⟨2, ![2, 64]⟩
abbrev S64x64 : Shape := ⟨2, ![64, 64]⟩
abbrev S64 : Shape := ⟨1, ![64]⟩
abbrev S8192x64 : Shape := ⟨2, ![8192, 64]⟩
abbrev S2x1x64 : Shape := ⟨3, ![2, 1, 64]⟩
abbrev S1x64 : Shape := ⟨2, ![1, 64]⟩
abbrev S256x64 : Shape := ⟨2, ![256, 64]⟩
abbrev S1x64x64 : Shape := ⟨3, ![1, 64, 64]⟩
abbrev S1x1x64 : Shape := ⟨3, ![1, 1, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S64x16384 : Shape := ⟨2, ![64, 16384]⟩
abbrev S1x16384 : Shape := ⟨2, ![1, 16384]⟩
abbrev S8x16384 : Shape := ⟨2, ![8, 16384]⟩
abbrev S64x256 : Shape := ⟨2, ![64, 256]⟩
abbrev S8x256 : Shape := ⟨2, ![8, 256]⟩
abbrev S8192x256 : Shape := ⟨2, ![8192, 256]⟩
abbrev S1x256 : Shape := ⟨2, ![1, 256]⟩
abbrev S256 : Shape := ⟨1, ![256]⟩
abbrev S4096x128 : Shape := ⟨2, ![4096, 128]⟩
abbrev S32x512 : Shape := ⟨2, ![32, 512]⟩
abbrev S16384x128 : Shape := ⟨2, ![16384, 128]⟩
abbrev S512 : Shape := ⟨1, ![512]⟩
abbrev S512x128 : Shape := ⟨2, ![512, 128]⟩
abbrev S1x512 : Shape := ⟨2, ![1, 512]⟩
abbrev S128x128 : Shape := ⟨2, ![128, 128]⟩
abbrev S128 : Shape := ⟨1, ![128]⟩
abbrev S1x1 : Shape := ⟨2, ![1, 1]⟩
abbrev S256x128 : Shape := ⟨2, ![256, 128]⟩
abbrev S256x1 : Shape := ⟨2, ![256, 1]⟩
abbrev S1x256x64 : Shape := ⟨3, ![1, 256, 64]⟩
abbrev S1 : Shape := ⟨1, ![1]⟩
abbrev S1x1x1 : Shape := ⟨3, ![1, 1, 1]⟩

abbrev nBuf : Table → Nat
  | .hbm => 96
  | .local .tc .vmem => 41
  | .local .scVector .vmem => 2
  | _ => 0

abbrev bufTy : (tb : Table) → Fin (nBuf tb) → BufTy
  | .hbm, ⟨0, _⟩ => ⟨S16384x64, .f32⟩
  | .hbm, ⟨1, _⟩ => ⟨S2x64x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S2x64x64, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S2x64, .f32⟩
  | .hbm, ⟨16, _⟩ => ⟨S2x64, .f32⟩
  | .hbm, ⟨17, _⟩ => ⟨S64x64, .f32⟩
  | .hbm, ⟨18, _⟩ => ⟨S64, .f32⟩
  | .hbm, ⟨19, _⟩ => ⟨S64x64, .f32⟩
  | .hbm, ⟨20, _⟩ => ⟨S64, .f32⟩
  | .hbm, ⟨21, _⟩ => ⟨S8192x64, .f32⟩
  | .hbm, ⟨22, _⟩ => ⟨S2x64x64, .f32⟩
  | .hbm, ⟨23, _⟩ => ⟨S2x1x64, .f32⟩
  | .hbm, ⟨24, _⟩ => ⟨S2x1x64, .f32⟩
  | .hbm, ⟨25, _⟩ => ⟨S2x1x64, .f32⟩
  | .hbm, ⟨26, _⟩ => ⟨S2x1x64, .f32⟩
  | .hbm, ⟨27, _⟩ => ⟨S2x1x64, .f32⟩
  | .hbm, ⟨28, _⟩ => ⟨S64x64, .f32⟩
  | .hbm, ⟨29, _⟩ => ⟨S1x64, .f32⟩
  | .hbm, ⟨30, _⟩ => ⟨S64x64, .f32⟩
  | .hbm, ⟨31, _⟩ => ⟨S1x64, .f32⟩
  | .hbm, ⟨32, _⟩ => ⟨S16384x64, .f32⟩
  | .hbm, ⟨33, _⟩ => ⟨S16384x64, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x64, .f32⟩
  | .hbm, ⟨42, _⟩ => ⟨S16384x64, .f32⟩
  | .hbm, ⟨43, _⟩ => ⟨S16384x64, .f32⟩
  | .hbm, ⟨44, _⟩ => ⟨S16384x64, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S16384x1, .f32⟩
  | .hbm, ⟨49, _⟩ => ⟨S8192x64, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x64, .f32⟩
  | .hbm, ⟨58, _⟩ => ⟨S8192x64, .f32⟩
  | .hbm, ⟨59, _⟩ => ⟨S8192x64, .f32⟩
  | .hbm, ⟨60, _⟩ => ⟨S8192x64, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S64x16384, .f32⟩
  | .hbm, ⟨65, _⟩ => ⟨S64x16384, .f32⟩
  | .hbm, ⟨66, _⟩ => ⟨S1x16384, .f32⟩
  | .hbm, ⟨67, _⟩ => ⟨S8x16384, .f32⟩
  | .hbm, ⟨68, _⟩ => ⟨S8x16384, .f32⟩
  | .hbm, ⟨69, _⟩ => ⟨S8192x1, .f32⟩
  | .hbm, ⟨70, _⟩ => ⟨S8192x1, .f32⟩
  | .hbm, ⟨71, _⟩ => ⟨S8x16384, .i32⟩
  | .hbm, ⟨72, _⟩ => ⟨S1x16384, .i32⟩
  | .hbm, ⟨73, _⟩ => ⟨S16384, .i32⟩
  | .hbm, ⟨74, _⟩ => ⟨S16384x1, .i32⟩
  | .hbm, ⟨75, _⟩ => ⟨S4096x128, .f32⟩
  | .hbm, ⟨76, _⟩ => ⟨S_, .i32⟩
  | .hbm, ⟨77, _⟩ => ⟨S16384x1, .i32⟩
  | .hbm, ⟨78, _⟩ => ⟨S16384x1, .i32⟩
  | .hbm, ⟨79, _⟩ => ⟨S32x512, .i32⟩
  | .hbm, ⟨80, _⟩ => ⟨S16384x128, .f32⟩
  | .hbm, ⟨81, _⟩ => ⟨S2x64x64, .f32⟩
  | .hbm, ⟨82, _⟩ => ⟨S2x1x64, .f32⟩
  | .hbm, ⟨83, _⟩ => ⟨S2x1x64, .f32⟩
  | .hbm, ⟨84, _⟩ => ⟨S2x1x64, .f32⟩
  | .hbm, ⟨85, _⟩ => ⟨S2x1x64, .f32⟩
  | .hbm, ⟨86, _⟩ => ⟨S2x1x64, .f32⟩
  | .hbm, ⟨87, _⟩ => ⟨S64x64, .f32⟩
  | .hbm, ⟨88, _⟩ => ⟨S1x64, .f32⟩
  | .hbm, ⟨89, _⟩ => ⟨S64x64, .f32⟩
  | .hbm, ⟨90, _⟩ => ⟨S1x64, .f32⟩
  | .hbm, ⟨91, _⟩ => ⟨S16384x64, .f32⟩
  | .hbm, ⟨92, _⟩ => ⟨S1x1, .f32⟩
  | .hbm, ⟨93, _⟩ => ⟨S_, .f32⟩
  | .hbm, ⟨94, _⟩ => ⟨S_, .f32⟩
  | .hbm, ⟨95, _⟩ => ⟨S_, .f32⟩
  | .local .tc .vmem, ⟨0, _⟩ => ⟨S256x64, .f32⟩
  | .local .tc .vmem, ⟨1, _⟩ => ⟨S256x64, .f32⟩
  | .local .tc .vmem, ⟨2, _⟩ => ⟨S2x64x64, .f32⟩
  | .local .tc .vmem, ⟨3, _⟩ => ⟨S2x1x64, .f32⟩
  | .local .tc .vmem, ⟨4, _⟩ => ⟨S2x1x64, .f32⟩
  | .local .tc .vmem, ⟨5, _⟩ => ⟨S2x1x64, .f32⟩
  | .local .tc .vmem, ⟨6, _⟩ => ⟨S2x1x64, .f32⟩
  | .local .tc .vmem, ⟨7, _⟩ => ⟨S2x1x64, .f32⟩
  | .local .tc .vmem, ⟨8, _⟩ => ⟨S64x64, .f32⟩
  | .local .tc .vmem, ⟨9, _⟩ => ⟨S1x64, .f32⟩
  | .local .tc .vmem, ⟨10, _⟩ => ⟨S64x64, .f32⟩
  | .local .tc .vmem, ⟨11, _⟩ => ⟨S1x64, .f32⟩
  | .local .tc .vmem, ⟨12, _⟩ => ⟨S256x64, .f32⟩
  | .local .tc .vmem, ⟨13, _⟩ => ⟨S256x64, .f32⟩
  | .local .tc .vmem, ⟨14, _⟩ => ⟨S64x256, .f32⟩
  | .local .tc .vmem, ⟨15, _⟩ => ⟨S64x256, .f32⟩
  | .local .tc .vmem, ⟨16, _⟩ => ⟨S8x256, .f32⟩
  | .local .tc .vmem, ⟨17, _⟩ => ⟨S8x256, .f32⟩
  | .local .tc .vmem, ⟨18, _⟩ => ⟨S8192x64, .f32⟩
  | .local .tc .vmem, ⟨19, _⟩ => ⟨S8192x1, .f32⟩
  | .local .tc .vmem, ⟨20, _⟩ => ⟨S8x256, .i32⟩
  | .local .tc .vmem, ⟨21, _⟩ => ⟨S8x256, .i32⟩
  | .local .tc .vmem, ⟨22, _⟩ => ⟨S256x64, .f32⟩
  | .local .tc .vmem, ⟨23, _⟩ => ⟨S256x64, .f32⟩
  | .local .tc .vmem, ⟨24, _⟩ => ⟨S256x128, .f32⟩
  | .local .tc .vmem, ⟨25, _⟩ => ⟨S256x128, .f32⟩
  | .local .tc .vmem, ⟨26, _⟩ => ⟨S256x1, .i32⟩
  | .local .tc .vmem, ⟨27, _⟩ => ⟨S256x1, .i32⟩
  | .local .tc .vmem, ⟨28, _⟩ => ⟨S2x64x64, .f32⟩
  | .local .tc .vmem, ⟨29, _⟩ => ⟨S2x1x64, .f32⟩
  | .local .tc .vmem, ⟨30, _⟩ => ⟨S2x1x64, .f32⟩
  | .local .tc .vmem, ⟨31, _⟩ => ⟨S2x1x64, .f32⟩
  | .local .tc .vmem, ⟨32, _⟩ => ⟨S2x1x64, .f32⟩
  | .local .tc .vmem, ⟨33, _⟩ => ⟨S2x1x64, .f32⟩
  | .local .tc .vmem, ⟨34, _⟩ => ⟨S64x64, .f32⟩
  | .local .tc .vmem, ⟨35, _⟩ => ⟨S1x64, .f32⟩
  | .local .tc .vmem, ⟨36, _⟩ => ⟨S64x64, .f32⟩
  | .local .tc .vmem, ⟨37, _⟩ => ⟨S1x64, .f32⟩
  | .local .tc .vmem, ⟨38, _⟩ => ⟨S256x64, .f32⟩
  | .local .tc .vmem, ⟨39, _⟩ => ⟨S256x64, .f32⟩
  | .local .tc .vmem, ⟨40, _⟩ => ⟨S1x1, .f32⟩
  | .local .scVector .vmem, ⟨0, _⟩ => ⟨S512, .i32⟩
  | .local .scVector .vmem, ⟨1, _⟩ => ⟨S512x128, .f32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | ⟨24, _⟩ => false
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_1 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_3 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62_0 : Ref sig .tc := ⟨.hbm, 91, rfl⟩
abbrev main_v62_1 : Ref sig .tc := ⟨.hbm, 92, rfl⟩
abbrev main_v63 : Ref sig .tc := ⟨.hbm, 93, rfl⟩
abbrev main_cst_5 : Ref sig .tc := ⟨.hbm, 94, rfl⟩
abbrev main_v64 : Ref sig .tc := ⟨.hbm, 95, rfl⟩
abbrev main_v47_scv : Ref sig .scVector := ⟨.hbm, 75, rfl⟩
abbrev main_v50_scv : Ref sig .scVector := ⟨.hbm, 79, rfl⟩
abbrev main_v51_scv : Ref sig .scVector := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg8_0 : Ref sig .tc := ⟨.vmem, 33, rfl⟩
abbrev cc3_stg9_0 : Ref sig .tc := ⟨.vmem, 34, rfl⟩
abbrev cc3_stg10_0 : Ref sig .tc := ⟨.vmem, 35, rfl⟩
abbrev cc3_stg11_0 : Ref sig .tc := ⟨.vmem, 36, rfl⟩
abbrev cc3_stg12_0 : Ref sig .tc := ⟨.vmem, 37, rfl⟩
abbrev cc3_stg13_0 : Ref sig .tc := ⟨.vmem, 38, rfl⟩
abbrev cc3_stg13_1 : Ref sig .tc := ⟨.vmem, 39, rfl⟩
abbrev cc3_stg14_0 : Ref sig .tc := ⟨.vmem, 40, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem4_1 : DmaSem sig := 21
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem11_0 : DmaSem sig := 39
abbrev cc3_sem12_0 : DmaSem sig := 40
abbrev cc3_sem13_0 : DmaSem sig := 41
abbrev cc3_sem13_1 : DmaSem sig := 42
abbrev cc3_sem14_0 : DmaSem sig := 43
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x256 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_36_r0 : BitVec 32 := 0#32
  ![v1.toNat, 0]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v26 : BitVec 32 := Scalar.muli v1 c512_i32
  let c0_i32_36_r1 : BitVec 32 := 0#32
  ![v26.toNat, 0]
abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S2x64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2x1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2x1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S2x1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S2x1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S2x1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S64x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S64x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S256x64 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 1 → Memref sig .tc .vmem S1x1 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S2x64x64 : Shape := ⟨3, ![2, 64, 64]⟩
abbrev S2x64 : Shape := ⟨2, ![2, 64]⟩
abbrev S64x64 : Shape := ⟨2, ![64, 64]⟩
abbrev S64 : Shape := ⟨1, ![64]⟩
abbrev S8192x64 : Shape := ⟨2, ![8192, 64]⟩
abbrev S1x64x64 : Shape := ⟨3, ![1, 64, 64]⟩
abbrev S1x64 : Shape := ⟨2, ![1, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S8192x1 : Shape := ⟨2, ![8192, 1]⟩
abbrev S1x8192 : Shape := ⟨2, ![1, 8192]⟩
abbrev S16384x8192 : Shape := ⟨2, ![16384, 8192]⟩
abbrev S64x8192 : Shape := ⟨2, ![64, 8192]⟩
abbrev S1 : Shape := ⟨1, ![1]⟩
abbrev S1x1 : Shape := ⟨2, ![1, 1]⟩

abbrev nBuf : Space → Nat
  | .hbm => 263
  | .vmem => 0
  | .smem => 0
  | _ => 0

abbrev hbmTy0_0 (i : Nat) : BufTy := match i % 128 with
  | 0 => ⟨S16384x64, .f32⟩
  | 1 => ⟨S2x64x64, .f32⟩
  | 2 => ⟨S2x64, .f32⟩
  | 3 => ⟨S2x64, .f32⟩
  | 4 => ⟨S2x64, .f32⟩
  | 5 => ⟨S2x64, .f32⟩
  | 6 => ⟨S2x64, .f32⟩
  | 7 => ⟨S64x64, .f32⟩
  | 8 => ⟨S64, .f32⟩
  | 9 => ⟨S64x64, .f32⟩
  | 10 => ⟨S64, .f32⟩
  | 11 => ⟨S2x64x64, .f32⟩
  | 12 => ⟨S2x64, .f32⟩
  | 13 => ⟨S2x64, .f32⟩
  | 14 => ⟨S2x64, .f32⟩
  | 15 => ⟨S2x64, .f32⟩
  | 16 => ⟨S2x64, .f32⟩
  | 17 => ⟨S64x64, .f32⟩
  | 18 => ⟨S64, .f32⟩
  | 19 => ⟨S64x64, .f32⟩
  | 20 => ⟨S64, .f32⟩
  | 21 => ⟨S8192x64, .f32⟩
  | 22 => ⟨S1x64x64, .f32⟩
  | 23 => ⟨S64x64, .f32⟩
  | 24 => ⟨S64x64, .f32⟩
  | 25 => ⟨S16384x64, .f32⟩
  | 26 => ⟨S1x64, .f32⟩
  | 27 => ⟨S64, .f32⟩
  | 28 => ⟨S1x64, .f32⟩
  | 29 => ⟨S16384x64, .f32⟩
  | 30 => ⟨S16384x64, .f32⟩
  | 31 => ⟨S1x64, .f32⟩
  | 32 => ⟨S64, .f32⟩
  | 33 => ⟨S1x64, .f32⟩
  | 34 => ⟨S64, .f32⟩
  | 35 => ⟨S1x64, .f32⟩
  | 36 => ⟨S64, .f32⟩
  | 37 => ⟨S1x64, .f32⟩
  | 38 => ⟨S64, .f32⟩
  | 39 => ⟨S1x64, .f32⟩
  | 40 => ⟨S16384x64, .f32⟩
  | 41 => ⟨S16384x64, .f32⟩
  | 42 => ⟨S1x64, .f32⟩
  | 43 => ⟨S16384x64, .f32⟩
  | 44 => ⟨S16384x64, .f32⟩
  | 45 => ⟨S_, .f32⟩
  | 46 => ⟨S64, .f32⟩
  | 47 => ⟨S64, .f32⟩
  | 48 => ⟨S64, .f32⟩
  | 49 => ⟨S1x64, .f32⟩
  | 50 => ⟨S16384x64, .f32⟩
  | 51 => ⟨S16384x64, .f32⟩
  | 52 => ⟨S1x64, .f32⟩
  | 53 => ⟨S16384x64, .f32⟩
  | 54 => ⟨S16384x64, .f32⟩
  | 55 => ⟨S_, .f32⟩
  | 56 => ⟨S16384x64, .f32⟩
  | 57 => ⟨S16384x64, .f32⟩
  | 58 => ⟨S1x64x64, .f32⟩
  | 59 => ⟨S64x64, .f32⟩
  | 60 => ⟨S64x64, .f32⟩
  | 61 => ⟨S16384x64, .f32⟩
  | 62 => ⟨S1x64, .f32⟩
  | 63 => ⟨S64, .f32⟩
  | 64 => ⟨S1x64, .f32⟩
  | 65 => ⟨S16384x64, .f32⟩
  | 66 => ⟨S16384x64, .f32⟩
  | 67 => ⟨S1x64, .f32⟩
  | 68 => ⟨S64, .f32⟩
  | 69 => ⟨S1x64, .f32⟩
  | 70 => ⟨S64, .f32⟩
  | 71 => ⟨S1x64, .f32⟩
  | 72 => ⟨S64, .f32⟩
  | 73 => ⟨S1x64, .f32⟩
  | 74 => ⟨S64, .f32⟩
  | 75 => ⟨S1x64, .f32⟩
  | 76 => ⟨S16384x64, .f32⟩
  | 77 => ⟨S16384x64, .f32⟩
  | 78 => ⟨S1x64, .f32⟩
  | 79 => ⟨S16384x64, .f32⟩
  | 80 => ⟨S16384x64, .f32⟩
  | 81 => ⟨S_, .f32⟩
  | 82 => ⟨S64, .f32⟩
  | 83 => ⟨S64, .f32⟩
  | 84 => ⟨S64, .f32⟩
  | 85 => ⟨S1x64, .f32⟩
  | 86 => ⟨S16384x64, .f32⟩
  | 87 => ⟨S16384x64, .f32⟩
  | 88 => ⟨S1x64, .f32⟩
  | 89 => ⟨S16384x64, .f32⟩
  | 90 => ⟨S16384x64, .f32⟩
  | 91 => ⟨S_, .f32⟩
  | 92 => ⟨S16384x64, .f32⟩
  | 93 => ⟨S16384x64, .f32⟩
  | 94 => ⟨S64x64, .f32⟩
  | 95 => ⟨S16384x64, .f32⟩
  | 96 => ⟨S1x64, .f32⟩
  | 97 => ⟨S16384x64, .f32⟩
  | 98 => ⟨S16384x64, .f32⟩
  | 99 => ⟨S16384x64, .f32⟩
  | 100 => ⟨S64x64, .f32⟩
  | 101 => ⟨S16384x64, .f32⟩
  | 102 => ⟨S1x64, .f32⟩
  | 103 => ⟨S16384x64, .f32⟩
  | 104 => ⟨S16384x64, .f32⟩
  | 105 => ⟨S16384x64, .f32⟩
  | 106 => ⟨S_, .f32⟩
  | 107 => ⟨S16384, .f32⟩
  | 108 => ⟨S16384x1, .f32⟩
  | 109 => ⟨S16384x1, .f32⟩
  | 110 => ⟨S_, .f32⟩
  | 111 => ⟨S16384x1, .f32⟩
  | 112 => ⟨S16384x1, .f32⟩
  | 113 => ⟨S16384x64, .f32⟩
  | 114 => ⟨S16384x64, .f32⟩
  | 115 => ⟨S8192x64, .f32⟩
  | 116 => ⟨S_, .f32⟩
  | 117 => ⟨S8192, .f32⟩
  | 118 => ⟨S8192x1, .f32⟩
  | 119 => ⟨S8192x1, .f32⟩
  | 120 => ⟨S_, .f32⟩
  | 121 => ⟨S8192x1, .f32⟩
  | 122 => ⟨S8192x1, .f32⟩
  | 123 => ⟨S8192x64, .f32⟩
  | 124 => ⟨S8192x64, .f32⟩
  | 125 => ⟨S16384x64, .f32⟩
  | 126 => ⟨S_, .f32⟩
  | 127 => ⟨S16384, .f32⟩
  | _ => ⟨S16384x64, .f32⟩

abbrev hbmTy0_1 (i : Nat) : BufTy := match i % 128 with
  | 0 => ⟨S16384x1, .f32⟩
  | 1 => ⟨S8192x64, .f32⟩
  | 2 => ⟨S_, .f32⟩
  | 3 => ⟨S8192, .f32⟩
  | 4 => ⟨S1x8192, .f32⟩
  | 5 => ⟨S16384x8192, .f32⟩
  | 6 => ⟨S16384x8192, .f32⟩
  | 7 => ⟨S16384x8192, .f32⟩
  | 8 => ⟨S_, .f32⟩
  | 9 => ⟨S16384x64, .f32⟩
  | 10 => ⟨S16384x64, .f32⟩
  | 11 => ⟨S64x8192, .f32⟩
  | 12 => ⟨S16384x8192, .f32⟩
  | 13 => ⟨S16384x8192, .f32⟩
  | 14 => ⟨S16384x8192, .i32⟩
  | 15 => ⟨S_, .f32⟩
  | 16 => ⟨S_, .i32⟩
  | 17 => ⟨S16384, .f32⟩
  | 18 => ⟨S16384, .i32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S1, .i32⟩
  | 28 => ⟨S_, .i32⟩
  | 29 => ⟨S16384x1, .i32⟩
  | 30 => ⟨S16384x1, .i1⟩
  | 31 => ⟨S1x1, .i32⟩
  | 32 => ⟨S16384x1, .i32⟩
  | 33 => ⟨S16384x1, .i1⟩
  | 34 => ⟨S16384x1, .i1⟩
  | 35 => ⟨S_, .i1⟩
  | 36 => ⟨S16384, .i1⟩
  | 37 => ⟨S16384x64, .f32⟩
  | 38 => ⟨S16384x64, .i1⟩
  | 39 => ⟨S_, .f32⟩
  | 40 => ⟨S16384x64, .f32⟩
  | 41 => ⟨S16384x64, .f32⟩
  | 42 => ⟨S16384x64, .f32⟩
  | 43 => ⟨S16384x64, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S16384x64, .f32⟩
  | 51 => ⟨S16384x64, .f32⟩
  | 52 => ⟨S1x64x64, .f32⟩
  | 53 => ⟨S64x64, .f32⟩
  | 54 => ⟨S64x64, .f32⟩
  | 55 => ⟨S16384x64, .f32⟩
  | 56 => ⟨S1x64, .f32⟩
  | 57 => ⟨S64, .f32⟩
  | 58 => ⟨S1x64, .f32⟩
  | 59 => ⟨S16384x64, .f32⟩
  | 60 => ⟨S16384x64, .f32⟩
  | 61 => ⟨S1x64, .f32⟩
  | 62 => ⟨S64, .f32⟩
  | 63 => ⟨S1x64, .f32⟩
  | 64 => ⟨S64, .f32⟩
  | 65 => ⟨S1x64, .f32⟩
  | 66 => ⟨S64, .f32⟩
  | 67 => ⟨S1x64, .f32⟩
  | 68 => ⟨S64, .f32⟩
  | 69 => ⟨S1x64, .f32⟩
  | 70 => ⟨S16384x64, .f32⟩
  | 71 => ⟨S16384x64, .f32⟩
  | 72 => ⟨S1x64, .f32⟩
  | 73 => ⟨S16384x64, .f32⟩
  | 74 => ⟨S16384x64, .f32⟩
  | 75 => ⟨S_, .f32⟩
  | 76 => ⟨S64, .f32⟩
  | 77 => ⟨S64, .f32⟩
  | 78 => ⟨S64, .f32⟩
  | 79 => ⟨S1x64, .f32⟩
  | 80 => ⟨S16384x64, .f32⟩
  | 81 => ⟨S16384x64, .f32⟩
  | 82 => ⟨S1x64, .f32⟩
  | 83 => ⟨S16384x64, .f32⟩
  | 84 => ⟨S16384x64, .f32⟩
  | 85 => ⟨S_, .f32⟩
  | 86 => ⟨S16384x64, .f32⟩
  | 87 => ⟨S16384x64, .f32⟩
  | 88 => ⟨S1x64x64, .f32⟩
  | 89 => ⟨S64x64, .f32⟩
  | 90 => ⟨S64x64, .f32⟩
  | 91 => ⟨S16384x64, .f32⟩
  | 92 => ⟨S1x64, .f32⟩
  | 93 => ⟨S64, .f32⟩
  | 94 => ⟨S1x64, .f32⟩
  | 95 => ⟨S16384x64, .f32⟩
  | 96 => ⟨S16384x64, .f32⟩
  | 97 => ⟨S1x64, .f32⟩
  | 98 => ⟨S64, .f32⟩
  | 99 => ⟨S1x64, .f32⟩
  | 100 => ⟨S64, .f32⟩
  | 101 => ⟨S1x64, .f32⟩
  | 102 => ⟨S64, .f32⟩
  | 103 => ⟨S1x64, .f32⟩
  | 104 => ⟨S64, .f32⟩
  | 105 => ⟨S1x64, .f32⟩
  | 106 => ⟨S16384x64, .f32⟩
  | 107 => ⟨S16384x64, .f32⟩
  | 108 => ⟨S1x64, .f32⟩
  | 109 => ⟨S16384x64, .f32⟩
  | 110 => ⟨S16384x64, .f32⟩
  | 111 => ⟨S_, .f32⟩
  | 112 => ⟨S64, .f32⟩
  | 113 => ⟨S64, .f32⟩
  | 114 => ⟨S64, .f32⟩
  | 115 => ⟨S1x64, .f32⟩
  | 116 => ⟨S16384x64, .f32⟩
  | 117 => ⟨S16384x64, .f32⟩
  | 118 => ⟨S1x64, .f32⟩
  | 119 => ⟨S16384x64, .f32⟩
  | 120 => ⟨S16384x64, .f32⟩
  | 121 => ⟨S_, .f32⟩
  | 122 => ⟨S16384x64, .f32⟩
  | 123 => ⟨S16384x64, .f32⟩
  | 124 => ⟨S64x64, .f32⟩
  | 125 => ⟨S16384x64, .f32⟩
  | 126 => ⟨S1x64, .f32⟩
  | 127 => ⟨S16384x64, .f32⟩
  | _ => ⟨S16384x64, .f32⟩

abbrev hbmTy0_2 (i : Nat) : BufTy := match i % 128 with
  | 0 => ⟨S16384x64, .f32⟩
  | 1 => ⟨S16384x64, .f32⟩
  | 2 => ⟨S64x64, .f32⟩
  | 3 => ⟨S16384x64, .f32⟩
  | 4 => ⟨S1x64, .f32⟩
  | 5 => ⟨S16384x64, .f32⟩
  | 6 => ⟨S16384x64, .f32⟩
  | _ => ⟨S16384x64, .f32⟩

abbrev hbmTy (i : Nat) : BufTy := match i / 128 with
  | 0 => hbmTy0_0 i
  | 1 => hbmTy0_1 i
  | 2 => hbmTy0_2 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call0_cst : Ref sig .tc := ⟨.hbm, 55, rfl⟩
abbrev main_call0_v0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_0 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call1_cst : Ref sig .tc := ⟨.hbm, 91, rfl⟩
abbrev main_call1_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_call2_v0 : Ref sig .tc := ⟨.hbm, 105, rfl⟩
abbrev main_call2_cst : Ref sig .tc := ⟨.hbm, 106, rfl⟩
abbrev main_call2_v1 : Ref sig .tc := ⟨.hbm, 107, rfl⟩
abbrev main_call2_v2 : Ref sig .tc := ⟨.hbm, 108, rfl⟩
abbrev main_v77 : Ref sig .tc := ⟨.hbm, 109, rfl⟩
abbrev main_cst_1 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_call3_v0 : Ref sig .tc := ⟨.hbm, 115, rfl⟩
abbrev main_call3_cst : Ref sig .tc := ⟨.hbm, 116, rfl⟩
abbrev main_call3_v1 : Ref sig .tc := ⟨.hbm, 117, rfl⟩
abbrev main_call3_v2 : Ref sig .tc := ⟨.hbm, 118, rfl⟩
abbrev main_v82 : Ref sig .tc := ⟨.hbm, 119, rfl⟩
abbrev main_cst_2 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_3 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_4 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_5 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call4_v0 : Ref sig .tc := ⟨.hbm, 142, rfl⟩
abbrev main_call4_cst : Ref sig .tc := ⟨.hbm, 143, rfl⟩
abbrev main_call4_c : Ref sig .tc := ⟨.hbm, 144, rfl⟩
abbrev main_call4_v1_0 : Ref sig .tc := ⟨.hbm, 145, rfl⟩
abbrev main_v101 : Ref sig .tc := ⟨.hbm, 146, rfl⟩
abbrev main_call5_c : Ref sig .tc := ⟨.hbm, 147, rfl⟩
abbrev main_call5_v0 : Ref sig .tc := ⟨.hbm, 148, rfl⟩
abbrev main_call5_v1 : Ref sig .tc := ⟨.hbm, 149, rfl⟩
abbrev main_call5_c_0 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_c_1 : Ref sig .tc := ⟨.hbm, 155, rfl⟩
abbrev main_call5_c_2 : Ref sig .tc := ⟨.hbm, 156, rfl⟩
abbrev main_call5_v6 : Ref sig .tc := ⟨.hbm, 157, rfl⟩
abbrev main_call5_v7 : Ref sig .tc := ⟨.hbm, 158, rfl⟩
abbrev main_call5_v8 : Ref sig .tc := ⟨.hbm, 159, rfl⟩
abbrev main_call5_v9 : Ref sig .tc := ⟨.hbm, 160, rfl⟩
abbrev main_call5_v10 : Ref sig .tc := ⟨.hbm, 161, rfl⟩
abbrev main_call5_v11 : Ref sig .tc := ⟨.hbm, 162, rfl⟩
abbrev main_call5_c_3 : Ref sig .tc := ⟨.hbm, 163, rfl⟩
abbrev main_call5_v12 : Ref sig .tc := ⟨.hbm, 164, rfl⟩
abbrev main_call5_v13 : Ref sig .tc := ⟨.hbm, 165, rfl⟩
abbrev main_call5_v14 : Ref sig .tc := ⟨.hbm, 166, rfl⟩
abbrev main_call5_cst : Ref sig .tc := ⟨.hbm, 167, rfl⟩
abbrev main_call5_v15 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_cst_6 : Ref sig .tc := ⟨.hbm, 172, rfl⟩
abbrev main_v105 : Ref sig .tc := ⟨.hbm, 173, rfl⟩
abbrev main_cst_7 : Ref sig .tc := ⟨.hbm, 174, rfl⟩
abbrev main_v106 : Ref sig .tc := ⟨.hbm, 175, rfl⟩
abbrev main_cst_8 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_cst_9 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_call6_cst : Ref sig .tc := ⟨.hbm, 213, rfl⟩
abbrev main_call6_v0 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_cst_10 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_call7_cst : Ref sig .tc := ⟨.hbm, 249, rfl⟩
abbrev main_call7_v0 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩

abbrev nD : Nat := 1
abbrev τ : Topo := Topo.v7x

variable {F : FTy → Type} [FloatOps F]
-- ==== Proof.GatherBatch.lean ====
/-
  Several indirect gathers in flight on ONE semaphore. A gather is served row by row, and each row is a copy of its own that
  pays one row's credit, so a run of gathers on one cell is one counted batch whose members are the ROWS of all of them. This
  module issues a gather as the next rows of such a batch (`wp_gatherRows`) and puts the rows of one gather together again once
  the batch has been drained (`rowsDone_join`).
-/
module

public import Idealize.ShloMosaic.Lib.SparseCore.Stream
public import Idealize.ShloMosaic.Lib.Batch

@[expose] public section

noncomputable section

namespace Cert.Proof.GatherBatch

open Idealize.ShloMosaic Idealize.ShloMosaic.Transfers Idealize.ShloMosaic.SparseCore
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- Members `j, …, j + o - 1` of a batch, split off those still to be issued. -/
theorem pending_block {n : ℕ} (Φ : Fin n → sProp 𝕄) (j : ℕ) :
    ∀ (o : ℕ) (h : j + o ≤ n), bigSep (pending j) Φ
      = iprop(bigSep Finset.univ (fun t : Fin o => Φ ⟨j + t.val, by omega⟩) ∗ bigSep (pending (j + o)) Φ) := by
  intro o h
  let e : Fin o ↪ Fin n := ⟨fun t => ⟨j + t.val, by omega⟩, fun a b hab => Fin.ext (by have := congrArg Fin.val hab; simp only at this; omega)⟩
  have hs : pending (n := n) j = Finset.univ.map e ∪ pending (j + o) := by
    ext t
    simp only [pending, Finset.mem_filter, Finset.mem_univ, true_and, Finset.mem_union, Finset.mem_map]
    constructor
    · intro ht
      by_cases hlt : j + o ≤ t.val
      · exact Or.inr hlt
      · exact Or.inl ⟨⟨t.val - j, by omega⟩, Fin.ext (by change j + (t.val - j) = t.val; omega)⟩
    · rintro (⟨a, ha⟩ | ht)
      · rw [← ha]; exact Nat.le_add_right _ _
      · omega
  have hd : Disjoint (Finset.univ.map e) (pending (n := n) (j + o)) := by
    rw [Finset.disjoint_left]
    intro t ht ht'
    obtain ⟨a, -, rfl⟩ := Finset.mem_map.mp ht
    have h1 : j + o ≤ j + a.val := (Finset.mem_filter.mp ht').2
    have := a.isLt
    omega
  rw [hs, bigSep_union hd, bigSep_map]
  rfl

/-- Past the last member nothing is left. -/
theorem pending_none {n : ℕ} (Φ : Fin n → sProp 𝕄) {j : ℕ} (h : n ≤ j) : bigSep (pending j) Φ = (BI.emp : sProp 𝕄) := by
  have : pending (n := n) j = ∅ := by
    ext t; simp only [pending, Finset.mem_filter, Finset.mem_univ, true_and, Finset.notMem_empty, iff_false]; have := t.isLt; omega
  rw [this, bigSep_empty]

variable [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- The `k`-th entry of an offset list, in row-major order. -/
def entryAt {o : ℕ} (hn : si.numel = o) (k : Fin o) : si.Idx := si.rowMajor.symm (k.cast hn.symm)

/-- The numbering of a list's entries meets each entry once. -/
theorem entryAt_bij {o : ℕ} (hn : si.numel = o) : Function.Bijective (entryAt (si := si) hn) :=
  si.rowMajor.symm.bijective.comp (finCongr hn.symm).bijective

/-- What row `j` of a gather is written with: the row of the source that entry `j` of the list names. -/
def rowVal (hg : s₀.Gathers a s) (g : s₀.Idx → Elt F e) (r : Fin (s.size hg.axis') → Fin (s₀.size hg.axis)) (j : Fin (s.size hg.axis')) :
    (s.rowShape hg.axis').Idx → Elt F e := fun i => g (hg.rowIdx (r j) i)

/-- What row `j` of a gather leaves behind once it has landed: the row of the destination holding the row of the source that
    entry `j` of the list names, the share of that entry, and the row's piece of the source's share. -/
def rowDone (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
            ((dst.view.slice (s.rowRect hg.axis' j)).write (Elt F) fd
              (rowVal hg (src.view.read (Elt F) fs) (rows (offs.view.read (Elt F) fo) hn hin) j) Finset.univ))
        ∗ (offs.view.loc c ↦[{offs.view.emb (entryAt hn j)}]{qo} fo))
      ∗ (src.view.loc c ↦[src.view.set]{pieceOf q _ ho j} fs))

omit [Preorder Lvl] in
theorem rowDone_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowDone (F := F) c src dst hg offs hn ho q qo fs fd fo hin j) := by
  unfold rowDone; infer_instance

omit [Preorder Lvl] in
/-- All rows landed: the destination holds what the gather reads, and both shares are whole again. -/
theorem rowsDone_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (rowDone (F := F) c src dst hg offs hn ho q qo fs fd fo hin)
      ⊢ (iprop((dst.view.loc c ↦[dst.view.set]{fullShare}
              (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) : sProp 𝕄) := by
  unfold rowDone
  have hW : ∀ j i, rowVal hg (src.view.read (Elt F) fs) (rows (offs.view.read (Elt F) fo) hn hin) j i
      = gatherPayload hg (src.view.read (Elt F) fs) (rows (offs.view.read (Elt F) fo) hn hin) ((s.rowRect hg.axis' j).emb i) := fun j i => by
    unfold gatherPayload rowVal; rw [Shape.Gathers.idx_rowRect_emb]
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]
  · iapply (pointsTo_rows_write c dst.view hg.axis' fd _ _ hW) $$ Hrows
  isplitl [Hsrc]; · iapply (Entails.of_eq (pointsTo_piecesOf (src.view.set) fs ho q).symm) $$ Hsrc
  iapply (Entails.of_eq (pointsTo_entries c offs.view (entryAt hn) (entryAt_bij hn) qo fo).symm) $$ Hoffs

/-- A gather issued as members `j, …` of a batch, every row paying the batch's `N`: the tile hands in a share of the source, the
    destination outright and a share of the list, whose words are all rows of the source, and goes on with the batch that many
    members further. -/
theorem wp_gatherRows [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n : ℕ} {D : Fin n → sProp 𝕄} {j j' u : ℕ} (hj : j + s.size hg.axis' = j') (hjn : j' ≤ n) (hu : u ≤ j * N)
    (hD : ∀ t : Fin (s.size hg.axis'), rowDone c src dst hg offs hn ho q qo fs fd fo hin t ⊢ D ⟨j + t.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D j' u -∗ wp frame (wpE defs 𝒱 c bd) Set.univ (k ⟨⟩) Q)
          -∗ wp frame (wpE defs 𝒱 c bd) Set.univ (enqueueIndirectGather hp src dst hg offs hn sem hsrc he hsp hr >>= k) Q) := by
  subst hj
  rw [enqueueIndirectGather_bind]
  let st : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem :=
    fun t => gatherRow c src dst hg sem hsrc he hsp hr t (rows (offs.view.read (Elt F) fo) hn hin t)
  have hA : st.RowsAgree := by
    intro t x x' ρ ρ' h h'
    obtain ⟨_, _, rfl⟩ := Option.map_eq_some_iff.mp h
    obtain ⟨_, _, rfl⟩ := Option.map_eq_some_iff.mp h'
    rfl
  have hrd : ∀ t, st.row t (st.word fo t) = some (rd t) := fun t => by
    change (rowOf (s₀.size hg.axis) (offs.view.read (Elt F) fo (st.entry t))).map _ = _
    rw [rowOf_of_lt (hin _)]; rfl
  have hsum : ∑ t, (rd t).dst.view.dmaCredit = s.size hg.axis' * N := by
    rw [Finset.sum_congr rfl (fun t _ => show (rd t).dst.view.dmaCredit = N from hN t), Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_block (fun t => count EC (γ t) 0) j (s.size hg.axis') hjn)) $$ HI
  icases HI' with ⟨Hγ, HI⟩
  ihave Hd' := (Entails.of_eq (pointsTo_rows c dst.view hg.axis' fullShare fd)) $$ Hd
  ihave Ho' := (Entails.of_eq (pointsTo_entries c offs.view (entryAt hn) (entryAt_bij hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ t : Fin (s.size hg.axis'), iprop(inv κ (batchBody EC (c, SemLoc.dma sem) N D γ γ₀)
          ∗ ((((dst.view.loc c ↦[(dst.view.slice (s.rowRect hg.axis' t)).set]{fullShare} fd) ∗ (offs.view.loc c ↦[{offs.view.emb (entryAt hn t)}]{qo} fo))
          ∗ (src.view.loc c ↦[src.view.set]{pieceOf q _ ho t} fs)) ∗ count EC (γ ⟨j + t.val, by omega⟩) 0))
        ⊢ iprop(st.heldEntry qo fo t ∗ (st.heldEntry qo fo t -∗ rowRes c (rd t))) := fun t => by
      iintro ⟨#Hinv, ⟨⟨Hr, He⟩, Hsq⟩, Hγt⟩
      isplitl [He]; · iexact He
      iintro He
      unfold rowRes
      iexists pieceOf q _ ho t, fs, iprop((dst.view.loc c ↦[(dst.view.slice (s.rowRect hg.axis' t)).set]{fullShare}
        ((dst.view.slice (s.rowRect hg.axis' t)).write (Elt F) fd
          (rowVal hg (src.view.read (Elt F) fs) (rows (offs.view.read (Elt F) fo) hn hin) t) Finset.univ)) ∗ st.heldEntry qo fo t)
      isplitl [Hsq]; · iexact Hsq
      isplitl [Hr He]
      · iapply writeUpdate_frame
        isplitl [Hr]
        · iapply (pointsTo_writeUpdate c (v := dst.view.slice (s.rowRect hg.axis' t)) subset_rfl) $$ Hr
        · iexact He
      · rw [show (rd t).dst.view.amount (SemLoc.dma sem) = N from hN t]
        iapply (batch_creditUpdate EC ⟨j + t.val, by omega⟩ (hD t))
        isplitr; · iexact Hinv
        iexact Hγt
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun t _ => hrow t)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Proof.GatherBatch
-- ==== Proof.Setup.lean ====
/-
  What every module of the run shares: the program as the SparseCore launch sees it, the ghost state of the proof, and the
  shapes in which the gather's operands are cut among the thirty-two tiles.
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof.Run

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

/-- The labels of the pipelines under the SparseCore dispatch. -/
abbrev LP : Labels := Pipeline.Sig Λ₀ (Fin 3) fun p => (pcfgs (F := F) p).Adm
/-- The SparseCore calls. -/
abbrev K : SparseCore.Cfg τ sig (LP (F := F)) 1 := sc (F := F)
/-- The bodies the dispatch runs on top of. -/
abbrev D [FloatOps F] : Defs nD τ sig (Elt F) (LP (F := F)) := Pipeline.defs pcfgs defs₀
abbrev 𝒱₀ : Variants := Variants.none
abbrev 𝒱 : Variants := 𝒱₀.lift
abbrev v₀ : 𝒱.V := Sum.inl none

theorem nCore_eq : (K (F := F)).nCore 0 = 2 := rfl
theorem nSub_eq : (K (F := F)).nSub 0 = 16 := rfl

/-- The launch semaphores are where the launch asks them to be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the copies' counters -/

abbrev UH : Type := URounds (GSem nD τ sig) ℕ
abbrev UG : Type := UR sig nD τ × Counters
abbrev UU : Type := UH × UG

local notation "𝕄" => MT nD τ sig (HIx 1) (Elt F) ℕ UU ℕ

/-- The handshakes' share of it. -/
abbrev EH : Emb UH (MT nD τ sig (HIx 1) (Elt F) ℕ UU ℕ) := embL
/-- The pipelines' share of it. -/
def EP : Emb (UR sig nD τ) (MT nD τ sig (HIx 1) (Elt F) ℕ UU ℕ) := (Emb.inl : Emb (UR sig nD τ) UG).trans embR

instance EP_lands : (EP (F := F)).LandsIn (upEmb : UEmb _ 𝕄) := by unfold EP embR; infer_instance

/-- The element of it the launch starts from. -/
def u₀ : UU := (initOf (K (F := F)).hsCells (K (F := F)).hsToks, (initOf (Pipeline.cells cfgs cellOf_inj) (Pipeline.launchToks cfgs cellOf_inj), 1))

end Cert.Proof.Run
-- ==== Proof.Host.lean ====
/-
  The host operations of the program, stretch by stretch between the four calls: what each stretch writes, and the program as
  the stretches and the calls in order.
-/
module

public import proofs.«01_k».proof.Proof.Setup

@[expose] public section

noncomputable section

namespace Cert.Proof.Run

open Cert.KernelIdeal Cert.KernelIdeal.Gen
open Idealize.ShloMosaic Idealize.ShloMosaic.TcCoe
open Idealize.SL Idealize.SL.RA Idealize.SL.BI
open Idealize.SL.ProofMode Idealize.SL.Sem

variable {F : FTy → Type} [FloatOps F]

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- The operations before the first call: the weights transposed and reshaped. -/
abbrev opsA : List (HloOp τ sig (Elt F)) :=
  [ StableHlo.unary main_arg1 main_v0 ((transpose S2x64x64 [0, 2, 1] · transposes_S2x64x64_S2x64x64_0_2_1) : (⟨S2x64x64, .f32⟩ : BufTy).Contents (Elt F) → (⟨S2x64x64, .f32⟩ : BufTy).Contents (Elt F)),
    StableHlo.reshape main_arg2 main_v1 (rfl : (.f32 : EltTy) = .f32) shapeCasts_S2x64_S2x1x64,
    StableHlo.reshape main_arg3 main_v2 (rfl : (.f32 : EltTy) = .f32) shapeCasts_S2x64_S2x1x64,
    StableHlo.reshape main_arg4 main_v3 (rfl : (.f32 : EltTy) = .f32) shapeCasts_S2x64_S2x1x64,
    StableHlo.reshape main_arg5 main_v4 (rfl : (.f32 : EltTy) = .f32) shapeCasts_S2x64_S2x1x64,
    StableHlo.reshape main_arg6 main_v5 (rfl : (.f32 : EltTy) = .f32) shapeCasts_S2x64_S2x1x64,
    StableHlo.unary main_arg7 main_v6 ((transpose S64x64 [1, 0] · transposes_S64x64_S64x64_1_0) : (⟨S64x64, .f32⟩ : BufTy).Contents (Elt F) → (⟨S64x64, .f32⟩ : BufTy).Contents (Elt F)),
    StableHlo.reshape main_arg8 main_v7 (rfl : (.f32 : EltTy) = .f32) shapeCasts_S64_S1x64,
    StableHlo.unary main_arg9 main_v8 ((transpose S64x64 [1, 0] · transposes_S64x64_S64x64_1_0) : (⟨S64x64, .f32⟩ : BufTy).Contents (Elt F) → (⟨S64x64, .f32⟩ : BufTy).Contents (Elt F)),
    StableHlo.reshape main_arg10 main_v9 (rfl : (.f32 : EltTy) = .f32) shapeCasts_S64_S1x64 ]

theorem opsA_sub : (opsA : List (HloOp τ sig (Elt F))).Forall fun op => op.bufs ⊆ StableHlo.tcRefs τ sig :=
  ⟨StableHlo.unary_bufs_sub .., StableHlo.reshape_bufs_sub .., StableHlo.reshape_bufs_sub .., StableHlo.reshape_bufs_sub .., StableHlo.reshape_bufs_sub .., StableHlo.reshape_bufs_sub .., StableHlo.unary_bufs_sub .., StableHlo.reshape_bufs_sub .., StableHlo.unary_bufs_sub .., StableHlo.reshape_bufs_sub ..⟩

theorem opsA_fresh : (opsA : List (HloOp τ sig (Elt F))).Forall fun op => op.fresh = ∅ := by
  simp only [List.Forall]; repeat' constructor

/-- What they write, in order. -/
abbrev outsA : List (Ref sig .tc) := [main_v0, main_v1, main_v2, main_v3, main_v4, main_v5, main_v6, main_v7, main_v8, main_v9]

theorem opsA_writes : (opsA : List (HloOp τ sig (Elt F))).Forall fun op => op.writes ⊆ (outsA.map (Proc.devRef (τ := τ) .tc)).toFinset :=
  StableHlo.forall_writes_sub_of_map rfl

theorem args_outsA : ∀ a ∈ argRefs, a ∉ outsA := ListAll.forall_mem_of_all_decide (by decide +kernel)

/-- The operations between the first call and the second: the rows and the codebook normalised, the squared norms, the transposes. -/
abbrev opsB : List (HloOp τ sig (Elt F)) :=
  [ StableHlo.binary main_v10 main_v10 main_v11 (mulf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x00000000#32),
    StableHlo.binary main_v11 main_cst main_v12 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v12 main_v13 (broadcastInDim S16384x1 ![0] bcast_S16384_S16384x1_0 : (⟨S16384, .f32⟩ : BufTy).Contents (Elt F) → (⟨S16384x1, .f32⟩ : BufTy).Contents (Elt F)),
    StableHlo.unary main_v13 main_v14 (Host.sqrt : (⟨S16384x1, .f32⟩ : BufTy).Contents (Elt F) → (⟨S16384x1, .f32⟩ : BufTy).Contents (Elt F)),
    StableHlo.nullary main_cst_0 (constant S_ .f32 0x2B8CBCCC#32),
    StableHlo.unary main_cst_0 main_v15 (broadcastInDim S16384x1 ![] bcast_S_S16384x1 : (⟨S_, .f32⟩ : BufTy).Contents (Elt F) → (⟨S16384x1, .f32⟩ : BufTy).Contents (Elt F)),
    StableHlo.binary main_v14 main_v15 main_v16 (maximumf : (⟨S16384x1, .f32⟩ : BufTy).Contents (Elt F) → (⟨S16384x1, .f32⟩ : BufTy).Contents (Elt F) → (⟨S16384x1, .f32⟩ : BufTy).Contents (Elt F)),
    StableHlo.unary main_v16 main_v17 (broadcastInDim S16384x64 ![0, 1] bcast_S16384x1_S16384x64_0_1 : (⟨S16384x1, .f32⟩ : BufTy).Contents (Elt F) → (⟨S16384x64, .f32⟩ : BufTy).Contents (Elt F)),
    StableHlo.binary main_v10 main_v17 main_v18 (Host.divf : (⟨S16384x64, .f32⟩ : BufTy).Contents (Elt F) → (⟨S16384x64, .f32⟩ : BufTy).Contents (Elt F) → (⟨S16384x64, .f32⟩ : BufTy).Contents (Elt F)),
    StableHlo.unary main_v18 main_v19 (id : (⟨S16384x64, .f32⟩ : BufTy).Contents (Elt F) → (⟨S16384x64, .f32⟩ : BufTy).Contents (Elt F)),
    StableHlo.binary main_v19 main_v19 main_v20 (mulf : (⟨S16384x64, .f32⟩ : BufTy).Contents (Elt F) → (⟨S16384x64, .f32⟩ : BufTy).Contents (Elt F) → (⟨S16384x64, .f32⟩ : BufTy).Contents (Elt F)),
    StableHlo.nullary main_cst_1 (constant S_ .f32 0x00000000#32),
    StableHlo.binary main_v20 main_cst_1 main_v21 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v21 main_v22 (broadcastInDim S16384x1 ![0] bcast_S16384_S16384x1_0 : (⟨S16384, .f32⟩ : BufTy).Contents (Elt F) → (⟨S16384x1, .f32⟩ : BufTy).Contents (Elt F)),
    StableHlo.unary main_v22 main_v23 (id : (⟨S16384x1, .f32⟩ : BufTy).Contents (Elt F) → (⟨S16384x1, .f32⟩ : BufTy).Contents (Elt F)),
    StableHlo.binary main_arg21 main_arg21 main_v24 (mulf : (⟨S8192x64, .f32⟩ : BufTy).Contents (Elt F) → (⟨S8192x64, .f32⟩ : BufTy).Contents (Elt F) → (⟨S8192x64, .f32⟩ : BufTy).Contents (Elt F)),
    StableHlo.nullary main_cst_2 (constant S_ .f32 0x00000000#32),
    StableHlo.binary main_v24 main_cst_2 main_v25 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v25 main_v26 (broadcastInDim S8192x1 ![0] bcast_S8192_S8192x1_0 : (⟨S8192, .f32⟩ : BufTy).Contents (Elt F) → (⟨S8192x1, .f32⟩ : BufTy).Contents (Elt F)),
    StableHlo.unary main_v26 main_v27 (Host.sqrt : (⟨S8192x1, .f32⟩ : BufTy).Contents (Elt F) → (⟨S8192x1, .f32⟩ : BufTy).Contents (Elt F)),
    StableHlo.nullary main_cst_3 (constant S_ .f32 0x2B8CBCCC#32),
    StableHlo.unary main_cst_3 main_v28 (broadcastInDim S8192x1 ![] bcast_S_S8192x1 : (⟨S_, .f32⟩ : BufTy).Contents (Elt F) → (⟨S8192x1, .f32⟩ : BufTy).Contents (Elt F)),
    StableHlo.binary main_v27 main_v28 main_v29 (maximumf : (⟨S8192x1, .f32⟩ : BufTy).Contents (Elt F) → (⟨S8192x1, .f32⟩ : BufTy).Contents (Elt F) → (⟨S8192x1, .f32⟩ : BufTy).Contents (Elt F)),
    StableHlo.unary main_v29 main_v30 (broadcastInDim S8192x64 ![0, 1] bcast_S8192x1_S8192x64_0_1 : (⟨S8192x1, .f32⟩ : BufTy).Contents (Elt F) → (⟨S8192x64, .f32⟩ : BufTy).Contents (Elt F)),
    StableHlo.binary main_arg21 main_v30 main_v31 (Host.divf : (⟨S8192x64, .f32⟩ : BufTy).Contents (Elt F) → (⟨S8192x64, .f32⟩ : BufTy).Contents (Elt F) → (⟨S8192x64, .f32⟩ : BufTy).Contents (Elt F)),
    StableHlo.unary main_v31 main_v32 (id : (⟨S8192x64, .f32⟩ : BufTy).Contents (Elt F) → (⟨S8192x64, .f32⟩ : BufTy).Contents (Elt F)),
    StableHlo.binary main_v32 main_v32 main_v33 (mulf : (⟨S8192x64, .f32⟩ : BufTy).Contents (Elt F) → (⟨S8192x64, .f32⟩ : BufTy).Contents (Elt F) → (⟨S8192x64, .f32⟩ : BufTy).Contents (Elt F)),
    StableHlo.nullary main_cst_4 (constant S_ .f32 0x00000000#32),
    StableHlo.binary main_v33 main_cst_4 main_v34 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v34 main_v35 (id : (⟨S8192, .f32⟩ : BufTy).Contents (Elt F) → (⟨S8192, .f32⟩ : BufTy).Contents (Elt F)),
    StableHlo.unary main_v19 main_v36 ((transpose S64x16384 [1, 0] · transposes_S16384x64_S64x16384_1_0) : (⟨S16384x64, .f32⟩ : BufTy).Contents (Elt F) → (⟨S64x16384, .f32⟩ : BufTy).Contents (Elt F)),
    StableHlo.unary main_v36 main_v37 (id : (⟨S64x16384, .f32⟩ : BufTy).Contents (Elt F) → (⟨S64x16384, .f32⟩ : BufTy).Contents (Elt F)),
    StableHlo.reshape main_v23 main_v38 (rfl : (.f32 : EltTy) = .f32) shapeCasts_S16384x1_S1x16384,
    StableHlo.unary main_v38 main_v39 (broadcastInDim S8x16384 ![0, 1] bcast_S1x16384_S8x16384_0_1 : (⟨S1x16384, .f32⟩ : BufTy).Contents (Elt F) → (⟨S8x16384, .f32⟩ : BufTy).Contents (Elt F)),
    StableHlo.unary main_v39 main_v40 (id : (⟨S8x16384, .f32⟩ : BufTy).Contents (Elt F) → (⟨S8x16384, .f32⟩ : BufTy).Contents (Elt F)),
    StableHlo.reshape main_v35 main_v41 (rfl : (.f32 : EltTy) = .f32) shapeCasts_S8192_S8192x1,
    StableHlo.unary main_v41 main_v42 (id : (⟨S8192x1, .f32⟩ : BufTy).Contents (Elt F) → (⟨S8192x1, .f32⟩ : BufTy).Contents (Elt F)) ]

theorem opsB_sub : (opsB : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub ..⟩

theorem opsB_fresh : (opsB : List (HloOp τ sig (Elt F))).Forall fun op => op.fresh = ∅ := by
  simp only [List.Forall]; repeat' constructor

/-- What they write, in order. -/
abbrev outsB : List (Ref sig .tc) := [main_v11, main_cst, main_v12, main_v13, main_v14, main_cst_0, main_v15, main_v16, main_v17, main_v18, main_v19, main_v20, main_cst_1, main_v21, main_v22, main_v23, main_v24, main_cst_2, main_v25, main_v26, main_v27, main_cst_3, main_v28, main_v29, main_v30, main_v31, main_v32, main_v33, main_cst_4, main_v34, main_v35, main_v36, main_v37, main_v38, main_v39, main_v40, main_v41, main_v42]

theorem opsB_writes : (opsB : List (HloOp τ sig (Elt F))).Forall fun op => op.writes ⊆ (outsB.map (Proc.devRef (τ := τ) .tc)).toFinset :=
  StableHlo.forall_writes_sub_of_map rfl

theorem args_outsB : ∀ a ∈ argRefs, a ∉ outsB := ListAll.forall_mem_of_all_decide (by decide +kernel)

/-- The operations between the second call and the gather: the codes in order, the codebook in pairs of rows, each code halved. -/
abbrev opsC : List (HloOp τ sig (Elt F)) :=
  [ StableHlo.unary main_v43 main_v44 ((extractStridedSlice S1x16384 ![0, 0] · slices_S8x16384_S1x16384_0_0) : (⟨S8x16384, .i32⟩ : BufTy).Contents (Elt F) → (⟨S1x16384, .i32⟩ : BufTy).Contents (Elt F)),
    StableHlo.reshape main_v44 main_v45 (rfl : (.i32 : EltTy) = .i32) shapeCasts_S1x16384_S16384,
    StableHlo.reshape main_v45 main_v46 (rfl : (.i32 : EltTy) = .i32) shapeCasts_S16384_S16384x1,
    StableHlo.reshape main_v32 main_v47 (rfl : (.f32 : EltTy) = .f32) shapeCasts_S8192x64_S4096x128,
    StableHlo.nullary main_c (constantI S_ 32 1#32),
    StableHlo.unary main_c main_v48 (broadcastInDim S16384x1 ![] bcast_S_S16384x1 : (⟨S_, .i32⟩ : BufTy).Contents (Elt F) → (⟨S16384x1, .i32⟩ : BufTy).Contents (Elt F)),
    StableHlo.binary main_v46 main_v48 main_v49 (Host.shrsi : (⟨S16384x1, .i32⟩ : BufTy).Contents (Elt F) → (⟨S16384x1, .i32⟩ : BufTy).Contents (Elt F) → (⟨S16384x1, .i32⟩ : BufTy).Contents (Elt F)),
    StableHlo.reshape main_v49 main_v50 (rfl : (.i32 : EltTy) = .i32) shapeCasts_S16384x1_S32x512 ]

theorem opsC_sub : (opsC : List (HloOp τ sig (Elt F))).Forall fun op => op.bufs ⊆ StableHlo.tcRefs τ sig :=
  ⟨StableHlo.unary_bufs_sub .., StableHlo.reshape_bufs_sub .., StableHlo.reshape_bufs_sub .., StableHlo.reshape_bufs_sub .., StableHlo.nullary_bufs_sub .., StableHlo.unary_bufs_sub .., StableHlo.binary_bufs_sub .., StableHlo.reshape_bufs_sub ..⟩

theorem opsC_fresh : (opsC : List (HloOp τ sig (Elt F))).Forall fun op => op.fresh = ∅ := by
  simp only [List.Forall]; repeat' constructor

/-- What they write, in order. -/
abbrev outsC : List (Ref sig .tc) := [main_v44, main_v45, main_v46, main_v47, main_c, main_v48, main_v49, main_v50]

theorem opsC_writes : (opsC : List (HloOp τ sig (Elt F))).Forall fun op => op.writes ⊆ (outsC.map (Proc.devRef (τ := τ) .tc)).toFinset :=
  StableHlo.forall_writes_sub_of_map rfl

theorem args_outsC : ∀ a ∈ argRefs, a ∉ outsC := ListAll.forall_mem_of_all_decide (by decide +kernel)

/-- The operations between the gather and the third call: the weights transposed and reshaped. -/
abbrev opsD : List (HloOp τ sig (Elt F)) :=
  [ StableHlo.unary main_arg11 main_v52 ((transpose S2x64x64 [0, 2, 1] · transposes_S2x64x64_S2x64x64_0_2_1) : (⟨S2x64x64, .f32⟩ : BufTy).Contents (Elt F) → (⟨S2x64x64, .f32⟩ : BufTy).Contents (Elt F)),
    StableHlo.reshape main_arg12 main_v53 (rfl : (.f32 : EltTy) = .f32) shapeCasts_S2x64_S2x1x64,
    StableHlo.reshape main_arg13 main_v54 (rfl : (.f32 : EltTy) = .f32) shapeCasts_S2x64_S2x1x64,
    StableHlo.reshape main_arg14 main_v55 (rfl : (.f32 : EltTy) = .f32) shapeCasts_S2x64_S2x1x64,
    StableHlo.reshape main_arg15 main_v56 (rfl : (.f32 : EltTy) = .f32) shapeCasts_S2x64_S2x1x64,
    StableHlo.reshape main_arg16 main_v57 (rfl : (.f32 : EltTy) = .f32) shapeCasts_S2x64_S2x1x64,
    StableHlo.unary main_arg17 main_v58 ((transpose S64x64 [1, 0] · transposes_S64x64_S64x64_1_0) : (⟨S64x64, .f32⟩ : BufTy).Contents (Elt F) → (⟨S64x64, .f32⟩ : BufTy).Contents (Elt F)),
    StableHlo.reshape main_arg18 main_v59 (rfl : (.f32 : EltTy) = .f32) shapeCasts_S64_S1x64,
    StableHlo.unary main_arg19 main_v60 ((transpose S64x64 [1, 0] · transposes_S64x64_S64x64_1_0) : (⟨S64x64, .f32⟩ : BufTy).Contents (Elt F) → (⟨S64x64, .f32⟩ : BufTy).Contents (Elt F)),
    StableHlo.reshape main_arg20 main_v61 (rfl : (.f32 : EltTy) = .f32) shapeCasts_S64_S1x64 ]

theorem opsD_sub : (opsD : List (HloOp τ sig (Elt F))).Forall fun op => op.bufs ⊆ StableHlo.tcRefs τ sig :=
  ⟨StableHlo.unary_bufs_sub .., StableHlo.reshape_bufs_sub .., StableHlo.reshape_bufs_sub .., StableHlo.reshape_bufs_sub .., StableHlo.reshape_bufs_sub .., StableHlo.reshape_bufs_sub .., StableHlo.unary_bufs_sub .., StableHlo.reshape_bufs_sub .., StableHlo.unary_bufs_sub .., StableHlo.reshape_bufs_sub ..⟩

theorem opsD_fresh : (opsD : List (HloOp τ sig (Elt F))).Forall fun op => op.fresh = ∅ := by
  simp only [List.Forall]; repeat' constructor

/-- What they write, in order. -/
abbrev outsD : List (Ref sig .tc) := [main_v52, main_v53, main_v54, main_v55, main_v56, main_v57, main_v58, main_v59, main_v60, main_v61]

theorem opsD_writes : (opsD : List (HloOp τ sig (Elt F))).Forall fun op => op.writes ⊆ (outsD.map (Proc.devRef (τ := τ) .tc)).toFinset :=
  StableHlo.forall_writes_sub_of_map rfl

theorem args_outsD : ∀ a ∈ argRefs, a ∉ outsD := ListAll.forall_mem_of_all_decide (by decide +kernel)

/-- The operations after the third call: the loss divided by the number of entries. -/
abbrev opsE : List (HloOp τ sig (Elt F)) :=
  [ StableHlo.reshape main_v62_1 main_v63 (rfl : (.f32 : EltTy) = .f32) shapeCasts_S1x1_S_,
    StableHlo.nullary main_cst_5 (constant S_ .f32 0x49800000#32),
    StableHlo.binary main_v63 main_cst_5 main_v64 (Host.divf : (⟨S_, .f32⟩ : BufTy).Contents (Elt F) → (⟨S_, .f32⟩ : BufTy).Contents (Elt F) → (⟨S_, .f32⟩ : BufTy).Contents (Elt F)) ]

theorem opsE_sub : (opsE : List (HloOp τ sig (Elt F))).Forall fun op => op.bufs ⊆ StableHlo.tcRefs τ sig :=
  ⟨StableHlo.reshape_bufs_sub .., StableHlo.nullary_bufs_sub .., StableHlo.binary_bufs_sub ..⟩

theorem opsE_fresh : (opsE : List (HloOp τ sig (Elt F))).Forall fun op => op.fresh = ∅ := by
  simp only [List.Forall]; repeat' constructor

/-- What they write, in order. -/
abbrev outsE : List (Ref sig .tc) := [main_v63, main_cst_5, main_v64]

theorem opsE_writes : (opsE : List (HloOp τ sig (Elt F))).Forall fun op => op.writes ⊆ (outsE.map (Proc.devRef (τ := τ) .tc)).toFinset :=
  StableHlo.forall_writes_sub_of_map rfl

theorem args_outsE : ∀ a ∈ argRefs, a ∉ outsE := ListAll.forall_mem_of_all_decide (by decide +kernel)

/-- A call of a TensorCore pipeline in the program. -/
abbrev callTc (p : Fin 3) : Prog (TpuEff nD τ sig (Elt F) (SparseCore.Sig (LP (F := F)) 1) .tc) PUnit := Prog.lift (.customCall (SparseCore.inner (Pipeline.entry p)) ())

/-- The program up to the gather and the transpose after it. -/
theorem part0_eq (d : Dev nD) : main_part0 (F := F) d =
    StableHlo.seqK opsA (callTc 0 >>= fun _ => StableHlo.seqK opsB (callTc 1 >>= fun _ => StableHlo.seqK opsC (sc.run d 0 >>= fun _ =>
      hlo rfl (StableHlo.unary main_arg11 main_v52 ((transpose S2x64x64 [0, 2, 1] · transposes_S2x64x64_S2x64x64_0_2_1) : (⟨S2x64x64, .f32⟩ : BufTy).Contents (Elt F) → (⟨S2x64x64, .f32⟩ : BufTy).Contents (Elt F))) (fun _ => .ret ⟨⟩)))) := by
  chain_rfl

/-- The rest of it. -/
theorem part1_eq (d : Dev nD) : main_part1 (F := F) d =
    StableHlo.seqK (opsD.tail) (callTc 2 >>= fun _ => StableHlo.seqK opsE (pure ⟨⟩)) := by
  chain_rfl

/-- The program: five stretches of host operations and the four calls between them. -/
theorem main_eq (d : Dev nD) : main (F := F) d =
    (StableHlo.seq opsA >>= fun _ => callTc 0 >>= fun _ => StableHlo.seq opsB >>= fun _ => callTc 1 >>= fun _ => StableHlo.seq opsC >>= fun _ =>
      sc.run d 0 >>= fun _ => StableHlo.seq opsD >>= fun _ => callTc 2 >>= fun _ => StableHlo.seq opsE >>= fun _ => pure ⟨⟩) := by
  show (main_part0 (F := F) d >>= fun _ => main_part1 (F := F) d) = _
  rw [part0_eq, part1_eq]
  simp only [← StableHlo.seq_bind_seqK, bind_assoc]
  rfl

end Cert.Proof.Run

end
-- ==== Proof.TileGeom.lean ====
/-
  How the gather's three arrays and its two scratch buffers are cut: the rows of the index array and of the output by tile, the
  list and the row buffer by gather, and what the call is to leave in the output.
-/
module

public import proofs.«01_k».proof.Proof.Setup
public import Idealize.ShloMosaic.Lib.ValueIdx

@[expose] public section

noncomputable section

namespace Cert.Proof.Run

open Cert.KernelIdeal Cert.KernelIdeal.Gen
open Cert.Proof.GatherBatch

open Idealize.ShloMosaic
open Idealize.ShloMosaic.ValueIdx
open Idealize.ShloMosaic.SparseCore (S V rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays -/

abbrev tLoc (d : Dev nD) : Loc nD τ sig := (SparseCore.T d).loc main_v47
abbrev iLoc (d : Dev nD) : Loc nD τ sig := (SparseCore.T d).loc main_v50
abbrev oLoc (d : Dev nD) : Loc nD τ sig := (SparseCore.T d).loc main_v51

abbrev tV : Memref sig .scVector .hbm S4096x128 .f32 := Memref.whole main_v47_scv
abbrev iV : Memref sig .scVector .hbm S32x512 .i32 := Memref.whole main_v50_scv
abbrev oV : Memref sig .scVector .hbm S16384x128 .f32 := Memref.whole main_v51_scv
abbrev sV : Memref sig .scVector .vmem S512 .i32 := Memref.whole cc2_scratch0
abbrev rV : Memref sig .scVector .vmem S512x128 .f32 := Memref.whole cc2_scratch1

/-! ## Cut by tile -/

theorem idiv : 32 ∣ S32x512.size 0 := ⟨1, rfl⟩
theorem odiv : 32 ∣ S16384x128.size 0 := ⟨512, rfl⟩
abbrev irow (w : Fin 32) : Rect S32x512 := Rect.part (s := S32x512) (a₀ := 0) idiv w
abbrev orow (w : Fin 32) : Rect S16384x128 := Rect.part (s := S16384x128) (a₀ := 0) odiv w
abbrev iRowSet (w : Fin 32) : Finset S32x512.Idx := (irow w).set
abbrev oRowSet (w : Fin 32) : Finset S16384x128.Idx := (orow w).set

theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet fun i _ j _ h => Rect.part_disjoint idiv h, Rect.biUnion_part idiv]; try rfl
theorem oPts_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet fun i _ j _ h => Rect.part_disjoint odiv h, Rect.biUnion_part odiv]; try rfl

/-- Tile `w`'s share of the table. -/
abbrev tq (w : Fin 32) : PosShare TreeShare := ShareLeaves.leaf 5 fullShare w

theorem tPts_shares (d : Dev nD) (f : Buf (Elt F) (tLoc d)) :
    (tLoc d ↦{fullShare} f : sProp 𝕄) = bigSep Finset.univ fun w : Fin 32 => tLoc d ↦{tq w} f :=
  ShareLeaves.pointsTo_leaves Finset.univ f 5 fullShare

/-! ## What the call leaves -/

/-- Row `r` of the output is the row of the table that word `r` of the index array names. -/
def gout (tb : S4096x128.Idx → Elt F .f32) (ix : S32x512.Idx → Elt F .i32) : S16384x128.Idx → Elt F .f32 := fun x =>
  have h0 : (x 0).val < 16384 := (x 0).isLt
  tb (ix2 ⟨(ix (ix2 ⟨(x 0).val / 512, by omega⟩ ⟨(x 0).val % 512, Nat.mod_lt _ (by decide)⟩)).toNat % 4096, Nat.mod_lt _ (by decide)⟩ ⟨(x 1).val, (x 1).isLt⟩)

/-! ## A tile's views -/

section Tile
variable (d : Dev nD) (L : grid2.Coords)

abbrev cV (L : grid2.Coords) : Fin τ.nSC := (L 0).castLE hcore2
abbrev jV (L : grid2.Coords) : Fin τ.nSub := (L 1).castLE hsub2
/-- The tile's number: the kernel's `s * 2 + c`. -/
def wid (L : grid2.Coords) : Fin 32 := ⟨2 * (L 1).val + (L 0).val, by
  have h0 : (L 0).val < 2 := (L 0).isLt
  have h1 : (L 1).val < 16 := (L 1).isLt
  omega⟩

abbrev irowK (L : grid2.Coords) : Rect S32x512 := Rect.unit (s := S32x512) (k2_off1 L) S1x512.size (k2_off1_inb L)
abbrev orowK (L : grid2.Coords) : Rect S16384x128 := Rect.unit (s := S16384x128) (k2_off2 L) S512x128.size (k2_off2_inb L)
abbrev iRowK (L : grid2.Coords) : Memref sig .scVector .hbm S512 .i32 := ((iV).slice (irowK L) (fun _ => rfl)).squeeze S512 squeezes_S1x512_S512
abbrev oRowK (L : grid2.Coords) : Memref sig .scVector .hbm S512x128 .f32 := (oV).slice (orowK L) (fun _ => rfl)
abbrev tAllK : Memref sig .scVector .hbm S4096x128 .f32 := (tV).slice (Rect.unit (s := S4096x128) ![0, 0] S4096x128.size inb_S4096x128_S4096x128_0_0) (fun _ => rfl)

theorem irowK_eq : irowK L = irow (wid L) := by
  unfold irowK irow Rect.part Rect.block
  congr 1 <;> funext a
  · rw [k2_off1_eq]
    match a with
    | 0 => simp [Shape.partIx, Shape.partSize, wid]
    | 1 => simp [Shape.partIx, Shape.partSize]
  · match a with
    | 0 => simp [Shape.partSize]
    | 1 => simp [Shape.partSize]
theorem orowK_eq : orowK L = orow (wid L) := by
  unfold orowK orow Rect.part Rect.block
  congr 1 <;> funext a
  · rw [k2_off2_eq]
    match a with
    | 0 => simp [Shape.partIx, Shape.partSize, wid]; omega
    | 1 => simp [Shape.partIx, Shape.partSize]
  · match a with
    | 0 => simp [Shape.partSize]
    | 1 => simp [Shape.partSize]

theorem set_iRowK : (iRowK L).view.set = iRowSet (wid L) := by
  show (((iV).view.slice (irowK L)).reshape S512 squeezes_S1x512_S512.numel_eq).set = (irow (wid L)).set
  rw [View.set_reshape, ← irowK_eq L]
  show ((View.whole (main_v50_scv : Ref sig .scVector)).slice (irowK L)).set = _
  rw [View.set_slice]; exact Finset.map_refl
theorem set_oRowK : (oRowK L).view.set = oRowSet (wid L) := by
  show ((View.whole (main_v51_scv : Ref sig .scVector)).slice (orowK L)).set = (orow (wid L)).set
  rw [← orowK_eq L, View.set_slice]; exact Finset.map_refl
theorem tAll_emb (x : S4096x128.Idx) : (tAllK).view.emb x = x := by
  funext a
  apply Fin.ext
  show (![0, 0] : Fin 2 → ℕ) a + 1 * (x a).val = (x a).val
  match a with
  | 0 => simp
  | 1 => simp
theorem set_tAllK : (tAllK).view.set = (Finset.univ : Finset S4096x128.Idx) := by
  ext x
  simp only [View.set, Finset.mem_map, Finset.mem_univ, true_and, iff_true]
  exact ⟨x, tAll_emb x⟩

/-! ## Cut by gather -/

/-- Rows `o, …, o + 127` of the row buffer, and words `o, …, o + 127` of the list. -/
abbrev dstAt (o : ℕ) (h : ∀ a, (![o, 0] : Fin 2 → ℕ) a + S128x128.size a ≤ S512x128.size a) : Memref sig .scVector .vmem S128x128 .f32 :=
  (rV).slice (Rect.unit (s := S512x128) ![o, 0] S128x128.size h) (fun _ => rfl)
abbrev lstAt (o : ℕ) (h : ∀ a, (![o] : Fin 1 → ℕ) a + S128.size a ≤ S512.size a) : Memref sig .scVector .vmem S128 .i32 :=
  (sV).slice (Rect.unit (s := S512) ![o] S128.size h) (fun _ => rfl)

theorem dinb (g : Fin 4) : ∀ a, (![128 * g.val, 0] : Fin 2 → ℕ) a + S128x128.size a ≤ S512x128.size a := by
  have := g.isLt
  intro a; match a with
  | 0 => show 128 * g.val + 128 ≤ 512; omega
  | 1 => show 0 + 128 ≤ 128; omega
theorem linb (g : Fin 4) : ∀ a, (![128 * g.val] : Fin 1 → ℕ) a + S128.size a ≤ S512.size a := by
  have := g.isLt
  intro a; match a with
  | 0 => show 128 * g.val + 128 ≤ 512; omega
abbrev dst (g : Fin 4) := dstAt (128 * g.val) (dinb g)
abbrev lst (g : Fin 4) := lstAt (128 * g.val) (linb g)

theorem ddiv : 4 ∣ S512x128.size 0 := ⟨128, rfl⟩
theorem ldiv : 4 ∣ S512.size 0 := ⟨128, rfl⟩

theorem set_dst (g : Fin 4) : (dst g).view.set = (Rect.part (s := S512x128) (a₀ := 0) ddiv g).set := by
  have e : Rect.unit (s := S512x128) ![128 * g.val, 0] S128x128.size (dinb g) = Rect.part (s := S512x128) (a₀ := 0) ddiv g := by
    unfold Rect.part Rect.block
    congr 1 <;> funext a
    · match a with
      | 0 => simp [Shape.partIx, Shape.partSize]; omega
      | 1 => simp [Shape.partIx, Shape.partSize]
    · match a with
      | 0 => simp [Shape.partSize]
      | 1 => simp [Shape.partSize]
  rw [← e]
  show ((View.whole (cc2_scratch1 : Ref sig .scVector)).slice _).set = _
  rw [View.set_slice]; exact Finset.map_refl
theorem set_lst (g : Fin 4) : (lst g).view.set = (Rect.part (s := S512) (a₀ := 0) ldiv g).set := by
  have e : Rect.unit (s := S512) ![128 * g.val] S128.size (linb g) = Rect.part (s := S512) (a₀ := 0) ldiv g := by
    unfold Rect.part Rect.block
    congr 1 <;> funext a
    · match a with
      | 0 => simp [Shape.partIx, Shape.partSize]; omega
    · match a with
      | 0 => simp [Shape.partSize]
  rw [← e]
  show ((View.whole (cc2_scratch0 : Ref sig .scVector)).slice _).set = _
  rw [View.set_slice]; exact Finset.map_refl

theorem dst_cut (f : Buf (Elt F) ((V d (cV L) (jV L)).loc cc2_scratch1)) :
    ((V d (cV L) (jV L)).loc cc2_scratch1 ↦{fullShare} f : sProp 𝕄)
      = bigSep Finset.univ fun g : Fin 4 => (V d (cV L) (jV L)).loc cc2_scratch1 ↦[(dst g).view.set]{fullShare} f := by
  rw [show (fun g : Fin 4 => ((V d (cV L) (jV L)).loc cc2_scratch1 ↦[(dst g).view.set]{fullShare} f : sProp 𝕄))
      = fun g => (V d (cV L) (jV L)).loc cc2_scratch1 ↦[(Rect.part (s := S512x128) (a₀ := 0) ddiv g).set]{fullShare} f from funext fun g => by rw [set_dst],
    ← pointsTo_biUnion Finset.univ (ℓ := (V d (cV L) (jV L)).loc cc2_scratch1) (fun g : Fin 4 => (Rect.part (s := S512x128) (a₀ := 0) ddiv g).set) fun i _ j _ h => Rect.part_disjoint ddiv h, Rect.biUnion_part ddiv]
  try rfl
theorem lst_cut (f : Buf (Elt F) ((V d (cV L) (jV L)).loc cc2_scratch0)) :
    ((V d (cV L) (jV L)).loc cc2_scratch0 ↦{fullShare} f : sProp 𝕄)
      = bigSep Finset.univ fun g : Fin 4 => (V d (cV L) (jV L)).loc cc2_scratch0 ↦[(lst g).view.set]{fullShare} f := by
  rw [show (fun g : Fin 4 => ((V d (cV L) (jV L)).loc cc2_scratch0 ↦[(lst g).view.set]{fullShare} f : sProp 𝕄))
      = fun g => (V d (cV L) (jV L)).loc cc2_scratch0 ↦[(Rect.part (s := S512) (a₀ := 0) ldiv g).set]{fullShare} f from funext fun g => by rw [set_lst],
    ← pointsTo_biUnion Finset.univ (ℓ := (V d (cV L) (jV L)).loc cc2_scratch0) (fun g : Fin 4 => (Rect.part (s := S512) (a₀ := 0) ldiv g).set) fun i _ j _ h => Rect.part_disjoint ldiv h, Rect.biUnion_part ldiv]
  try rfl

/-! ## What the scratch buffers hold -/

/-- The tile's list: its row of the index array. -/
def words (ix : S32x512.Idx → Elt F .i32) : S512.Idx → Elt F .i32 := fun x => ix (ix2 (wid L) ⟨(x 0).val, (x 0).isLt⟩)

/-- Squeezing the row's leading axis keeps the column. -/
theorem iRowK_emb (x : S512.Idx) : (iRowK L).view.emb x = ix2 (wid L) ⟨(x 0).val, (x 0).isLt⟩ := by
  show (((iV).view.slice (irowK L)).reshape S512 squeezes_S1x512_S512.numel_eq).emb x = _
  have e : Shape.reshapeEquiv squeezes_S1x512_S512.numel_eq x = (ix2 (0 : Fin 1) ⟨(x 0).val, (x 0).isLt⟩ : S1x512.Idx) := by
    apply Shape.reshapeEquiv_eq_of_rowMajor
    rw [show (S1x512.rowMajor (ix2 (0 : Fin 1) ⟨(x 0).val, (x 0).isLt⟩ : S1x512.Idx)).val = _ from Shape.rowMajor_val_two _,
      show (S512.rowMajor x).val = _ from Shape.rowMajor_val_one _]
    simp
  refine (congrArg ((iV).view.slice (irowK L)).emb e).trans ?_
  funext a
  apply Fin.ext
  show (k2_off1 L) a + 1 * ((ix2 (0 : Fin 1) ⟨(x 0).val, (x 0).isLt⟩ : S1x512.Idx) a).val = _
  rw [k2_off1_eq]
  match a with
  | 0 => show 2 * (L 1).val + (L 0).val + 1 * 0 = 2 * (L 1).val + (L 0).val; omega
  | 1 => show 0 + 1 * (x 0).val = (x 0).val; omega
theorem iRowK_read (ix : Buf (Elt F) (iLoc d)) : (iRowK L).view.read (Elt F) ix = words L ix := by
  funext x
  rw [View.read_apply, cast_eq, iRowK_emb]; rfl

/-- The tile's rows: row `k` is the row of the table that word `k` of its list names. -/
def taken (tb : S4096x128.Idx → Elt F .f32) (w : S512.Idx → Elt F .i32) : S512x128.Idx → Elt F .f32 := fun x =>
  tb (ix2 ⟨(w (ix1 ⟨(x 0).val, (x 0).isLt⟩)).toNat % 4096, Nat.mod_lt _ (by decide)⟩ ⟨(x 1).val, (x 1).isLt⟩)

theorem words_lt {ix : S32x512.Idx → Elt F .i32} (h : ∀ j, (ix j : BitVec 32).toNat < 4096) (x : S512.Idx) : (words L ix x : BitVec 32).toNat < 4096 := h _

/-- Gather `g` of the four leaves its 128 rows of `taken`. -/
theorem gather_taken (g : Fin 4) (tb : Buf (Elt F) (tLoc d)) (w : Buf (Elt F) ((V d (cV L) (jV L)).loc cc2_scratch0))
    (fr : Buf (Elt F) ((V d (cV L) (jV L)).loc cc2_scratch1))
    (hin : ∀ x, ((lst g).view.read (Elt F) w x : BitVec 32).toNat < S4096x128.size gathers_S4096x128_S128x128.axis) :
    ∀ x ∈ (dst g).view.set, (dst g).view.write (Elt F) fr (gatherPayload gathers_S4096x128_S128x128 ((tAllK).view.read (Elt F) tb)
        (rows ((lst g).view.read (Elt F) w) rfl hin)) Finset.univ x = taken tb w x := by
  intro x hx
  obtain ⟨y, -, rfl⟩ := Finset.mem_map.mp hx
  rw [View.write_emb_of_mem _ _ (Finset.mem_univ _), cast_eq]
  have hg := g.isLt
  have h0 : (y 0).val < 128 := (y 0).isLt
  have h1 : (y 1).val < 128 := (y 1).isLt
  have hx0 : (((dst g).view.emb y) 0).val = 128 * g.val + (y 0).val := by
    show 128 * g.val + 1 * (y 0).val = _; omega
  have hx1 : (((dst g).view.emb y) 1).val = (y 1).val := by
    show 0 + 1 * (y 1).val = _; omega
  have hl : (lst g).view.emb (S128.rowMajor.symm ((y 0).cast rfl)) = ix1 ⟨((dst g).view.emb y 0).val, ((dst g).view.emb y 0).isLt⟩ := by
    have hr : ((S128.rowMajor.symm ((y 0).cast rfl)) 0).val = (y 0).val := by
      have := Shape.rowMajor_val_one (d := ![128]) (S128.rowMajor.symm ((y 0).cast rfl))
      rw [show (S128.rowMajor (S128.rowMajor.symm ((y 0).cast rfl))) = (y 0).cast rfl from Equiv.apply_symm_apply _ _] at this
      exact this.symm
    funext a
    apply Fin.ext
    match a with
    | 0 =>
      show 128 * g.val + 1 * ((S128.rowMajor.symm ((y 0).cast rfl)) 0).val = ((dst g).view.emb y 0).val
      rw [hr, hx0]; omega
  unfold gatherPayload
  rw [View.read_apply, cast_eq, tAll_emb]
  unfold taken
  refine congrArg tb ?_
  funext a
  apply Fin.ext
  match a with
  | 0 =>
    refine (congrArg Fin.val (Shape.Gathers.idx_axis gathers_S4096x128_S128x128 _ y)).trans ?_
    show ((lst g).view.read (Elt F) w (S128.rowMajor.symm ((y 0).cast rfl)) : BitVec 32).toNat = _
    have hlt := hin (S128.rowMajor.symm ((y 0).cast rfl))
    rw [View.read_apply, cast_eq, hl] at hlt ⊢
    exact (Nat.mod_eq_of_lt hlt).symm
  | 1 =>
    refine (Shape.Gathers.idx_of_ne gathers_S4096x128_S128x128 _ y 1 (by decide)).trans ?_
    exact hx1.symm

/-- The tile's rows, landed in its block of the output, are what the call is to leave there. -/
theorem block_gout (tb : Buf (Elt F) (tLoc d)) (ix : Buf (Elt F) (iLoc d)) (fo : Buf (Elt F) (oLoc d)) :
    ∀ x ∈ (oRowK L).view.set, (oRowK L).view.write (Elt F) fo (taken tb (words L ix)) Finset.univ x = gout tb ix x := by
  intro x hx
  obtain ⟨y, -, rfl⟩ := Finset.mem_map.mp hx
  rw [View.write_emb_of_mem _ _ (Finset.mem_univ _), cast_eq]
  have h0 : (y 0).val < 512 := (y 0).isLt
  have hx0 : (((oRowK L).view.emb y) 0).val = 512 * (wid L).val + (y 0).val := by
    show (k2_off2 L) 0 + 1 * (y 0).val = _
    rw [k2_off2_eq]; simp [wid]; omega
  have hx1 : (((oRowK L).view.emb y) 1).val = (y 1).val := by
    show (k2_off2 L) 1 + 1 * (y 1).val = _
    rw [k2_off2_eq]; simp
  unfold taken gout words
  have e : (ix2 (wid L) ⟨(y 0).val, (y 0).isLt⟩ : S32x512.Idx)
      = ix2 ⟨((oRowK L).view.emb y 0).val / 512, by have := (wid L).isLt; omega⟩ ⟨((oRowK L).view.emb y 0).val % 512, Nat.mod_lt _ (by decide)⟩ := by
    funext a
    apply Fin.ext
    match a with
    | 0 => show (wid L).val = ((oRowK L).view.emb y 0).val / 512; omega
    | 1 => show (y 0).val = ((oRowK L).view.emb y 0).val % 512; omega
  refine congrArg tb ?_
  funext a
  apply Fin.ext
  match a with
  | 0 => exact congrArg (fun z => (ix z : BitVec 32).toNat % 4096) e
  | 1 => exact hx1.symm

end Tile

end Cert.Proof.Run
-- ==== Proof.Tile.lean ====
/-
  The gather on one tile. It fetches its row of the index array, starts four gathers of 128 rows each on one semaphore, waits for
  them, and writes its 512 rows out. The four gathers are one batch of 512 row copies: nothing of the list, the row buffer or the
  table is touched between the first start and the last wait.
-/
module

public import proofs.«01_k».proof.Proof.TileGeom

@[expose] public section

noncomputable section

namespace Cert.Proof.Run

open Cert.KernelIdeal Cert.KernelIdeal.Gen
open Cert.Proof.GatherBatch

open Idealize.ShloMosaic
open Idealize.ShloMosaic.ValueIdx
open Idealize.ShloMosaic.Transfers (Batch pending)
open Idealize.ShloMosaic.SparseCore (S V rows gatherPayload)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

section Tile
variable (d : Dev nD) (L : grid2.Coords)

/-! ## The tile's own semaphores and scratch -/

abbrev cA : GSem nD τ sig := (V d (cV L) (jV L), .dma cc2_scoped0.sem)
abbrev cB : GSem nD τ sig := (V d (cV L) (jV L), .dma cc2_scratch2.sem)
abbrev cC : GSem nD τ sig := (V d (cV L) (jV L), .dma cc2_scoped1.sem)

theorem ownSems0_V :
    (ownSems0 (V d (cV L) (jV L)) : sProp 𝕄)
      = iprop(semVal (cA d L) 0 ∗ semVal (cB d L) 0 ∗ semVal (cC d L) 0
          ∗ bigSep ((((ownCells (V d (cV L) (jV L))).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc2_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc2_scratch2.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc2_scoped1.sem : SemLoc sig).isScoped .scVector = true; decide⟩⟩⟩)]

abbrev sLoc : Loc nD τ sig := (V d (cV L) (jV L)).loc cc2_scratch0
abbrev rLoc : Loc nD τ sig := (V d (cV L) (jV L)).loc cc2_scratch1

theorem ownBufs_V :
    (ownBufs (V d (cV L) (jV L)) : sProp 𝕄)
      = iprop((∃ f, sLoc d L ↦{fullShare} f) ∗ (∃ f, rLoc d L ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

/-! ## What the handshake carries for a tile -/

abbrev rowPts (d : Dev nD) (w : Fin 32) (ix : Buf (Elt F) (iLoc d)) : sProp 𝕄 := iLoc d ↦[iRowSet w]{fullShare} ix
abbrev tabPts (d : Dev nD) (w : Fin 32) (tb : Buf (Elt F) (tLoc d)) : sProp 𝕄 := tLoc d ↦{tq w} tb
abbrev outPts (d : Dev nD) (w : Fin 32) (f : Buf (Elt F) (oLoc d)) : sProp 𝕄 := oLoc d ↦[oRowSet w]{fullShare} f

/-! ## The batch of row copies -/

variable (tb : Buf (Elt F) (tLoc d)) (w : Buf (Elt F) (sLoc d L)) (fr : Buf (Elt F) (rLoc d L))

/-- Every word of every gather's list is a row of the table. -/
theorem lst_lt (hw : ∀ x : S512.Idx, (w x : BitVec 32).toNat < 4096) (g : Fin 4) (x) :
    ((lst g).view.read (Elt F) w x : BitVec 32).toNat < S4096x128.size gathers_S4096x128_S128x128.axis := by
  rw [View.read_apply, cast_eq]; exact hw _

variable (hw : ∀ x : S512.Idx, (w x : BitVec 32).toNat < 4096)

/-- Row `t` of gather `g`, landed. -/
def landed (g : Fin 4) (t : Fin 128) : sProp 𝕄 :=
  rowDone (V d (cV L) (jV L)) tAllK (dst g) gathers_S4096x128_S128x128 (lst g) rfl (show 0 < 128 by decide)
    (pieceOf (tq (wid L)) 4 (by decide) g) fullShare tb fr w (lst_lt d L w hw g) t

/-- The batch's members: row `t % 128` of gather `t / 128`. -/
def member (t : Fin 512) : sProp 𝕄 := landed d L tb w fr hw ⟨t.val / 128, by have := t.isLt; omega⟩ ⟨t.val % 128, Nat.mod_lt _ (by decide)⟩

instance member_storable (t : Fin 512) : Storable (upEmb : UEmb _ 𝕄) (member d L tb w fr hw t) := by
  unfold member landed; exact rowDone_storable _ _ _ _ _ _ _ _ _ _ _ _ _ _

theorem member_eq (g : Fin 4) (t : Fin 128) (h : 128 * g.val + t.val < 512) : member d L tb w fr hw ⟨128 * g.val + t.val, h⟩ = landed d L tb w fr hw g t := by
  have h1 : (⟨(128 * g.val + t.val) / 128, by omega⟩ : Fin 4) = g := Fin.ext (by have := t.isLt; show (128 * g.val + t.val) / 128 = g.val; omega)
  have h2 : (⟨(128 * g.val + t.val) % 128, Nat.mod_lt _ (by decide)⟩ : Fin 128) = t := Fin.ext (by have := t.isLt; show (128 * g.val + t.val) % 128 = t.val; omega)
  unfold member
  show landed d L tb w fr hw ⟨(128 * g.val + t.val) / 128, _⟩ ⟨(128 * g.val + t.val) % 128, _⟩ = _
  rw [h1, h2]

/-- The batch drained is the four gathers' rows. -/
theorem members_split : bigSep Finset.univ (member d L tb w fr hw) = bigSep Finset.univ fun g : Fin 4 => bigSep Finset.univ (landed d L tb w fr hw g) := by
  rw [bigSep_four, ← Transfers.pending_zero, pending_block _ 0 128 (by decide), pending_block _ (0 + 128) 128 (by decide), pending_block _ (0 + 128 + 128) 128 (by decide),
    pending_block _ (0 + 128 + 128 + 128) 128 (by decide), pending_none _ (by decide)]
  rw [show (bigSep Finset.univ fun t : Fin 128 => member d L tb w fr hw ⟨0 + t.val, by omega⟩) = bigSep Finset.univ (landed d L tb w fr hw 0) from
      bigSep_congr fun t _ => member_eq d L tb w fr hw 0 t (by have := t.isLt; show 128 * 0 + t.val < 512; omega)
    , show (bigSep Finset.univ fun t : Fin 128 => member d L tb w fr hw ⟨0 + 128 + t.val, by omega⟩) = bigSep Finset.univ (landed d L tb w fr hw 1) from
      bigSep_congr fun t _ => member_eq d L tb w fr hw 1 t (by have := t.isLt; show 128 * 1 + t.val < 512; omega)
    , show (bigSep Finset.univ fun t : Fin 128 => member d L tb w fr hw ⟨0 + 128 + 128 + t.val, by omega⟩) = bigSep Finset.univ (landed d L tb w fr hw 2) from
      bigSep_congr fun t _ => member_eq d L tb w fr hw 2 t (by have := t.isLt; show 128 * 2 + t.val < 512; omega)
    , show (bigSep Finset.univ fun t : Fin 128 => member d L tb w fr hw ⟨0 + 128 + 128 + 128 + t.val, by omega⟩) = bigSep Finset.univ (landed d L tb w fr hw 3) from
      bigSep_congr fun t _ => member_eq d L tb w fr hw 3 t (by have := t.isLt; show 128 * 3 + t.val < 512; omega)]
  rw [show ∀ X : sProp 𝕄, iprop(X ∗ (BI.emp : sProp 𝕄)) = X from fun X => sep_emp_eq X]

/-- One gather's rows together: its part of the row buffer holding the rows its words name, and its shares back. -/
theorem landed_join (g : Fin 4) : bigSep Finset.univ (landed d L tb w fr hw g)
    ⊢ (iprop((rLoc d L ↦[(dst g).view.set]{fullShare} taken tb w) ∗ (tLoc d ↦[(tAllK).view.set]{pieceOf (tq (wid L)) 4 (by decide) g} tb)
        ∗ (sLoc d L ↦[(lst g).view.set]{fullShare} w)) : sProp 𝕄) := by
  unfold landed
  refine (rowsDone_join (V d (cV L) (jV L)) tAllK (dst g) gathers_S4096x128_S128x128 (lst g) rfl (show 0 < 128 by decide)
    (pieceOf (tq (wid L)) 4 (by decide) g) fullShare tb fr w (lst_lt d L w hw g)).trans ?_
  rw [pointsTo_congr (gather_taken d L g tb w fr (lst_lt d L w hw g))]

/-- All of them together. -/
theorem members_join : bigSep Finset.univ (member d L tb w fr hw)
    ⊢ (iprop((rLoc d L ↦{fullShare} taken tb w) ∗ (tLoc d ↦{tq (wid L)} tb) ∗ (sLoc d L ↦{fullShare} w)) : sProp 𝕄) := by
  rw [members_split]
  iintro H0
  ihave H := (show (bigSep Finset.univ fun g : Fin 4 => bigSep Finset.univ (landed d L tb w fr hw g) : sProp 𝕄)
      ⊢ bigSep Finset.univ fun g : Fin 4 => iprop((rLoc d L ↦[(dst g).view.set]{fullShare} taken tb w) ∗ (tLoc d ↦[(tAllK).view.set]{pieceOf (tq (wid L)) 4 (by decide) g} tb)
        ∗ (sLoc d L ↦[(lst g).view.set]{fullShare} w)) from bigSep_mono fun g _ => landed_join d L tb w fr hw g) $$ H0
  ihave H1 := Transfers.bigSep_sep_out _ _ _ $$ H
  icases H1 with ⟨Hr, H2⟩
  ihave H3 := Transfers.bigSep_sep_out _ _ _ $$ H2
  icases H3 with ⟨Ht, Hs⟩
  isplitl [Hr]; · iapply (Entails.of_eq (dst_cut d L (taken tb w)).symm) $$ Hr
  isplitl [Ht]
  · rw [set_tAllK]
    iapply (Entails.of_eq (pointsTo_piecesOf (o := 4) Finset.univ tb _ (tq (wid L))).symm) $$ Ht
  iapply (Entails.of_eq (lst_cut d L w).symm) $$ Hs

/-! ## The body -/

abbrev rowCredit : ℕ := (((dst 0).slice (S128x128.rowRect gathers_S4096x128_S128x128.axis' ⟨0, by decide⟩) (S128x128.stride_rowRect _ _)).view.dmaCredit)

theorem credit_row (g : Fin 4) (j) : ((dst g).slice (S128x128.rowRect gathers_S4096x128_S128x128.axis' j) (S128x128.stride_rowRect gathers_S4096x128_S128x128.axis' j)).view.dmaCredit
    = rowCredit := rfl
theorem credit_dst (g : Fin 4) : (dst g).view.dmaCredit = 128 * rowCredit := rfl

variable [FloatOps F] (ix : Buf (Elt F) (iLoc d)) (o0 : Buf (Elt F) (oLoc d))

/-- Gather `g` started: the batch's next 128 members. -/
theorem issue (g : Fin 4) {hp : (V d (cV L) (jV L)).2.kind = .scVector} {hsrc : (tAllK).view.WordExact} {he : EltTy.f32.bits = 32} {hsp : Space.hbm = .hbm ∨ Space.hbm = .shared}
    {hr : S4096x128.StreamRows 0} {k : PUnit → Prog (TpuEff nD τ sig (Elt F) Λ₀ (V d (cV L) (jV L)).2) PUnit} {Q : PUnit → sProp 𝕄} :
    iprop((tLoc d ↦[(tAllK).view.set]{pieceOf (tq (wid L)) 4 (by decide) g} tb) ∗ (rLoc d L ↦[(dst g).view.set]{fullShare} fr)
        ∗ (sLoc d L ↦[(lst g).view.set]{fullShare} w)
        ∗ Batch countersEmb (V d (cV L) (jV L)) (.dma cc2_scratch2.sem) (default : HIx 1) rowCredit (member d L tb w fr hw) (128 * g.val) 0)
      ⊢ iprop((Batch countersEmb (V d (cV L) (jV L)) (.dma cc2_scratch2.sem) (default : HIx 1) rowCredit (member d L tb w fr hw) (128 * g.val + 128) 0
            -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.enqueueIndirectGather hp tAllK (dst g) gathers_S4096x128_S128x128 (lst g) rfl cc2_scratch2.sem hsrc he hsp hr >>= k) Q) :=
  wp_gatherRows (F := F) countersEmb 𝒱₀ (V d (cV L) (jV L)) none (src := tAllK) (dst := dst g) (offs := lst g) (q := pieceOf (tq (wid L)) 4 (by decide) g) (qo := fullShare)
    (fs := tb) (fd := fr) (fo := w) (default : HIx 1) rowCredit (credit_row g) (by decide) (lst_lt d L w hw g) (n := 512) (D := member d L tb w fr hw)
    (j := 128 * g.val) (j' := 128 * g.val + 128) (u := 0) rfl (by have := g.isLt; omega) (Nat.zero_le _)
    (fun t => Entails.of_eq (member_eq d L tb w fr hw g t (by have := g.isLt; have : t.val < 128 := t.isLt; omega)).symm)

/-- A wait for one gather's credit before the last: the batch is that much further consumed. -/
theorem await (g : Fin 4) {u : ℕ} (hu : u + 128 * rowCredit ≤ rowCredit * 512) {hsrc : (tAllK).view.WordExact} {hdst : (dst g).view.WordExact}
    {k : PUnit → Prog (TpuEff nD τ sig (Elt F) Λ₀ (V d (cV L) (jV L)).2) PUnit} {Q : PUnit → sProp 𝕄} {O : CellTallies nD τ sig (HIx 1)} {W : Waits sig (HIx 1)} :
    iprop(Batch countersEmb (V d (cV L) (jV L)) (.dma cc2_scratch2.sem) (default : HIx 1) rowCredit (member d L tb w fr hw) 512 u
        ∗ owes (V d (cV L) (jV L)) O W ∗ MayWait (V d (cV L) (jV L)) (.dma cc2_scratch2.sem) (default : HIx 1) O)
      ⊢ iprop((iprop(Batch countersEmb (V d (cV L) (jV L)) (.dma cc2_scratch2.sem) (default : HIx 1) rowCredit (member d L tb w fr hw) 512 (u + 128 * rowCredit)
              ∗ owes (V d (cV L) (jV L)) O (insert (SemLoc.dma cc2_scratch2.sem, (default : HIx 1)) W))
            -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.waitIndirectGather cc2_scratch2.sem tAllK (dst g) hsrc hdst >>= k) Q) := by
  exact Transfers.wp_waitBatchMulO countersEmb 𝒱₀ (V d (cV L) (jV L)) none (default : HIx 1) 128 (credit_dst g) hu

/-- The last wait: every row has landed. -/
theorem await_last (g : Fin 4) {u : ℕ} (hu : u + 128 * rowCredit = rowCredit * 512) {hsrc : (tAllK).view.WordExact} {hdst : (dst g).view.WordExact}
    {k : PUnit → Prog (TpuEff nD τ sig (Elt F) Λ₀ (V d (cV L) (jV L)).2) PUnit} {Q : PUnit → sProp 𝕄} {O : CellTallies nD τ sig (HIx 1)} {W : Waits sig (HIx 1)} :
    iprop(Batch countersEmb (V d (cV L) (jV L)) (.dma cc2_scratch2.sem) (default : HIx 1) rowCredit (member d L tb w fr hw) 512 u
        ∗ owes (V d (cV L) (jV L)) O W ∗ MayWait (V d (cV L) (jV L)) (.dma cc2_scratch2.sem) (default : HIx 1) O)
      ⊢ iprop((iprop(((rLoc d L ↦{fullShare} taken tb w) ∗ (tLoc d ↦{tq (wid L)} tb) ∗ (sLoc d L ↦{fullShare} w)) ∗ semVal (cB d L) 0
              ∗ owes (V d (cV L) (jV L)) O (insert (SemLoc.dma cc2_scratch2.sem, (default : HIx 1)) W))
            -∗ wp frame (wpE (defs₀ (F := F)) 𝒱₀ (V d (cV L) (jV L)) none) Set.univ (k ⟨⟩) Q)
          -∗ wp frame (wpE (defs₀ (F := F)) 𝒱₀ (V d (cV L) (jV L)) none) Set.univ
              (SparseCore.waitIndirectGather cc2_scratch2.sem tAllK (dst g) hsrc hdst >>= k) Q) := by
  change _ ⊢ iprop(_ -∗ wp _ _ _ (.op (.waitDma2 cc2_scratch2.sem tAllK (dst g) hsrc hdst) k) Q)
  iintro H Hk
  iapply (Transfers.wp_waitBatchAllO countersEmb 𝒱₀ (V d (cV L) (jV L)) none (default : HIx 1) (credit_dst g) (by decide : 0 < rowCredit) hu) $$ H
  iintro ⟨HD, Hv, HO⟩
  ihave HJ := (members_join d L tb w fr hw) $$ HD
  iapply Hk
  isplitl [HJ]; · iexact HJ
  isplitl [Hv]; · iexact Hv
  iexact HO

/-- The block of the output after the write-out. -/
theorem out_pts (p : S512x128.Idx → Elt F .f32) (hp : p = taken tb (words L ix)) :
    ((oRowK L).view.loc (V d (cV L) (jV L)) ↦[(oRowK L).view.set]{fullShare} (oRowK L).view.writes (Elt F) o0 [⟨Rect.whole S512x128, p⟩] : sProp 𝕄)
      ⊢ oLoc d ↦[oRowSet (wid L)]{fullShare} gout tb ix := by
  subst hp
  rw [← View.write_univ_eq_writes_whole, View.writes_nil]
  exact Entails.of_eq ((pointsTo_congr (block_gout d L tb ix o0)).trans (by rw [set_oRowK]))

set_option maxHeartbeats 4000000 in
/-- The tile, from its row of the index array, its share of the table and its block of the output: the block comes back holding
    the rows its words name. -/
theorem tile_body (hF : (K (F := F)).Facts) (hix : ∀ j : S32x512.Idx, (ix j : BitVec 32).toNat < 4096) (O : CellTallies nD τ sig (HIx 1)) (W : Waits sig (HIx 1))
    (hO : ∀ g, O g none = 0) :
    iprop(levAts (K (F := F)).L (K (F := F)).lev ∗ emp
        ∗ (rowPts d (wid L) ix ∗ tabPts d (wid L) tb ∗ outPts d (wid L) o0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gather L tV (Memref.isWhole_whole _) iV (Memref.isWhole_whole _) oV (Memref.isWhole_whole _)
            sV (Memref.isWhole_whole _) rV (Memref.isWhole_whole _) cc2_scratch2 cc2_scoped0 cc2_scoped1)
          fun _ => iprop((rowPts d (wid L) ix ∗ tabPts d (wid L) tb ∗ outPts d (wid L) (gout tb ix))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gather_eq_skeleton]; unfold cc2_gather_skel
  simp only [k2_part1_eq_skeleton]; unfold k2_part1_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iLoc d ↦[iRowSet (wid L)]{fullShare} ix : sProp 𝕄)
    = (iRowK L).view.loc (V d (cV L) (jV L)) ↦[(iRowK L).view.set]{fullShare} ix by rw [set_iRowK])) $$ Hi
  ihave Ho' := (Entails.of_eq (show (oLoc d ↦[oRowSet (wid L)]{fullShare} o0 : sProp 𝕄)
    = (oRowK L).view.loc (V d (cV L) (jV L)) ↦[(oRowK L).view.set]{fullShare} o0 by rw [set_oRowK])) $$ Ho
  ihave Hs' := (Entails.of_eq (show (sLoc d L ↦{fullShare} fs : sProp 𝕄) = (sV).view.loc (V d (cV L) (jV L)) ↦{fullShare} fs from rfl)) $$ Hs
  sl_exec
  -- the list holds the tile's row
  ihave Hs2 := (Entails.of_eq (show ((sV).view.loc (V d (cV L) (jV L)) ↦{fullShare} View.write (Elt F) (sV).view fs (tile_body.sl.dma0 d L ix) Finset.univ : sProp 𝕄)
      = sLoc d L ↦{fullShare} words L ix by rw [View.write_whole_univ, show tile_body.sl.dma0 d L ix = words L ix from iRowK_read d L ix])) $$ Hs'
  -- everything cut by gather
  have hw : ∀ x : S512.Idx, (words L ix x : BitVec 32).toNat < 4096 := words_lt L hix
  ihave Hs3 := (Entails.of_eq ((lst_cut d L (words L ix)).trans (bigSep_four _))) $$ Hs2
  icases Hs3 with ⟨Hs0, Hs1, Hs2, Hs3⟩
  ihave Hr2 := (Entails.of_eq ((dst_cut d L fr).trans (bigSep_four _))) $$ Hr
  icases Hr2 with ⟨Hr0, Hr1, Hr2, Hr3⟩
  ihave Hx2 := (Entails.of_eq (show (tLoc d ↦{tq (wid L)} tb : sProp 𝕄) = tLoc d ↦[(tAllK).view.set]{tq (wid L)} tb by rw [set_tAllK])) $$ Hx
  ihave Hx3 := (Entails.of_eq ((pointsTo_piecesOf (tAllK).view.set tb (by decide : 0 < 4) (tq (wid L))).trans (bigSep_four _))) $$ Hx2
  icases Hx3 with ⟨Hx0, Hx1, Hx2, Hx3⟩
  imod (Transfers.batch_alloc' countersEmb (V d (cV L) (jV L)) (default : HIx 1) rowCredit (member d L tb (words L ix) fr hw) (E := Set.univ)) $$ HsemB with HB
  iapply (issue d L tb (words L ix) fr hw 0) $$ [Hx0 Hr0 Hs0 HB]
  · isplitl [Hx0]; · iexact Hx0
    isplitl [Hr0]; · iexact Hr0
    isplitl [Hs0]; · iexact Hs0
    iexact HB
  iintro HB
  sl_exec
  iapply (issue d L tb (words L ix) fr hw 1) $$ [Hx1 Hr1 Hs1 HB]
  · isplitl [Hx1]; · iexact Hx1
    isplitl [Hr1]; · iexact Hr1
    isplitl [Hs1]; · iexact Hs1
    iexact HB
  iintro HB
  sl_exec
  iapply (issue d L tb (words L ix) fr hw 2) $$ [Hx2 Hr2 Hs2 HB]
  · isplitl [Hx2]; · iexact Hx2
    isplitl [Hr2]; · iexact Hr2
    isplitl [Hs2]; · iexact Hs2
    iexact HB
  iintro HB
  sl_exec
  iapply (issue d L tb (words L ix) fr hw 3) $$ [Hx3 Hr3 Hs3 HB]
  · isplitl [Hx3]; · iexact Hx3
    isplitl [Hr3]; · iexact Hr3
    isplitl [Hs3]; · iexact Hs3
    iexact HB
  iintro HB
  sl_exec
  iapply (await d L tb (words L ix) fr hw 0 (u := 0) (by decide)) $$ [HB HO]
  · isplitl [HB]; · iexact HB
    isplitl [HO]; · iexact HO
    iapply (Transfers.MayWaits.elim (SemLoc.dma cc2_scratch2.sem)) $$ Hmw
  iintro ⟨HB, HO⟩
  sl_step
  iapply (await d L tb (words L ix) fr hw 1 (u := 0 + 128 * rowCredit) (by decide)) $$ [HB HO]
  · isplitl [HB]; · iexact HB
    isplitl [HO]; · iexact HO
    iapply (Transfers.MayWaits.elim (SemLoc.dma cc2_scratch2.sem)) $$ Hmw
  iintro ⟨HB, HO⟩
  iapply (await d L tb (words L ix) fr hw 2 (u := 0 + 128 * rowCredit + 128 * rowCredit) (by decide)) $$ [HB HO]
  · isplitl [HB]; · iexact HB
    isplitl [HO]; · iexact HO
    iapply (Transfers.MayWaits.elim (SemLoc.dma cc2_scratch2.sem)) $$ Hmw
  iintro ⟨HB, HO⟩
  iapply (await_last d L tb (words L ix) fr hw 3 (u := 0 + 128 * rowCredit + 128 * rowCredit + 128 * rowCredit) (by decide)) $$ [HB HO]
  · isplitl [HB]; · iexact HB
    isplitl [HO]; · iexact HO
    iapply (Transfers.MayWaits.elim (SemLoc.dma cc2_scratch2.sem)) $$ Hmw
  iintro ⟨⟨Hr, Hx, Hs⟩, HsemB, HO⟩
  have hv : ∃ v : Buf (Elt F) (rLoc d L), taken tb (words L ix) = v := ⟨_, rfl⟩
  obtain ⟨v, hv⟩ := hv
  rw [hv]
  ihave Hr' := (Entails.of_eq (show (rLoc d L ↦{fullShare} v : sProp 𝕄) = (rV).view.loc (V d (cV L) (jV L)) ↦{fullShare} v from rfl)) $$ Hr
  sl_exec
  sl_step
  isplitl [Hi' Hx Ho']
  · isplitl [Hi']
    · iapply (Entails.of_eq (show ((iRowK L).view.loc (V d (cV L) (jV L)) ↦[(iRowK L).view.set]{fullShare} ix : sProp 𝕄)
        = iLoc d ↦[iRowSet (wid L)]{fullShare} ix by rw [set_iRowK])) $$ Hi'
    isplitl [Hx]; · iexact Hx
    iapply (out_pts d L tb ix o0 (tile_body.sl.dma0_1 d L v) ((show tile_body.sl.dma0_1 d L v = v from View.read_whole (Val := Elt F) (cc2_scratch1 : Ref sig .scVector) v).trans hv.symm))
    iexact Ho'
  isplitl [Hs Hr' Hbufs]
  · isplitl [Hs]; · iexists _; iexact Hs
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Run
-- ==== Proof.Call.lean ====
/-
  The gather as one call of the TensorCore's program: what its handshakes carry, each tile's obligation, and the three arrays cut
  among the thirty-two tiles and put together again.
-/
module

public import proofs.«01_k».proof.Proof.Tile

@[expose] public section

noncomputable section

namespace Cert.Proof.Run

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid point of SparseCore `c`, subcore `s`. -/
def coordsV (c : Fin (grid2.bound 0)) (s : Fin (grid2.bound 1)) : grid2.Coords :=
  fun | 0 => c | 1 => s | ⟨_ + 2, h⟩ => absurd h (Nat.not_lt.2 (Nat.le_add_left _ _))

/-- The tile's number from its two coordinates. -/
abbrev tileNo (c : Fin ((K (F := F)).nCore 0)) (i : Fin ((K (F := F)).nSub 0)) : Fin 32 := wid (coordsV (Fin.cast rfl c) (Fin.cast rfl i))

variable (tb : (d : Dev nD) → Buf (Elt F) (tLoc d)) (ix : (d : Dev nD) → Buf (Elt F) (iLoc d)) (o0 : (d : Dev nD) → Buf (Elt F) (oLoc d))

/-- What tile `w` is handed, and what it hands back. -/
abbrev goes (d : Dev nD) (w : Fin 32) : sProp 𝕄 := iprop(rowPts d w (ix d) ∗ tabPts d w (tb d) ∗ outPts d w (o0 d))
abbrev comes (d : Dev nD) (w : Fin 32) : sProp 𝕄 := iprop(rowPts d w (ix d) ∗ tabPts d w (tb d) ∗ outPts d w (gout (tb d) (ix d)))

/-- Each SparseCore takes what its sixteen tiles take, and brings back what they bring back. -/
def P : (K (F := F)).Pay (nD := nD) (Val := Elt F) (Name := ℕ) (U := UU) where
  st := fun q d c => match q with | 0 => bigSep Finset.univ fun i : Fin ((K (F := F)).nSub 0) => goes tb ix o0 d (tileNo (F := F) c i)
  dn := fun q d c => match q with | 0 => bigSep Finset.univ fun i : Fin ((K (F := F)).nSub 0) => comes tb ix d (tileNo (F := F) c i)
  go := fun q d c i => match q with | 0 => goes tb ix o0 d (tileNo (F := F) c i)
  td := fun q d c i => match q with | 0 => comes tb ix d (tileNo (F := F) c i)
  x := fun _ _ => iprop(emp)

instance P_storable : (P tb ix o0).IsStorable where
  st q d c := match q with
    | 0 => (inferInstance : BI.Storable (upEmb : UEmb _ 𝕄) (bigSep Finset.univ fun i : Fin ((K (F := F)).nSub 0) => goes tb ix o0 d (tileNo (F := F) c i)))
  dn q d c := match q with
    | 0 => (inferInstance : BI.Storable (upEmb : UEmb _ 𝕄) (bigSep Finset.univ fun i : Fin ((K (F := F)).nSub 0) => comes tb ix d (tileNo (F := F) c i)))
  go q d c i := match q with
    | 0 => (inferInstance : BI.Storable (upEmb : UEmb _ 𝕄) (goes tb ix o0 d (tileNo (F := F) c i)))
  td q d c i := match q with
    | 0 => (inferInstance : BI.Storable (upEmb : UEmb _ 𝕄) (comes tb ix d (tileNo (F := F) c i)))

/-! ## The obligations -/

variable [FloatOps F]

theorem defs₀_vector (c : Fin τ.nSC) (s : Fin τ.nSub) :
    defs₀ (F := F) (.scVector c s) 2 ()
      = SparseCore.onTile hcore2 hsub2 (fun c s => cc2_gather (coordsV c s)
          tV (Memref.isWhole_whole _) iV (Memref.isWhole_whole _) oV (Memref.isWhole_whole _)
          sV (Memref.isWhole_whole _) rV (Memref.isWhole_whole _) cc2_scratch2 cc2_scoped0 cc2_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hix : ∀ d (j : S32x512.Idx), (ix d j : BitVec 32).toNat < 4096) : (K (F := F)).TileObl (D (F := F)) 𝒱 (P tb ix o0) v₀ 0 := by
  intro d c i O W hO _ _
  simp only [show (P tb ix o0).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tb d) (ix d) (o0 d) facts (hix d) O W hO).trans (wp_mono frame _ _ fun _ => obl_post)

theorem vecSplit : (K (F := F)).VecSplit' (P tb ix o0) 0 := by
  intro d c
  show (bigSep Finset.univ fun i : Fin ((K (F := F)).nSub 0) => goes tb ix o0 d (tileNo (F := F) c i) : sProp 𝕄) ⊢ |={Set.univ}=> iprop(
      (bigSep Finset.univ fun i : Fin ((K (F := F)).nSub 0) => goes tb ix o0 d (tileNo (F := F) c i))
      ∗ ((bigSep Finset.univ fun i : Fin ((K (F := F)).nSub 0) => comes tb ix d (tileNo (F := F) c i))
          -∗ (bigSep Finset.univ fun i : Fin ((K (F := F)).nSub 0) => comes tb ix d (tileNo (F := F) c i))))
  iintro H; imodintro
  isplitl [H]; · iexact H
  iintro H; iexact H

/-! ## The arrays among the tiles -/

/-- The numbers of the thirty-two tiles, each once. -/
theorem tileNo_bij : Function.Bijective fun p : Fin ((K (F := F)).nCore 0) × Fin ((K (F := F)).nSub 0) => tileNo (F := F) p.1 p.2 := by
  constructor
  · rintro ⟨c, i⟩ ⟨c', i'⟩ h
    have h' : 2 * i.val + c.val = 2 * i'.val + c'.val := congrArg Fin.val h
    have hc : c.val < 2 := c.isLt
    have hc' : c'.val < 2 := c'.isLt
    exact Prod.ext (Fin.ext (by show c.val = c'.val; omega)) (Fin.ext (by show i.val = i'.val; omega))
  · intro w
    have hw := w.isLt
    exact ⟨(⟨w.val % 2, show w.val % 2 < 2 by omega⟩, ⟨w.val / 2, show w.val / 2 < 16 by omega⟩), Fin.ext (by show 2 * (w.val / 2) + w.val % 2 = w.val; omega)⟩

theorem bigSep_tiles (Φ : Fin 32 → sProp 𝕄) :
    (bigSep Finset.univ fun c : Fin ((K (F := F)).nCore 0) => bigSep Finset.univ fun i : Fin ((K (F := F)).nSub 0) => Φ (tileNo (F := F) c i)) = bigSep Finset.univ Φ := by
  rw [bigSep_univ_equiv (Equiv.ofBijective _ (tileNo_bij (F := F))) Φ, bigSep_univ_prod]
  rfl

/-- What the call takes and what it leaves, over the whole arrays. -/
theorem st_eq (d : Dev nD) : (bigSep Finset.univ fun c : Fin ((K (F := F)).nCore 0) => (P tb ix o0).st 0 d c)
    = (iprop((iLoc d ↦{fullShare} ix d) ∗ (tLoc d ↦{fullShare} tb d) ∗ oLoc d ↦{fullShare} o0 d) : sProp 𝕄) := by
  show (bigSep Finset.univ fun c : Fin ((K (F := F)).nCore 0) => bigSep Finset.univ fun i : Fin ((K (F := F)).nSub 0) => goes tb ix o0 d (tileNo (F := F) c i)) = _
  rw [bigSep_tiles (F := F) (goes tb ix o0 d), bigSep_sep', bigSep_sep', iPts_rows, tPts_shares, oPts_rows]
theorem dn_eq (d : Dev nD) : (bigSep Finset.univ fun c : Fin ((K (F := F)).nCore 0) => (P tb ix o0).dn 0 d c)
    = (iprop((iLoc d ↦{fullShare} ix d) ∗ (tLoc d ↦{fullShare} tb d) ∗ oLoc d ↦{fullShare} gout (tb d) (ix d)) : sProp 𝕄) := by
  show (bigSep Finset.univ fun c : Fin ((K (F := F)).nCore 0) => bigSep Finset.univ fun i : Fin ((K (F := F)).nSub 0) => comes tb ix d (tileNo (F := F) c i)) = _
  rw [bigSep_tiles (F := F) (comes tb ix d), bigSep_sep', bigSep_sep', iPts_rows, tPts_shares, oPts_rows]

end Cert.Proof.Run
-- ==== Proof.Enc.lean ====
/-
  The first TensorCore call: the encoder, two normalised layers and a two-layer head on 256 rows at a time.
-/
module

public import proofs.«01_k».proof.Proof.Setup
public import Idealize.ShloMosaic.Lib.Pipeline.FrameBody
public import Idealize.ShloMosaic.Lib.Pipeline.FrameSuffix
public import Idealize.ShloMosaic.Lib.Ring
public import Idealize.ShloMosaic.Lib.Pipeline.ValueKit.Basic
public import Idealize.ShloMosaic.Lib.WordCmp

@[expose] public section

set_option maxRecDepth 16384

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

/-! ## What the body reads -/

abbrev eX : Rect S256x64 := Rect.unit (s := S256x64) ![0, 0] S256x64.size inb_S256x64_S256x64_0_0
abbrev eW0 : Rect S2x64x64 := Rect.unit (s := S2x64x64) ![0, 0, 0] S1x64x64.size inb_S2x64x64_S1x64x64_0_0_0
abbrev eB0 : Rect S2x1x64 := Rect.unit (s := S2x1x64) ![0, 0, 0] S1x1x64.size inb_S2x1x64_S1x1x64_0_0_0
abbrev eW1 : Rect S2x64x64 := Rect.unit (s := S2x64x64) ![1, 0, 0] S1x64x64.size inb_S2x64x64_S1x64x64_1_0_0
abbrev eB1 : Rect S2x1x64 := Rect.unit (s := S2x1x64) ![1, 0, 0] S1x1x64.size inb_S2x1x64_S1x1x64_1_0_0
abbrev eM : Rect S64x64 := Rect.unit (s := S64x64) ![0, 0] S64x64.size inb_S64x64_S64x64_0_0
abbrev eR : Rect S1x64 := Rect.unit (s := S1x64) ![0, 0] S1x64.size inb_S1x64_S1x64_0_0

/-- What the encoder's body computes of its blocks. -/
def encVal (x0 : Vec F S256x64 .f32) (x1 : Vec F S2x64x64 .f32) (x2 : Vec F S2x1x64 .f32) (x3 : Vec F S2x1x64 .f32) (x4 : Vec F S2x1x64 .f32) (x5 : Vec F S2x1x64 .f32) (x6 : Vec F S2x1x64 .f32) (x7 : Vec F S64x64 .f32) (x8 : Vec F S1x64 .f32) (x9 : Vec F S64x64 .f32) (x10 : Vec F S1x64 .f32) : Vec F S256x64 .f32 :=
  k0_pay1 (k0_pay3 (View.ld x8 eR)) (k0_pay4 (View.ld x9 eM)) (k0_pay5 (View.ld x10 eR)) (k0_pay6 (k0_pay2 (View.ld x0 eX) (View.ld x1 eW0) (View.ld x2 eB0) (View.ld x3 eB0) (View.ld x5 eB0) (View.ld x6 eB0) (View.ld x4 eB0) (View.ld x1 eW1)) (View.ld x2 eB1) (View.ld x3 eB1) (View.ld x5 eB1) (View.ld x6 eB1) (View.ld x4 eB1) (View.ld x7 eM))

/-- The output's staging buffer after the body. -/
def encOut (x0 : Vec F S256x64 .f32) (x1 : Vec F S2x64x64 .f32) (x2 : Vec F S2x1x64 .f32) (x3 : Vec F S2x1x64 .f32) (x4 : Vec F S2x1x64 .f32) (x5 : Vec F S2x1x64 .f32) (x6 : Vec F S2x1x64 .f32) (x7 : Vec F S64x64 .f32) (x8 : Vec F S1x64 .f32) (x9 : Vec F S64x64 .f32) (x10 : Vec F S1x64 .f32) : Vec F S256x64 .f32 := View.canon [⟨eX, encVal x0 x1 x2 x3 x4 x5 x6 x7 x8 x9 x10⟩]

theorem cover_rows (p : Vec F S256x64 .f32) (y : S256x64.Idx) :
    ∃ pc ∈ ([⟨eX, p⟩] : List (View.Piece (Elt F) S256x64 .f32)), y ∈ pc.1.set :=
  View.cover_of_tiled [⟨eX, p⟩] S256x64.size (by rfl) y

set_option maxHeartbeats 1000000 in
/-- The body on whole staging buffers: the inputs stay, the output is left at `encOut` of them. -/
theorem enc_sound (c : Dev nD) (E : Set ℕ) (i : grid0.Coords) (arg1 : Memref sig .tc .vmem S256x64 .f32) (harg1 : arg1.IsWhole) (arg2 : Memref sig .tc .vmem S2x64x64 .f32) (harg2 : arg2.IsWhole) (arg3 : Memref sig .tc .vmem S2x1x64 .f32) (harg3 : arg3.IsWhole) (arg4 : Memref sig .tc .vmem S2x1x64 .f32) (harg4 : arg4.IsWhole) (arg5 : Memref sig .tc .vmem S2x1x64 .f32) (harg5 : arg5.IsWhole) (arg6 : Memref sig .tc .vmem S2x1x64 .f32) (harg6 : arg6.IsWhole) (arg7 : Memref sig .tc .vmem S2x1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S256x64 .f32) (harg12 : arg12.IsWhole)
    (x0 : Vec F S256x64 .f32) (x1 : Vec F S2x64x64 .f32) (x2 : Vec F S2x1x64 .f32) (x3 : Vec F S2x1x64 .f32) (x4 : Vec F S2x1x64 .f32) (x5 : Vec F S2x1x64 .f32) (x6 : Vec F S2x1x64 .f32) (x7 : Vec F S64x64 .f32) (x8 : Vec F S1x64 .f32) (x9 : Vec F S64x64 .f32) (x10 : Vec F S1x64 .f32) (k : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (encOut x0 x1 x2 x3 x4 x5 x6 x7 x8 x9 x10)) -∗ k ⟨⟩))
      ⊢ wp frame (wpE (defs₀ (F := F)) Variants.none c none) E (cc0__enc_kernel i arg1 harg1 arg2 harg2 arg3 harg3 arg4 harg4 arg5 harg5 arg6 harg6 arg7 harg7 arg8 harg8 arg9 harg9 arg10 harg10 arg11 harg11 arg12 harg12) k := by
  simp only [cc0__enc_kernel_eq_skeleton]; unfold cc0__enc_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  iexists _; isplitr
  swap; · iexact H11
  ipureintro
  exact View.read_writes_eq_canon _ _ _ (cover_rows _)

-- the buffers as the region finds them, what the core owes meanwhile, and the waits it may have recorded
variable (V : (c : Dev nD) → (b : Ref sig .tc) → Buf (Elt F) ((c : Thread nD τ).loc b))
variable (O : Dev nD → CellTallies nD τ sig (HIx 1)) (B : Dev nD → Set (SemLoc sig × HIx 1))

/-- Window `w`'s block at point `t`, of its array as the region finds it. -/
def encBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's data: its arrays as found; the inputs' staging buffers left as they were and each output's at what the
    body computes of the inputs' blocks; what the core owes and may have recorded the same at every point. -/
def encDat (c : Dev nD) : Dat τ (Elt F) (HIx 1) ℕ UU ℕ cfg0 c where
  A w := V c (Pipeline.arrRef spec0 w)
  after w t := match w with
    | ⟨0, _⟩ => encBlk V c 0 t
    | ⟨1, _⟩ => encBlk V c 1 t
    | ⟨2, _⟩ => encBlk V c 2 t
    | ⟨3, _⟩ => encBlk V c 3 t
    | ⟨4, _⟩ => encBlk V c 4 t
    | ⟨5, _⟩ => encBlk V c 5 t
    | ⟨6, _⟩ => encBlk V c 6 t
    | ⟨7, _⟩ => encBlk V c 7 t
    | ⟨8, _⟩ => encBlk V c 8 t
    | ⟨9, _⟩ => encBlk V c 9 t
    | ⟨10, _⟩ => encBlk V c 10 t
    | ⟨11, _⟩ => encOut (encBlk V c 0 t) (encBlk V c 1 t) (encBlk V c 2 t) (encBlk V c 3 t) (encBlk V c 4 t) (encBlk V c 5 t) (encBlk V c 6 t) (encBlk V c 7 t) (encBlk V c 8 t) (encBlk V c 9 t) (encBlk V c 10 t)
  Φ _ := iprop(Pipeline.scopedRest (Ix := HIx 1) (Name := ℕ) (U := UU) (Lvl := ℕ) (Val := Elt F) spec0 c ∗ ∃ r, prngReg c r)
  q _ := fullShare
  owed _ := O c
  recorded _ := B c

theorem encDat_A (c : Dev nD) (w : Fin cfg0.W) : (encDat V O B c).A w = V c (Pipeline.arrRef spec0 w) := by
  dsimp only [encDat]

theorem encDat_after0 (c : Dev nD) (t : Fin cfg0.N) : (encDat V O B c).after 0 t = encBlk V c 0 t := by dsimp only [encDat]
theorem encDat_after1 (c : Dev nD) (t : Fin cfg0.N) : (encDat V O B c).after 1 t = encBlk V c 1 t := by dsimp only [encDat]
theorem encDat_after2 (c : Dev nD) (t : Fin cfg0.N) : (encDat V O B c).after 2 t = encBlk V c 2 t := by dsimp only [encDat]
theorem encDat_after3 (c : Dev nD) (t : Fin cfg0.N) : (encDat V O B c).after 3 t = encBlk V c 3 t := by dsimp only [encDat]
theorem encDat_after4 (c : Dev nD) (t : Fin cfg0.N) : (encDat V O B c).after 4 t = encBlk V c 4 t := by dsimp only [encDat]
theorem encDat_after5 (c : Dev nD) (t : Fin cfg0.N) : (encDat V O B c).after 5 t = encBlk V c 5 t := by dsimp only [encDat]
theorem encDat_after6 (c : Dev nD) (t : Fin cfg0.N) : (encDat V O B c).after 6 t = encBlk V c 6 t := by dsimp only [encDat]
theorem encDat_after7 (c : Dev nD) (t : Fin cfg0.N) : (encDat V O B c).after 7 t = encBlk V c 7 t := by dsimp only [encDat]
theorem encDat_after8 (c : Dev nD) (t : Fin cfg0.N) : (encDat V O B c).after 8 t = encBlk V c 8 t := by dsimp only [encDat]
theorem encDat_after9 (c : Dev nD) (t : Fin cfg0.N) : (encDat V O B c).after 9 t = encBlk V c 9 t := by dsimp only [encDat]
theorem encDat_after10 (c : Dev nD) (t : Fin cfg0.N) : (encDat V O B c).after 10 t = encBlk V c 10 t := by dsimp only [encDat]
theorem encDat_after11 (c : Dev nD) (t : Fin cfg0.N) : (encDat V O B c).after 11 t = encOut (encBlk V c 0 t) (encBlk V c 1 t) (encBlk V c 2 t) (encBlk V c 3 t) (encBlk V c 4 t) (encBlk V c 5 t) (encBlk V c 6 t) (encBlk V c 7 t) (encBlk V c 8 t) (encBlk V c 9 t) (encBlk V c 10 t) := by dsimp only [encDat]

theorem encDat_before0 (c : Dev nD) (t : Fin cfg0.N) (d) : (encDat V O B c).before 0 t d = encBlk V c 0 t :=
  ((encDat V O B c).before_in_eq_fetched 0 rfl (fun _ => rfl) (fun _ _ _ => rfl)
    (fun t => by rw [encDat_after0]; unfold Dat.blockOf encBlk; rw [encDat_A]; try rfl) t d).trans
    (by unfold Dat.fetched Dat.blockOf encBlk; rw [encDat_A]; try rfl)
theorem encDat_before1 (c : Dev nD) (t : Fin cfg0.N) (d) : (encDat V O B c).before 1 t d = encBlk V c 1 t :=
  ((encDat V O B c).before_in_eq_fetched 1 rfl (fun _ => rfl) (fun _ _ _ => rfl)
    (fun t => by rw [encDat_after1]; unfold Dat.blockOf encBlk; rw [encDat_A]; try rfl) t d).trans
    (by unfold Dat.fetched Dat.blockOf encBlk; rw [encDat_A]; try rfl)
theorem encDat_before2 (c : Dev nD) (t : Fin cfg0.N) (d) : (encDat V O B c).before 2 t d = encBlk V c 2 t :=
  ((encDat V O B c).before_in_eq_fetched 2 rfl (fun _ => rfl) (fun _ _ _ => rfl)
    (fun t => by rw [encDat_after2]; unfold Dat.blockOf encBlk; rw [encDat_A]; try rfl) t d).trans
    (by unfold Dat.fetched Dat.blockOf encBlk; rw [encDat_A]; try rfl)
theorem encDat_before3 (c : Dev nD) (t : Fin cfg0.N) (d) : (encDat V O B c).before 3 t d = encBlk V c 3 t :=
  ((encDat V O B c).before_in_eq_fetched 3 rfl (fun _ => rfl) (fun _ _ _ => rfl)
    (fun t => by rw [encDat_after3]; unfold Dat.blockOf encBlk; rw [encDat_A]; try rfl) t d).trans
    (by unfold Dat.fetched Dat.blockOf encBlk; rw [encDat_A]; try rfl)
theorem encDat_before4 (c : Dev nD) (t : Fin cfg0.N) (d) : (encDat V O B c).before 4 t d = encBlk V c 4 t :=
  ((encDat V O B c).before_in_eq_fetched 4 rfl (fun _ => rfl) (fun _ _ _ => rfl)
    (fun t => by rw [encDat_after4]; unfold Dat.blockOf encBlk; rw [encDat_A]; try rfl) t d).trans
    (by unfold Dat.fetched Dat.blockOf encBlk; rw [encDat_A]; try rfl)
theorem encDat_before5 (c : Dev nD) (t : Fin cfg0.N) (d) : (encDat V O B c).before 5 t d = encBlk V c 5 t :=
  ((encDat V O B c).before_in_eq_fetched 5 rfl (fun _ => rfl) (fun _ _ _ => rfl)
    (fun t => by rw [encDat_after5]; unfold Dat.blockOf encBlk; rw [encDat_A]; try rfl) t d).trans
    (by unfold Dat.fetched Dat.blockOf encBlk; rw [encDat_A]; try rfl)
theorem encDat_before6 (c : Dev nD) (t : Fin cfg0.N) (d) : (encDat V O B c).before 6 t d = encBlk V c 6 t :=
  ((encDat V O B c).before_in_eq_fetched 6 rfl (fun _ => rfl) (fun _ _ _ => rfl)
    (fun t => by rw [encDat_after6]; unfold Dat.blockOf encBlk; rw [encDat_A]; try rfl) t d).trans
    (by unfold Dat.fetched Dat.blockOf encBlk; rw [encDat_A]; try rfl)
theorem encDat_before7 (c : Dev nD) (t : Fin cfg0.N) (d) : (encDat V O B c).before 7 t d = encBlk V c 7 t :=
  ((encDat V O B c).before_in_eq_fetched 7 rfl (fun _ => rfl) (fun _ _ _ => rfl)
    (fun t => by rw [encDat_after7]; unfold Dat.blockOf encBlk; rw [encDat_A]; try rfl) t d).trans
    (by unfold Dat.fetched Dat.blockOf encBlk; rw [encDat_A]; try rfl)
theorem encDat_before8 (c : Dev nD) (t : Fin cfg0.N) (d) : (encDat V O B c).before 8 t d = encBlk V c 8 t :=
  ((encDat V O B c).before_in_eq_fetched 8 rfl (fun _ => rfl) (fun _ _ _ => rfl)
    (fun t => by rw [encDat_after8]; unfold Dat.blockOf encBlk; rw [encDat_A]; try rfl) t d).trans
    (by unfold Dat.fetched Dat.blockOf encBlk; rw [encDat_A]; try rfl)
theorem encDat_before9 (c : Dev nD) (t : Fin cfg0.N) (d) : (encDat V O B c).before 9 t d = encBlk V c 9 t :=
  ((encDat V O B c).before_in_eq_fetched 9 rfl (fun _ => rfl) (fun _ _ _ => rfl)
    (fun t => by rw [encDat_after9]; unfold Dat.blockOf encBlk; rw [encDat_A]; try rfl) t d).trans
    (by unfold Dat.fetched Dat.blockOf encBlk; rw [encDat_A]; try rfl)
theorem encDat_before10 (c : Dev nD) (t : Fin cfg0.N) (d) : (encDat V O B c).before 10 t d = encBlk V c 10 t :=
  ((encDat V O B c).before_in_eq_fetched 10 rfl (fun _ => rfl) (fun _ _ _ => rfl)
    (fun t => by rw [encDat_after10]; unfold Dat.blockOf encBlk; rw [encDat_A]; try rfl) t d).trans
    (by unfold Dat.fetched Dat.blockOf encBlk; rw [encDat_A]; try rfl)

/-- What the body finds at point `t`, window by window, -/
def encPre (c : Dev nD) (t : Fin cfg0.N) : sProp 𝕄 :=
  iprop((encDat V O B c).Φ t.castSucc ∗ (encDat V O B c).owesAt none t.castSucc
    ∗ (∃ d, owns (c : Thread nD τ) (st0_0 t) fullShare ((encDat V O B c).before 0 t d))
    ∗ (∃ d, owns (c : Thread nD τ) (st0_1 t) fullShare ((encDat V O B c).before 1 t d))
    ∗ (∃ d, owns (c : Thread nD τ) (st0_2 t) fullShare ((encDat V O B c).before 2 t d))
    ∗ (∃ d, owns (c : Thread nD τ) (st0_3 t) fullShare ((encDat V O B c).before 3 t d))
    ∗ (∃ d, owns (c : Thread nD τ) (st0_4 t) fullShare ((encDat V O B c).before 4 t d))
    ∗ (∃ d, owns (c : Thread nD τ) (st0_5 t) fullShare ((encDat V O B c).before 5 t d))
    ∗ (∃ d, owns (c : Thread nD τ) (st0_6 t) fullShare ((encDat V O B c).before 6 t d))
    ∗ (∃ d, owns (c : Thread nD τ) (st0_7 t) fullShare ((encDat V O B c).before 7 t d))
    ∗ (∃ d, owns (c : Thread nD τ) (st0_8 t) fullShare ((encDat V O B c).before 8 t d))
    ∗ (∃ d, owns (c : Thread nD τ) (st0_9 t) fullShare ((encDat V O B c).before 9 t d))
    ∗ (∃ d, owns (c : Thread nD τ) (st0_10 t) fullShare ((encDat V O B c).before 10 t d))
    ∗ (∃ d, owns (c : Thread nD τ) (st0_11 t) fullShare ((encDat V O B c).before 11 t d)))

/-- and what it leaves. -/
def encPost (c : Dev nD) (t : Fin cfg0.N) : sProp 𝕄 :=
  iprop((encDat V O B c).Φ t.succ ∗ (encDat V O B c).owesAt none t.succ
    ∗ owns (c : Thread nD τ) (st0_0 t) fullShare ((encDat V O B c).after 0 t)
    ∗ owns (c : Thread nD τ) (st0_1 t) fullShare ((encDat V O B c).after 1 t)
    ∗ owns (c : Thread nD τ) (st0_2 t) fullShare ((encDat V O B c).after 2 t)
    ∗ owns (c : Thread nD τ) (st0_3 t) fullShare ((encDat V O B c).after 3 t)
    ∗ owns (c : Thread nD τ) (st0_4 t) fullShare ((encDat V O B c).after 4 t)
    ∗ owns (c : Thread nD τ) (st0_5 t) fullShare ((encDat V O B c).after 5 t)
    ∗ owns (c : Thread nD τ) (st0_6 t) fullShare ((encDat V O B c).after 6 t)
    ∗ owns (c : Thread nD τ) (st0_7 t) fullShare ((encDat V O B c).after 7 t)
    ∗ owns (c : Thread nD τ) (st0_8 t) fullShare ((encDat V O B c).after 8 t)
    ∗ owns (c : Thread nD τ) (st0_9 t) fullShare ((encDat V O B c).after 9 t)
    ∗ owns (c : Thread nD τ) (st0_10 t) fullShare ((encDat V O B c).after 10 t)
    ∗ owns (c : Thread nD τ) (st0_11 t) fullShare ((encDat V O B c).after 11 t))

/-- The body at any point of the grid. -/
theorem enc_point (c : Dev nD) (t : Fin cfg0.N) :
    encPre V O B c t ⊢ wp frame (wpE (defs₀ (F := F)) Variants.none c none) Set.univ (bodyAt0 t) (fun _ => encPost V O B c t) := by
  unfold encPre encPost bodyAt0
  simp only [encDat_before0, encDat_before1, encDat_before2, encDat_before3, encDat_before4, encDat_before5, encDat_before6, encDat_before7, encDat_before8, encDat_before9, encDat_before10]
  rw [show (encDat V O B c).Φ t.succ = (encDat V O B c).Φ t.castSucc from rfl,
    show (encDat V O B c).owesAt none t.succ = (encDat V O B c).owesAt none t.castSucc from rfl,
    encDat_after0, encDat_after1, encDat_after2, encDat_after3, encDat_after4, encDat_after5, encDat_after6, encDat_after7, encDat_after8, encDat_after9, encDat_after10, encDat_after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (enc_sound c Set.univ (grid0.coords t) _ _ _ _ _ _ _ _ _ _ _ _ _ _ _ _ _ _ _ _ _ _ _ _ (encBlk V c 0 t) (encBlk V c 1 t) (encBlk V c 2 t) (encBlk V c 3 t) (encBlk V c 4 t) (encBlk V c 5 t) (encBlk V c 6 t) (encBlk V c 7 t) (encBlk V c 8 t) (encBlk V c 9 t) (encBlk V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem enc_row (t : Fin cfg0.N) :
    defs₀ (F := F) .tc cfg0.body (cfg0.bodyArgs t (cfg0.slots t)) = bodyAt0 t := by
  rfl

/-- The body's obligation at every point of the region's grid. -/
theorem enc_obligation (c : Dev nD) : BodyObligation (encDat V O B c) (defs₀ (F := F)) Variants.none none Set.univ := fun t => by
  rw [bigSep_W0, bigSep_W0, enc_row]
  exact triple_restated (enc_point V O B c t) rfl .rfl fun _ => .rfl

end Cert.Proof.Run
-- ==== Proof.Near.lean ====
/-
  The second TensorCore call: for 256 rows at a time, the first code at the least distance.
-/
module

public import proofs.«01_k».proof.Proof.Setup
public import Idealize.ShloMosaic.Lib.Pipeline.FrameBody
public import Idealize.ShloMosaic.Lib.Pipeline.FrameSuffix
public import Idealize.ShloMosaic.Lib.Ring
public import Idealize.ShloMosaic.Lib.Pipeline.ValueKit.Basic
public import Idealize.ShloMosaic.Lib.WordCmp

@[expose] public section

set_option maxRecDepth 16384

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

/-! ## What the body reads -/

abbrev nC : Rect S8192x64 := Rect.unit (s := S8192x64) ![0, 0] S8192x64.size inb_S8192x64_S8192x64_0_0
abbrev nZ : Rect S64x256 := Rect.unit (s := S64x256) ![0, 0] S64x256.size inb_S64x256_S64x256_0_0
abbrev nN : Rect S8x256 := Rect.unit (s := S8x256) ![0, 0] S1x256.size inb_S8x256_S1x256_0_0
abbrev nS : Rect S8192x1 := Rect.unit (s := S8192x1) ![0, 0] S8192x1.size inb_S8192x1_S8192x1_0_0
abbrev nO : Rect S8x256 := Rect.unit (s := S8x256) ![0, 0] S8x256.size inb_S8x256_S8x256_0_0

/-- What the nearest-code body computes of its blocks. -/
def nearVal (x0 : Vec F S64x256 .f32) (x1 : Vec F S8x256 .f32) (x2 : Vec F S8192x64 .f32) (x3 : Vec F S8192x1 .f32) : Vec F S8x256 .i32 :=
  k1_pay1 (View.ld x2 nC) (View.ld x0 nZ) (View.ld x1 nN) (View.ld x3 nS)

/-- The output's staging buffer after the body. -/
def nearOut (x0 : Vec F S64x256 .f32) (x1 : Vec F S8x256 .f32) (x2 : Vec F S8192x64 .f32) (x3 : Vec F S8192x1 .f32) : Vec F S8x256 .i32 := View.canon [⟨nO, nearVal x0 x1 x2 x3⟩]

theorem cover_cols (p : Vec F S8x256 .i32) (y : S8x256.Idx) :
    ∃ pc ∈ ([⟨nO, p⟩] : List (View.Piece (Elt F) S8x256 .i32)), y ∈ pc.1.set :=
  View.cover_of_tiled [⟨nO, p⟩] S8x256.size (by rfl) y

set_option maxHeartbeats 1000000 in
/-- The body on whole staging buffers: the inputs stay, the output is left at `nearOut` of them. -/
theorem near_sound (c : Dev nD) (E : Set ℕ) (i : grid1.Coords) (arg1 : Memref sig .tc .vmem S64x256 .f32) (harg1 : arg1.IsWhole) (arg2 : Memref sig .tc .vmem S8x256 .f32) (harg2 : arg2.IsWhole) (arg3 : Memref sig .tc .vmem S8192x64 .f32) (harg3 : arg3.IsWhole) (arg4 : Memref sig .tc .vmem S8192x1 .f32) (harg4 : arg4.IsWhole) (arg5 : Memref sig .tc .vmem S8x256 .i32) (harg5 : arg5.IsWhole)
    (x0 : Vec F S64x256 .f32) (x1 : Vec F S8x256 .f32) (x2 : Vec F S8192x64 .f32) (x3 : Vec F S8192x1 .f32) (k : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (nearOut x0 x1 x2 x3)) -∗ k ⟨⟩))
      ⊢ wp frame (wpE (defs₀ (F := F)) Variants.none c none) E (cc1__argmin_kernel i arg1 harg1 arg2 harg2 arg3 harg3 arg4 harg4 arg5 harg5) k := by
  simp only [cc1__argmin_kernel_eq_skeleton]; unfold cc1__argmin_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists _; isplitr
  swap; · iexact H4
  ipureintro
  exact View.read_writes_eq_canon _ _ _ (cover_cols _)

-- the buffers as the region finds them, what the core owes meanwhile, and the waits it may have recorded
variable (V : (c : Dev nD) → (b : Ref sig .tc) → Buf (Elt F) ((c : Thread nD τ).loc b))
variable (O : Dev nD → CellTallies nD τ sig (HIx 1)) (B : Dev nD → Set (SemLoc sig × HIx 1))

/-- Window `w`'s block at point `t`, of its array as the region finds it. -/
def nearBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's data: its arrays as found; the inputs' staging buffers left as they were and each output's at what the
    body computes of the inputs' blocks; what the core owes and may have recorded the same at every point. -/
def nearDat (c : Dev nD) : Dat τ (Elt F) (HIx 1) ℕ UU ℕ cfg1 c where
  A w := V c (Pipeline.arrRef spec1 w)
  after w t := match w with
    | ⟨0, _⟩ => nearBlk V c 0 t
    | ⟨1, _⟩ => nearBlk V c 1 t
    | ⟨2, _⟩ => nearBlk V c 2 t
    | ⟨3, _⟩ => nearBlk V c 3 t
    | ⟨4, _⟩ => nearOut (nearBlk V c 0 t) (nearBlk V c 1 t) (nearBlk V c 2 t) (nearBlk V c 3 t)
  Φ _ := iprop(Pipeline.scopedRest (Ix := HIx 1) (Name := ℕ) (U := UU) (Lvl := ℕ) (Val := Elt F) spec1 c ∗ ∃ r, prngReg c r)
  q _ := fullShare
  owed _ := O c
  recorded _ := B c

theorem nearDat_A (c : Dev nD) (w : Fin cfg1.W) : (nearDat V O B c).A w = V c (Pipeline.arrRef spec1 w) := by
  dsimp only [nearDat]

theorem nearDat_after0 (c : Dev nD) (t : Fin cfg1.N) : (nearDat V O B c).after 0 t = nearBlk V c 0 t := by dsimp only [nearDat]
theorem nearDat_after1 (c : Dev nD) (t : Fin cfg1.N) : (nearDat V O B c).after 1 t = nearBlk V c 1 t := by dsimp only [nearDat]
theorem nearDat_after2 (c : Dev nD) (t : Fin cfg1.N) : (nearDat V O B c).after 2 t = nearBlk V c 2 t := by dsimp only [nearDat]
theorem nearDat_after3 (c : Dev nD) (t : Fin cfg1.N) : (nearDat V O B c).after 3 t = nearBlk V c 3 t := by dsimp only [nearDat]
theorem nearDat_after4 (c : Dev nD) (t : Fin cfg1.N) : (nearDat V O B c).after 4 t = nearOut (nearBlk V c 0 t) (nearBlk V c 1 t) (nearBlk V c 2 t) (nearBlk V c 3 t) := by dsimp only [nearDat]

theorem nearDat_before0 (c : Dev nD) (t : Fin cfg1.N) (d) : (nearDat V O B c).before 0 t d = nearBlk V c 0 t :=
  ((nearDat V O B c).before_in_eq_fetched 0 rfl (fun _ => rfl) (fun _ _ _ => rfl)
    (fun t => by rw [nearDat_after0]; unfold Dat.blockOf nearBlk; rw [nearDat_A]; try rfl) t d).trans
    (by unfold Dat.fetched Dat.blockOf nearBlk; rw [nearDat_A]; try rfl)
theorem nearDat_before1 (c : Dev nD) (t : Fin cfg1.N) (d) : (nearDat V O B c).before 1 t d = nearBlk V c 1 t :=
  ((nearDat V O B c).before_in_eq_fetched 1 rfl (fun _ => rfl) (fun _ _ _ => rfl)
    (fun t => by rw [nearDat_after1]; unfold Dat.blockOf nearBlk; rw [nearDat_A]; try rfl) t d).trans
    (by unfold Dat.fetched Dat.blockOf nearBlk; rw [nearDat_A]; try rfl)
theorem nearDat_before2 (c : Dev nD) (t : Fin cfg1.N) (d) : (nearDat V O B c).before 2 t d = nearBlk V c 2 t :=
  ((nearDat V O B c).before_in_eq_fetched 2 rfl (fun _ => rfl) (fun _ _ _ => rfl)
    (fun t => by rw [nearDat_after2]; unfold Dat.blockOf nearBlk; rw [nearDat_A]; try rfl) t d).trans
    (by unfold Dat.fetched Dat.blockOf nearBlk; rw [nearDat_A]; try rfl)
theorem nearDat_before3 (c : Dev nD) (t : Fin cfg1.N) (d) : (nearDat V O B c).before 3 t d = nearBlk V c 3 t :=
  ((nearDat V O B c).before_in_eq_fetched 3 rfl (fun _ => rfl) (fun _ _ _ => rfl)
    (fun t => by rw [nearDat_after3]; unfold Dat.blockOf nearBlk; rw [nearDat_A]; try rfl) t d).trans
    (by unfold Dat.fetched Dat.blockOf nearBlk; rw [nearDat_A]; try rfl)

/-- What the body finds at point `t`, window by window, -/
def nearPre (c : Dev nD) (t : Fin cfg1.N) : sProp 𝕄 :=
  iprop((nearDat V O B c).Φ t.castSucc ∗ (nearDat V O B c).owesAt none t.castSucc
    ∗ (∃ d, owns (c : Thread nD τ) (st1_0 t) fullShare ((nearDat V O B c).before 0 t d))
    ∗ (∃ d, owns (c : Thread nD τ) (st1_1 t) fullShare ((nearDat V O B c).before 1 t d))
    ∗ (∃ d, owns (c : Thread nD τ) (st1_2 t) fullShare ((nearDat V O B c).before 2 t d))
    ∗ (∃ d, owns (c : Thread nD τ) (st1_3 t) fullShare ((nearDat V O B c).before 3 t d))
    ∗ (∃ d, owns (c : Thread nD τ) (st1_4 t) fullShare ((nearDat V O B c).before 4 t d)))

/-- and what it leaves. -/
def nearPost (c : Dev nD) (t : Fin cfg1.N) : sProp 𝕄 :=
  iprop((nearDat V O B c).Φ t.succ ∗ (nearDat V O B c).owesAt none t.succ
    ∗ owns (c : Thread nD τ) (st1_0 t) fullShare ((nearDat V O B c).after 0 t)
    ∗ owns (c : Thread nD τ) (st1_1 t) fullShare ((nearDat V O B c).after 1 t)
    ∗ owns (c : Thread nD τ) (st1_2 t) fullShare ((nearDat V O B c).after 2 t)
    ∗ owns (c : Thread nD τ) (st1_3 t) fullShare ((nearDat V O B c).after 3 t)
    ∗ owns (c : Thread nD τ) (st1_4 t) fullShare ((nearDat V O B c).after 4 t))

/-- The body at any point of the grid. -/
theorem near_point (c : Dev nD) (t : Fin cfg1.N) :
    nearPre V O B c t ⊢ wp frame (wpE (defs₀ (F := F)) Variants.none c none) Set.univ (bodyAt1 t) (fun _ => nearPost V O B c t) := by
  unfold nearPre nearPost bodyAt1
  simp only [nearDat_before0, nearDat_before1, nearDat_before2, nearDat_before3]
  rw [show (nearDat V O B c).Φ t.succ = (nearDat V O B c).Φ t.castSucc from rfl,
    show (nearDat V O B c).owesAt none t.succ = (nearDat V O B c).owesAt none t.castSucc from rfl,
    nearDat_after0, nearDat_after1, nearDat_after2, nearDat_after3, nearDat_after4]
  iintro ⟨HΦ, Ho, ⟨%d0, H0⟩, ⟨%d1, H1⟩, ⟨%d2, H2⟩, ⟨%d3, H3⟩, ⟨%d4, H4⟩⟩
  iapply (near_sound c Set.univ (grid1.coords t) _ _ _ _ _ _ _ _ _ _ (nearBlk V c 0 t) (nearBlk V c 1 t) (nearBlk V c 2 t) (nearBlk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem near_row (t : Fin cfg1.N) :
    defs₀ (F := F) .tc cfg1.body (cfg1.bodyArgs t (cfg1.slots t)) = bodyAt1 t := by
  rfl

/-- The body's obligation at every point of the region's grid. -/
theorem near_obligation (c : Dev nD) : BodyObligation (nearDat V O B c) (defs₀ (F := F)) Variants.none none Set.univ := fun t => by
  rw [bigSep_W1, bigSep_W1, near_row]
  exact triple_restated (near_point V O B c t) rfl .rfl fun _ => .rfl

end Cert.Proof.Run
-- ==== Proof.Dec.lean ====
/-
  The third TensorCore call: the decoder on 256 rows at a time, with the running sum of the squared differences.
-/
module

public import proofs.«01_k».proof.Proof.Setup
public import Idealize.ShloMosaic.Lib.Pipeline.FrameBody
public import Idealize.ShloMosaic.Lib.Pipeline.FrameSuffix
public import Idealize.ShloMosaic.Lib.Ring
public import Idealize.ShloMosaic.Lib.Pipeline.ValueKit.Basic
public import Idealize.ShloMosaic.Lib.WordCmp

@[expose] public section

set_option maxRecDepth 16384

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

/-! ## What the body reads -/

abbrev dX : Rect S256x64 := Rect.unit (s := S256x64) ![0, 0] S256x64.size inb_S256x64_S256x64_0_0
abbrev dP : Rect S256x128 := Rect.unit (s := S256x128) ![0, 0] S256x128.size inb_S256x128_S256x128_0_0
abbrev dI : Rect S256x1 := Rect.unit (s := S256x1) ![0, 0] S256x1.size inb_S256x1_S256x1_0_0
abbrev dA : Rect S1x1 := Rect.unit (s := S1x1) ![0, 0] S1x1.size inb_S1x1_S1x1_0_0
abbrev dW0 : Rect S2x64x64 := Rect.unit (s := S2x64x64) ![0, 0, 0] S1x64x64.size inb_S2x64x64_S1x64x64_0_0_0
abbrev dB0 : Rect S2x1x64 := Rect.unit (s := S2x1x64) ![0, 0, 0] S1x1x64.size inb_S2x1x64_S1x1x64_0_0_0
abbrev dW1 : Rect S2x64x64 := Rect.unit (s := S2x64x64) ![1, 0, 0] S1x64x64.size inb_S2x64x64_S1x64x64_1_0_0
abbrev dB1 : Rect S2x1x64 := Rect.unit (s := S2x1x64) ![1, 0, 0] S1x1x64.size inb_S2x1x64_S1x1x64_1_0_0
abbrev dM : Rect S64x64 := Rect.unit (s := S64x64) ![0, 0] S64x64.size inb_S64x64_S64x64_0_0
abbrev dR : Rect S1x64 := Rect.unit (s := S1x64) ![0, 0] S1x64.size inb_S1x64_S1x64_0_0

/-- What the decoder's body computes of its blocks. -/
def decVal (x0 : Vec F S256x64 .f32) (x1 : Vec F S256x128 .f32) (x2 : Vec F S256x1 .i32) (x3 : Vec F S2x64x64 .f32) (x4 : Vec F S2x1x64 .f32) (x5 : Vec F S2x1x64 .f32) (x6 : Vec F S2x1x64 .f32) (x7 : Vec F S2x1x64 .f32) (x8 : Vec F S2x1x64 .f32) (x9 : Vec F S64x64 .f32) (x10 : Vec F S1x64 .f32) (x11 : Vec F S64x64 .f32) (x12 : Vec F S1x64 .f32) : Vec F S256x64 .f32 :=
  k3_pay1 (k3_pay7 (k3_pay6 (View.ld x0 dX) (View.ld x1 dP) (View.ld x2 dI) (View.ld x3 dW0)) (View.ld x4 dB0) (View.ld x5 dB0) (View.ld x7 dB0) (View.ld x8 dB0) (View.ld x6 dB0) (View.ld x3 dW1) (View.ld x4 dB1)) (k3_pay8 (View.ld x5 dB1)) (View.ld x7 dB1) (View.ld x8 dB1) (View.ld x6 dB1) (View.ld x9 dM) (View.ld x10 dR) (View.ld x11 dM) (View.ld x12 dR)

/-- The rows' staging buffer after the body. -/
def decOut (x0 : Vec F S256x64 .f32) (x1 : Vec F S256x128 .f32) (x2 : Vec F S256x1 .i32) (x3 : Vec F S2x64x64 .f32) (x4 : Vec F S2x1x64 .f32) (x5 : Vec F S2x1x64 .f32) (x6 : Vec F S2x1x64 .f32) (x7 : Vec F S2x1x64 .f32) (x8 : Vec F S2x1x64 .f32) (x9 : Vec F S64x64 .f32) (x10 : Vec F S1x64 .f32) (x11 : Vec F S64x64 .f32) (x12 : Vec F S1x64 .f32) : Vec F S256x64 .f32 := View.canon [⟨dX, decVal x0 x1 x2 x3 x4 x5 x6 x7 x8 x9 x10 x11 x12⟩]

/-- The accumulator's staging buffer after the body, from what it held when the block's sum was added. -/
def decAcc (x0 : Vec F S256x64 .f32) (x1 : Vec F S256x128 .f32) (x2 : Vec F S256x1 .i32) (a : Vec F S1x1 .f32) : Vec F S1x1 .f32 :=
  View.canon [⟨dA, k3_pay5 (View.ld x0 dX) (View.ld x1 dP) (View.ld x2 dI) a⟩]

theorem cover_dec (p : Vec F S256x64 .f32) (y : S256x64.Idx) :
    ∃ pc ∈ ([⟨dX, p⟩] : List (View.Piece (Elt F) S256x64 .f32)), y ∈ pc.1.set :=
  View.cover_of_tiled [⟨dX, p⟩] S256x64.size (by rfl) y

theorem cover_acc (p : Vec F S1x1 .f32) (y : S1x1.Idx) :
    ∃ pc ∈ ([⟨dA, p⟩] : List (View.Piece (Elt F) S1x1 .f32)), y ∈ pc.1.set :=
  View.cover_of_tiled [⟨dA, p⟩] S1x1.size (by rfl) y

/-- The body's branch is taken at the grid's first point only. -/
abbrev atFirst (i : grid3.Coords) : Prop := (Scalar.cmpi .ne (Scalar.extui (Scalar.cmpi .eq (BitVec.ofNat 32 (i 0).val) 0#32)) 0#32) = 1#1

theorem atFirst_iff : ∀ t : Fin cfg3.N, atFirst (grid3.coords t) ↔ t.val % 64 = 0 :=
  (fun t => by
    have ht : t.val < 64 := Nat.lt_of_lt_of_eq t.isLt N_3
    have e : (grid3.coords t 0).val = t.val / 1 % 64 := Pipeline.Grid.coords_val t 0 (by decide) rfl
    simp only [atFirst, e]
    word_cmp
   : ∀ t : Fin grid3.N, atFirst (grid3.coords t) ↔ t.val % 64 = 0)

set_option maxHeartbeats 1000000 in
/-- The body at the first point: the accumulator is zeroed, then the block added. -/
theorem dec_first (c : Dev nD) (E : Set ℕ) (i : grid3.Coords) (arg1 : Memref sig .tc .vmem S256x64 .f32) (harg1 : arg1.IsWhole) (arg2 : Memref sig .tc .vmem S256x128 .f32) (harg2 : arg2.IsWhole) (arg3 : Memref sig .tc .vmem S256x1 .i32) (harg3 : arg3.IsWhole) (arg4 : Memref sig .tc .vmem S2x64x64 .f32) (harg4 : arg4.IsWhole) (arg5 : Memref sig .tc .vmem S2x1x64 .f32) (harg5 : arg5.IsWhole) (arg6 : Memref sig .tc .vmem S2x1x64 .f32) (harg6 : arg6.IsWhole) (arg7 : Memref sig .tc .vmem S2x1x64 .f32) (harg7 : arg7.IsWhole) (arg8 : Memref sig .tc .vmem S2x1x64 .f32) (harg8 : arg8.IsWhole) (arg9 : Memref sig .tc .vmem S2x1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S256x64 .f32) (harg14 : arg14.IsWhole) (arg15 : Memref sig .tc .vmem S1x1 .f32) (harg15 : arg15.IsWhole)
    (x0 : Vec F S256x64 .f32) (x1 : Vec F S256x128 .f32) (x2 : Vec F S256x1 .i32) (x3 : Vec F S2x64x64 .f32) (x4 : Vec F S2x1x64 .f32) (x5 : Vec F S2x1x64 .f32) (x6 : Vec F S2x1x64 .f32) (x7 : Vec F S2x1x64 .f32) (x8 : Vec F S2x1x64 .f32) (x9 : Vec F S64x64 .f32) (x10 : Vec F S1x64 .f32) (x11 : Vec F S64x64 .f32) (x12 : Vec F S1x64 .f32) (hc : atFirst i) (k : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (decOut x0 x1 x2 x3 x4 x5 x6 x7 x8 x9 x10 x11 x12) ∗ owns (c : Thread nD τ) arg15 fullShare (decAcc x0 x1 x2 (k3_pay4 (F := F)))) -∗ k ⟨⟩))
      ⊢ wp frame (wpE (defs₀ (F := F)) Variants.none c none) E (cc3__dec_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) k := by
  simp only [cc3__dec_kernel_eq_skeleton]; unfold cc3__dec_kernel_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr
    swap; · iexact H13
    ipureintro
    exact View.read_writes_eq_canon _ _ _ (cover_dec _)
  iexists _; isplitr
  swap; · iexact H14
  ipureintro
  rw [View.read_writes_eq_canon _ _ _ (fun y => ⟨_, List.mem_cons_self, by rw [Rect.mem_set_unit]; intro a; have := (y a).isLt; fin_cases a <;> exact ⟨Nat.zero_le _, by simpa using this⟩⟩)]
  have hv : dec_first.sl.v25 (F := F) c arg15 = k3_pay4 (F := F) := by
    show arg15.view.readCov [(⟨Rect.unit ![0, 0] S1x1.size inb_S1x1_S1x1_0_0, k3_pay4 (F := F)⟩ : View.Piece (Elt F) S1x1 .f32)] (Rect.unit ![0, 0] S1x1.size inb_S1x1_S1x1_0_0).toLoadRect = _
    exact View.readCov_unit_lit (Val := Elt F) (S := S1x1) (e := .f32) arg15.view inb_S1x1_S1x1_0_0 (k3_pay4 (F := F)) (by decide)
  rw [hv]
  exact (View.canon_cons_unit_lit (Val := Elt F) (S := S1x1) (e := .f32) inb_S1x1_S1x1_0_0 _ _ (by decide)).trans (View.canon_cons_unit_lit (Val := Elt F) (S := S1x1) (e := .f32) inb_S1x1_S1x1_0_0 _ [] (by decide)).symm

set_option maxHeartbeats 1000000 in
/-- The body at a later point: the block is added to what the accumulator holds. -/
theorem dec_next (c : Dev nD) (E : Set ℕ) (i : grid3.Coords) (arg1 : Memref sig .tc .vmem S256x64 .f32) (harg1 : arg1.IsWhole) (arg2 : Memref sig .tc .vmem S256x128 .f32) (harg2 : arg2.IsWhole) (arg3 : Memref sig .tc .vmem S256x1 .i32) (harg3 : arg3.IsWhole) (arg4 : Memref sig .tc .vmem S2x64x64 .f32) (harg4 : arg4.IsWhole) (arg5 : Memref sig .tc .vmem S2x1x64 .f32) (harg5 : arg5.IsWhole) (arg6 : Memref sig .tc .vmem S2x1x64 .f32) (harg6 : arg6.IsWhole) (arg7 : Memref sig .tc .vmem S2x1x64 .f32) (harg7 : arg7.IsWhole) (arg8 : Memref sig .tc .vmem S2x1x64 .f32) (harg8 : arg8.IsWhole) (arg9 : Memref sig .tc .vmem S2x1x64 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S256x64 .f32) (harg14 : arg14.IsWhole) (arg15 : Memref sig .tc .vmem S1x1 .f32) (harg15 : arg15.IsWhole)
    (x0 : Vec F S256x64 .f32) (x1 : Vec F S256x128 .f32) (x2 : Vec F S256x1 .i32) (x3 : Vec F S2x64x64 .f32) (x4 : Vec F S2x1x64 .f32) (x5 : Vec F S2x1x64 .f32) (x6 : Vec F S2x1x64 .f32) (x7 : Vec F S2x1x64 .f32) (x8 : Vec F S2x1x64 .f32) (x9 : Vec F S64x64 .f32) (x10 : Vec F S1x64 .f32) (x11 : Vec F S64x64 .f32) (x12 : Vec F S1x64 .f32) (x14 : Vec F S1x1 .f32) (hc : ¬ atFirst i) (k : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare x14
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (decOut x0 x1 x2 x3 x4 x5 x6 x7 x8 x9 x10 x11 x12) ∗ owns (c : Thread nD τ) arg15 fullShare (decAcc x0 x1 x2 (View.ld x14 dA))) -∗ k ⟨⟩))
      ⊢ wp frame (wpE (defs₀ (F := F)) Variants.none c none) E (cc3__dec_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) k := by
  simp only [cc3__dec_kernel_eq_skeleton]; unfold cc3__dec_kernel_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, Hk⟩
  subst hf0 hf1 hf2 hf3 hf4 hf5 hf6 hf7 hf8 hf9 hf10 hf11 hf12 hf14
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr
    swap; · iexact H13
    ipureintro
    exact View.read_writes_eq_canon _ _ _ (cover_dec _)
  iexists _; isplitr
  swap; · iexact H14
  ipureintro
  exact View.read_writes_eq_canon _ _ _ (cover_acc _)

-- the buffers as the region finds them, what the core owes meanwhile, and the waits it may have recorded
variable (V : (c : Dev nD) → (b : Ref sig .tc) → Buf (Elt F) ((c : Thread nD τ).loc b))
variable (O : Dev nD → CellTallies nD τ sig (HIx 1)) (B : Dev nD → Set (SemLoc sig × HIx 1))

/-- Window `w`'s block at point `t`, of its array as the region finds it. -/
def decBlk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator after point `n`. -/
def accAt (c : Dev nD) : (n : ℕ) → n < cfg3.N → Vec F S1x1 .f32
  | 0, h => decAcc (decBlk V c 0 ⟨0, h⟩) (decBlk V c 1 ⟨0, h⟩) (decBlk V c 2 ⟨0, h⟩) (k3_pay4 (F := F))
  | n + 1, h => decAcc (decBlk V c 0 ⟨n + 1, h⟩) (decBlk V c 1 ⟨n + 1, h⟩) (decBlk V c 2 ⟨n + 1, h⟩) (View.ld (accAt c n (Nat.lt_of_succ_lt h)) dA)

theorem accAt_first (c : Dev nD) (t : Fin cfg3.N) (h0 : t.val % 64 = 0) :
    accAt V c t.val t.isLt = decAcc (decBlk V c 0 t) (decBlk V c 1 t) (decBlk V c 2 t) (k3_pay4 (F := F)) := by
  obtain ⟨n, hn⟩ := t
  have hN : n < 64 := lt_of_lt_of_eq hn (show cfg3.N = 64 from N_3)
  obtain rfl : n = 0 := by dsimp only at h0; omega
  rfl

theorem accAt_next (c : Dev nD) (t : Fin cfg3.N) (h0 : ¬ t.val % 64 = 0) :
    accAt V c t.val t.isLt = decAcc (decBlk V c 0 t) (decBlk V c 1 t) (decBlk V c 2 t) (View.ld (accAt V c (t.val - 1) (Nat.lt_of_le_of_lt (Nat.sub_le _ _) t.isLt)) dA) := by
  obtain ⟨n, hn⟩ := t
  cases n with
  | zero => exact absurd rfl h0
  | succ n => rfl

/-- The region's data: its arrays as found; the inputs' staging buffers left as they were and each output's at what the
    body computes of the inputs' blocks; what the core owes and may have recorded the same at every point. -/
def decDat (c : Dev nD) : Dat τ (Elt F) (HIx 1) ℕ UU ℕ cfg3 c where
  A w := V c (Pipeline.arrRef spec3 w)
  after w t := match w with
    | ⟨0, _⟩ => decBlk V c 0 t
    | ⟨1, _⟩ => decBlk V c 1 t
    | ⟨2, _⟩ => decBlk V c 2 t
    | ⟨3, _⟩ => decBlk V c 3 t
    | ⟨4, _⟩ => decBlk V c 4 t
    | ⟨5, _⟩ => decBlk V c 5 t
    | ⟨6, _⟩ => decBlk V c 6 t
    | ⟨7, _⟩ => decBlk V c 7 t
    | ⟨8, _⟩ => decBlk V c 8 t
    | ⟨9, _⟩ => decBlk V c 9 t
    | ⟨10, _⟩ => decBlk V c 10 t
    | ⟨11, _⟩ => decBlk V c 11 t
    | ⟨12, _⟩ => decBlk V c 12 t
    | ⟨13, _⟩ => decOut (decBlk V c 0 t) (decBlk V c 1 t) (decBlk V c 2 t) (decBlk V c 3 t) (decBlk V c 4 t) (decBlk V c 5 t) (decBlk V c 6 t) (decBlk V c 7 t) (decBlk V c 8 t) (decBlk V c 9 t) (decBlk V c 10 t) (decBlk V c 11 t) (decBlk V c 12 t)
    | ⟨14, _⟩ => accAt V c t.val t.isLt
  Φ _ := iprop(Pipeline.scopedRest (Ix := HIx 1) (Name := ℕ) (U := UU) (Lvl := ℕ) (Val := Elt F) spec3 c ∗ ∃ r, prngReg c r)
  q _ := fullShare
  owed _ := O c
  recorded _ := B c

theorem decDat_A (c : Dev nD) (w : Fin cfg3.W) : (decDat V O B c).A w = V c (Pipeline.arrRef spec3 w) := by
  dsimp only [decDat]

theorem decDat_after0 (c : Dev nD) (t : Fin cfg3.N) : (decDat V O B c).after 0 t = decBlk V c 0 t := by dsimp only [decDat]
theorem decDat_after1 (c : Dev nD) (t : Fin cfg3.N) : (decDat V O B c).after 1 t = decBlk V c 1 t := by dsimp only [decDat]
theorem decDat_after2 (c : Dev nD) (t : Fin cfg3.N) : (decDat V O B c).after 2 t = decBlk V c 2 t := by dsimp only [decDat]
theorem decDat_after3 (c : Dev nD) (t : Fin cfg3.N) : (decDat V O B c).after 3 t = decBlk V c 3 t := by dsimp only [decDat]
theorem decDat_after4 (c : Dev nD) (t : Fin cfg3.N) : (decDat V O B c).after 4 t = decBlk V c 4 t := by dsimp only [decDat]
theorem decDat_after5 (c : Dev nD) (t : Fin cfg3.N) : (decDat V O B c).after 5 t = decBlk V c 5 t := by dsimp only [decDat]
theorem decDat_after6 (c : Dev nD) (t : Fin cfg3.N) : (decDat V O B c).after 6 t = decBlk V c 6 t := by dsimp only [decDat]
theorem decDat_after7 (c : Dev nD) (t : Fin cfg3.N) : (decDat V O B c).after 7 t = decBlk V c 7 t := by dsimp only [decDat]
theorem decDat_after8 (c : Dev nD) (t : Fin cfg3.N) : (decDat V O B c).after 8 t = decBlk V c 8 t := by dsimp only [decDat]
theorem decDat_after9 (c : Dev nD) (t : Fin cfg3.N) : (decDat V O B c).after 9 t = decBlk V c 9 t := by dsimp only [decDat]
theorem decDat_after10 (c : Dev nD) (t : Fin cfg3.N) : (decDat V O B c).after 10 t = decBlk V c 10 t := by dsimp only [decDat]
theorem decDat_after11 (c : Dev nD) (t : Fin cfg3.N) : (decDat V O B c).after 11 t = decBlk V c 11 t := by dsimp only [decDat]
theorem decDat_after12 (c : Dev nD) (t : Fin cfg3.N) : (decDat V O B c).after 12 t = decBlk V c 12 t := by dsimp only [decDat]
theorem decDat_after13 (c : Dev nD) (t : Fin cfg3.N) : (decDat V O B c).after 13 t = decOut (decBlk V c 0 t) (decBlk V c 1 t) (decBlk V c 2 t) (decBlk V c 3 t) (decBlk V c 4 t) (decBlk V c 5 t) (decBlk V c 6 t) (decBlk V c 7 t) (decBlk V c 8 t) (decBlk V c 9 t) (decBlk V c 10 t) (decBlk V c 11 t) (decBlk V c 12 t) := by dsimp only [decDat]
theorem decDat_after14 (c : Dev nD) (t : Fin cfg3.N) : (decDat V O B c).after 14 t = accAt V c t.val t.isLt := by dsimp only [decDat]

theorem decDat_before0 (c : Dev nD) (t : Fin cfg3.N) (d) : (decDat V O B c).before 0 t d = decBlk V c 0 t :=
  ((decDat V O B c).before_in_eq_fetched 0 rfl (fun _ => rfl) (fun _ _ _ => rfl)
    (fun t => by rw [decDat_after0]; unfold Dat.blockOf decBlk; rw [decDat_A]; try rfl) t d).trans
    (by unfold Dat.fetched Dat.blockOf decBlk; rw [decDat_A]; try rfl)
theorem decDat_before1 (c : Dev nD) (t : Fin cfg3.N) (d) : (decDat V O B c).before 1 t d = decBlk V c 1 t :=
  ((decDat V O B c).before_in_eq_fetched 1 rfl (fun _ => rfl) (fun _ _ _ => rfl)
    (fun t => by rw [decDat_after1]; unfold Dat.blockOf decBlk; rw [decDat_A]; try rfl) t d).trans
    (by unfold Dat.fetched Dat.blockOf decBlk; rw [decDat_A]; try rfl)
theorem decDat_before2 (c : Dev nD) (t : Fin cfg3.N) (d) : (decDat V O B c).before 2 t d = decBlk V c 2 t :=
  ((decDat V O B c).before_in_eq_fetched 2 rfl (fun _ => rfl) (fun _ _ _ => rfl)
    (fun t => by rw [decDat_after2]; unfold Dat.blockOf decBlk; rw [decDat_A]; try rfl) t d).trans
    (by unfold Dat.fetched Dat.blockOf decBlk; rw [decDat_A]; try rfl)
theorem decDat_before3 (c : Dev nD) (t : Fin cfg3.N) (d) : (decDat V O B c).before 3 t d = decBlk V c 3 t :=
  ((decDat V O B c).before_in_eq_fetched 3 rfl (fun _ => rfl) (fun _ _ _ => rfl)
    (fun t => by rw [decDat_after3]; unfold Dat.blockOf decBlk; rw [decDat_A]; try rfl) t d).trans
    (by unfold Dat.fetched Dat.blockOf decBlk; rw [decDat_A]; try rfl)
theorem decDat_before4 (c : Dev nD) (t : Fin cfg3.N) (d) : (decDat V O B c).before 4 t d = decBlk V c 4 t :=
  ((decDat V O B c).before_in_eq_fetched 4 rfl (fun _ => rfl) (fun _ _ _ => rfl)
    (fun t => by rw [decDat_after4]; unfold Dat.blockOf decBlk; rw [decDat_A]; try rfl) t d).trans
    (by unfold Dat.fetched Dat.blockOf decBlk; rw [decDat_A]; try rfl)
theorem decDat_before5 (c : Dev nD) (t : Fin cfg3.N) (d) : (decDat V O B c).before 5 t d = decBlk V c 5 t :=
  ((decDat V O B c).before_in_eq_fetched 5 rfl (fun _ => rfl) (fun _ _ _ => rfl)
    (fun t => by rw [decDat_after5]; unfold Dat.blockOf decBlk; rw [decDat_A]; try rfl) t d).trans
    (by unfold Dat.fetched Dat.blockOf decBlk; rw [decDat_A]; try rfl)
theorem decDat_before6 (c : Dev nD) (t : Fin cfg3.N) (d) : (decDat V O B c).before 6 t d = decBlk V c 6 t :=
  ((decDat V O B c).before_in_eq_fetched 6 rfl (fun _ => rfl) (fun _ _ _ => rfl)
    (fun t => by rw [decDat_after6]; unfold Dat.blockOf decBlk; rw [decDat_A]; try rfl) t d).trans
    (by unfold Dat.fetched Dat.blockOf decBlk; rw [decDat_A]; try rfl)
theorem decDat_before7 (c : Dev nD) (t : Fin cfg3.N) (d) : (decDat V O B c).before 7 t d = decBlk V c 7 t :=
  ((decDat V O B c).before_in_eq_fetched 7 rfl (fun _ => rfl) (fun _ _ _ => rfl)
    (fun t => by rw [decDat_after7]; unfold Dat.blockOf decBlk; rw [decDat_A]; try rfl) t d).trans
    (by unfold Dat.fetched Dat.blockOf decBlk; rw [decDat_A]; try rfl)
theorem decDat_before8 (c : Dev nD) (t : Fin cfg3.N) (d) : (decDat V O B c).before 8 t d = decBlk V c 8 t :=
  ((decDat V O B c).before_in_eq_fetched 8 rfl (fun _ => rfl) (fun _ _ _ => rfl)
    (fun t => by rw [decDat_after8]; unfold Dat.blockOf decBlk; rw [decDat_A]; try rfl) t d).trans
    (by unfold Dat.fetched Dat.blockOf decBlk; rw [decDat_A]; try rfl)
theorem decDat_before9 (c : Dev nD) (t : Fin cfg3.N) (d) : (decDat V O B c).before 9 t d = decBlk V c 9 t :=
  ((decDat V O B c).before_in_eq_fetched 9 rfl (fun _ => rfl) (fun _ _ _ => rfl)
    (fun t => by rw [decDat_after9]; unfold Dat.blockOf decBlk; rw [decDat_A]; try rfl) t d).trans
    (by unfold Dat.fetched Dat.blockOf decBlk; rw [decDat_A]; try rfl)
theorem decDat_before10 (c : Dev nD) (t : Fin cfg3.N) (d) : (decDat V O B c).before 10 t d = decBlk V c 10 t :=
  ((decDat V O B c).before_in_eq_fetched 10 rfl (fun _ => rfl) (fun _ _ _ => rfl)
    (fun t => by rw [decDat_after10]; unfold Dat.blockOf decBlk; rw [decDat_A]; try rfl) t d).trans
    (by unfold Dat.fetched Dat.blockOf decBlk; rw [decDat_A]; try rfl)
theorem decDat_before11 (c : Dev nD) (t : Fin cfg3.N) (d) : (decDat V O B c).before 11 t d = decBlk V c 11 t :=
  ((decDat V O B c).before_in_eq_fetched 11 rfl (fun _ => rfl) (fun _ _ _ => rfl)
    (fun t => by rw [decDat_after11]; unfold Dat.blockOf decBlk; rw [decDat_A]; try rfl) t d).trans
    (by unfold Dat.fetched Dat.blockOf decBlk; rw [decDat_A]; try rfl)
theorem decDat_before12 (c : Dev nD) (t : Fin cfg3.N) (d) : (decDat V O B c).before 12 t d = decBlk V c 12 t :=
  ((decDat V O B c).before_in_eq_fetched 12 rfl (fun _ => rfl) (fun _ _ _ => rfl)
    (fun t => by rw [decDat_after12]; unfold Dat.blockOf decBlk; rw [decDat_A]; try rfl) t d).trans
    (by unfold Dat.fetched Dat.blockOf decBlk; rw [decDat_A]; try rfl)

/-- At a later point the accumulator's buffer holds what the point before left. -/
theorem decDat_before14 (c : Dev nD) (t : Fin cfg3.N) (h0 : ¬ t.val % 64 = 0) (d) :
    (decDat V O B c).before 14 t d = accAt V c (t.val - 1) (Nat.lt_of_le_of_lt (Nat.sub_le _ _) t.isLt) := by
  have hN : t.val < 64 := lt_of_lt_of_eq t.isLt (show cfg3.N = 64 from N_3)
  rw [Dat.before_out_kept _ 14 rfl t (by omega) (Bool.eq_false_iff.mpr fun h => by have := (flush3_14 _).mp h; dsimp only at this; omega)
    (fun _ => rfl) (fun _ _ => rfl)]
  dsimp only [decDat]

/-- What the body finds at point `t`, window by window, -/
def decPre (c : Dev nD) (t : Fin cfg3.N) : sProp 𝕄 :=
  iprop((decDat V O B c).Φ t.castSucc ∗ (decDat V O B c).owesAt none t.castSucc
    ∗ (∃ d, owns (c : Thread nD τ) (st3_0 t) fullShare ((decDat V O B c).before 0 t d))
    ∗ (∃ d, owns (c : Thread nD τ) (st3_1 t) fullShare ((decDat V O B c).before 1 t d))
    ∗ (∃ d, owns (c : Thread nD τ) (st3_2 t) fullShare ((decDat V O B c).before 2 t d))
    ∗ (∃ d, owns (c : Thread nD τ) (st3_3 t) fullShare ((decDat V O B c).before 3 t d))
    ∗ (∃ d, owns (c : Thread nD τ) (st3_4 t) fullShare ((decDat V O B c).before 4 t d))
    ∗ (∃ d, owns (c : Thread nD τ) (st3_5 t) fullShare ((decDat V O B c).before 5 t d))
    ∗ (∃ d, owns (c : Thread nD τ) (st3_6 t) fullShare ((decDat V O B c).before 6 t d))
    ∗ (∃ d, owns (c : Thread nD τ) (st3_7 t) fullShare ((decDat V O B c).before 7 t d))
    ∗ (∃ d, owns (c : Thread nD τ) (st3_8 t) fullShare ((decDat V O B c).before 8 t d))
    ∗ (∃ d, owns (c : Thread nD τ) (st3_9 t) fullShare ((decDat V O B c).before 9 t d))
    ∗ (∃ d, owns (c : Thread nD τ) (st3_10 t) fullShare ((decDat V O B c).before 10 t d))
    ∗ (∃ d, owns (c : Thread nD τ) (st3_11 t) fullShare ((decDat V O B c).before 11 t d))
    ∗ (∃ d, owns (c : Thread nD τ) (st3_12 t) fullShare ((decDat V O B c).before 12 t d))
    ∗ (∃ d, owns (c : Thread nD τ) (st3_13 t) fullShare ((decDat V O B c).before 13 t d))
    ∗ (∃ d, owns (c : Thread nD τ) (st3_14 t) fullShare ((decDat V O B c).before 14 t d)))

/-- and what it leaves. -/
def decPost (c : Dev nD) (t : Fin cfg3.N) : sProp 𝕄 :=
  iprop((decDat V O B c).Φ t.succ ∗ (decDat V O B c).owesAt none t.succ
    ∗ owns (c : Thread nD τ) (st3_0 t) fullShare ((decDat V O B c).after 0 t)
    ∗ owns (c : Thread nD τ) (st3_1 t) fullShare ((decDat V O B c).after 1 t)
    ∗ owns (c : Thread nD τ) (st3_2 t) fullShare ((decDat V O B c).after 2 t)
    ∗ owns (c : Thread nD τ) (st3_3 t) fullShare ((decDat V O B c).after 3 t)
    ∗ owns (c : Thread nD τ) (st3_4 t) fullShare ((decDat V O B c).after 4 t)
    ∗ owns (c : Thread nD τ) (st3_5 t) fullShare ((decDat V O B c).after 5 t)
    ∗ owns (c : Thread nD τ) (st3_6 t) fullShare ((decDat V O B c).after 6 t)
    ∗ owns (c : Thread nD τ) (st3_7 t) fullShare ((decDat V O B c).after 7 t)
    ∗ owns (c : Thread nD τ) (st3_8 t) fullShare ((decDat V O B c).after 8 t)
    ∗ owns (c : Thread nD τ) (st3_9 t) fullShare ((decDat V O B c).after 9 t)
    ∗ owns (c : Thread nD τ) (st3_10 t) fullShare ((decDat V O B c).after 10 t)
    ∗ owns (c : Thread nD τ) (st3_11 t) fullShare ((decDat V O B c).after 11 t)
    ∗ owns (c : Thread nD τ) (st3_12 t) fullShare ((decDat V O B c).after 12 t)
    ∗ owns (c : Thread nD τ) (st3_13 t) fullShare ((decDat V O B c).after 13 t)
    ∗ owns (c : Thread nD τ) (st3_14 t) fullShare ((decDat V O B c).after 14 t))

set_option maxHeartbeats 2400000 in
/-- The body at any point of the grid: the first point and the later ones. -/
theorem dec_point (c : Dev nD) (t : Fin cfg3.N) :
    decPre V O B c t ⊢ wp frame (wpE (defs₀ (F := F)) Variants.none c none) Set.univ (bodyAt3 t) (fun _ => decPost V O B c t) := by
  unfold decPre decPost bodyAt3
  simp only [decDat_before0, decDat_before1, decDat_before2, decDat_before3, decDat_before4, decDat_before5, decDat_before6, decDat_before7, decDat_before8, decDat_before9, decDat_before10, decDat_before11, decDat_before12]
  rw [show (decDat V O B c).Φ t.succ = (decDat V O B c).Φ t.castSucc from rfl,
    show (decDat V O B c).owesAt none t.succ = (decDat V O B c).owesAt none t.castSucc from rfl,
    decDat_after0, decDat_after1, decDat_after2, decDat_after3, decDat_after4, decDat_after5, decDat_after6, decDat_after7, decDat_after8, decDat_after9, decDat_after10, decDat_after11, decDat_after12, decDat_after13, decDat_after14]
  by_cases h0 : t.val % 64 = 0
  · rw [accAt_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (dec_first c Set.univ (grid3.coords t) _ _ _ _ _ _ _ _ _ _ _ _ _ _ _ _ _ _ _ _ _ _ _ _ _ _ _ _ _ _ (decBlk V c 0 t) (decBlk V c 1 t) (decBlk V c 2 t) (decBlk V c 3 t) (decBlk V c 4 t) (decBlk V c 5 t) (decBlk V c 6 t) (decBlk V c 7 t) (decBlk V c 8 t) (decBlk V c 9 t) (decBlk V c 10 t) (decBlk V c 11 t) (decBlk V c 12 t) ((atFirst_iff t).mpr h0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [accAt_next V c t h0]
    simp only [decDat_before14 V O B c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (dec_next c Set.univ (grid3.coords t) _ _ _ _ _ _ _ _ _ _ _ _ _ _ _ _ _ _ _ _ _ _ _ _ _ _ _ _ _ _ (decBlk V c 0 t) (decBlk V c 1 t) (decBlk V c 2 t) (decBlk V c 3 t) (decBlk V c 4 t) (decBlk V c 5 t) (decBlk V c 6 t) (decBlk V c 7 t) (decBlk V c 8 t) (decBlk V c 9 t) (decBlk V c 10 t) (decBlk V c 11 t) (decBlk V c 12 t) _ (fun h => h0 ((atFirst_iff t).mp h)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    iintro ⟨H0, H1, H2, H3, H4, H5, H6, H7, H8, H9, H10, H11, H12, H13, H14⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem dec_row (t : Fin cfg3.N) :
    defs₀ (F := F) .tc cfg3.body (cfg3.bodyArgs t (cfg3.slots t)) = bodyAt3 t := by
  rfl

/-- The body's obligation at every point of the region's grid. -/
theorem dec_obligation (c : Dev nD) : BodyObligation (decDat V O B c) (defs₀ (F := F)) Variants.none none Set.univ := fun t => by
  rw [bigSep_W3, bigSep_W3, dec_row]
  exact triple_restated (dec_point V O B c t) rfl .rfl fun _ => .rfl

end Cert.Proof.Run
-- ==== Proof.Fold.lean ====
/-
  What every buffer of a device holds between the parts of the program, from the launch to the return.
-/
module

public import proofs.«01_k».proof.Proof.Host
public import proofs.«01_k».proof.Proof.Call
public import proofs.«01_k».proof.Proof.Enc
public import proofs.«01_k».proof.Proof.Near
public import proofs.«01_k».proof.Proof.Dec

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-- What a core owes the SparseCores before call `n` of the gather. -/
abbrev Own (n : ℕ) : Dev nD → CellTallies nD τ sig (HIx 1) := fun c => (K (F := F)).Otc c n
/-- The waits it may have recorded by then. -/
abbrev Bnd (n : ℕ) : Dev nD → Set (SemLoc sig × HIx 1) := fun c => {p | (K (F := F)).lev (SparseCore.T c, p.1) p.2 ≤ 8 * n}

/-- At launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl

/-- After the operations `opsA`. -/
abbrev W1 : Dev nD → Valuation τ sig (Elt F) := fun c => StableHlo.after opsA (W0 m c)
theorem W1_of (c : Dev nD) (r : Ref sig .tc) (h : r ∉ outsA) : W1 m c (Proc.devRef .tc r) = W0 m c (Proc.devRef .tc r) :=
  StableHlo.after_of_writes_sub opsA _ opsA_writes h
theorem W1_args (c : Dev nD) : ∀ a ∈ argRefs, W1 m c (Proc.devRef .tc a) = m ((c : Thread nD τ).loc a) :=
  fun a ha => (W1_of m c a (args_outsA a ha)).trans (W0_args m c a ha)
/-- The same at the TensorCore's references. -/
abbrev V1 : (c : Dev nD) → (b : Ref sig .tc) → Buf (Elt F) ((c : Thread nD τ).loc b) := fun c b => W1 m c b

/-- After the call `enc`: its outputs at what its points leave, every other buffer as before. -/
def W2 (c : Dev nD) : Valuation τ sig (Elt F) :=
  Pipeline.withArrays spec0 c (W1 m c) fun w => (encDat (V1 m) (Own (F := F) 0) (Bnd (F := F) 0) c).arrAt w cfg0.N
theorem W2_arr (c : Dev nD) (w : Fin cfg0.W) :
    W2 m c (Proc.devRef .tc (Pipeline.arrRef spec0 w)) = (encDat (V1 m) (Own (F := F) 0) (Bnd (F := F) 0) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((encDat (V1 m) (Own (F := F) 0) (Bnd (F := F) 0) c).arrAt_in w (h w rfl) _).trans (encDat_A (V1 m) (Own (F := F) 0) (Bnd (F := F) 0) c w))
  · exact W2_of_ne m c r fun w e => hw ⟨w, e⟩
theorem args_in_enc : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (args_in_enc a ha)).trans (W1_args m c a ha)
abbrev V2 : (c : Dev nD) → (b : Ref sig .tc) → Buf (Elt F) ((c : Thread nD τ).loc b) := fun c b => W2 m c b
theorem W2_fill (c : Dev nD) (w : Fin cfg0.W) : (encDat (V1 m) (Own (F := F) 0) (Bnd (F := F) 0) c).arrAt w cfg0.N = V2 m c (Pipeline.arrRef spec0 w) := (W2_arr m c w).symm
theorem W2_rest (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the operations `opsB`. -/
abbrev W3 : Dev nD → Valuation τ sig (Elt F) := fun c => StableHlo.after opsB (W2 m c)
theorem W3_of (c : Dev nD) (r : Ref sig .tc) (h : r ∉ outsB) : W3 m c (Proc.devRef .tc r) = W2 m c (Proc.devRef .tc r) :=
  StableHlo.after_of_writes_sub opsB _ opsB_writes h
theorem W3_args (c : Dev nD) : ∀ a ∈ argRefs, W3 m c (Proc.devRef .tc a) = m ((c : Thread nD τ).loc a) :=
  fun a ha => (W3_of m c a (args_outsB a ha)).trans (W2_args m c a ha)
/-- The same at the TensorCore's references. -/
abbrev V3 : (c : Dev nD) → (b : Ref sig .tc) → Buf (Elt F) ((c : Thread nD τ).loc b) := fun c b => W3 m c b

/-- After the call `near`: its outputs at what its points leave, every other buffer as before. -/
def W4 (c : Dev nD) : Valuation τ sig (Elt F) :=
  Pipeline.withArrays spec1 c (W3 m c) fun w => (nearDat (V3 m) (Own (F := F) 0) (Bnd (F := F) 0) c).arrAt w cfg1.N
theorem W4_arr (c : Dev nD) (w : Fin cfg1.W) :
    W4 m c (Proc.devRef .tc (Pipeline.arrRef spec1 w)) = (nearDat (V3 m) (Own (F := F) 0) (Bnd (F := F) 0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((nearDat (V3 m) (Own (F := F) 0) (Bnd (F := F) 0) c).arrAt_in w (h w rfl) _).trans (nearDat_A (V3 m) (Own (F := F) 0) (Bnd (F := F) 0) c w))
  · exact W4_of_ne m c r fun w e => hw ⟨w, e⟩
theorem args_in_near : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m c (Proc.devRef .tc a) = m ((c : Thread nD τ).loc a) :=
  fun a ha => (W4_of m c a (args_in_near a ha)).trans (W3_args m c a ha)
abbrev V4 : (c : Dev nD) → (b : Ref sig .tc) → Buf (Elt F) ((c : Thread nD τ).loc b) := fun c b => W4 m c b
theorem W4_fill (c : Dev nD) (w : Fin cfg1.W) : (nearDat (V3 m) (Own (F := F) 0) (Bnd (F := F) 0) c).arrAt w cfg1.N = V4 m c (Pipeline.arrRef spec1 w) := (W4_arr m c w).symm
theorem W4_rest (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the operations `opsC`. -/
abbrev W5 : Dev nD → Valuation τ sig (Elt F) := fun c => StableHlo.after opsC (W4 m c)
theorem W5_of (c : Dev nD) (r : Ref sig .tc) (h : r ∉ outsC) : W5 m c (Proc.devRef .tc r) = W4 m c (Proc.devRef .tc r) :=
  StableHlo.after_of_writes_sub opsC _ opsC_writes h
theorem W5_args (c : Dev nD) : ∀ a ∈ argRefs, W5 m c (Proc.devRef .tc a) = m ((c : Thread nD τ).loc a) :=
  fun a ha => (W5_of m c a (args_outsC a ha)).trans (W4_args m c a ha)
/-- The same at the TensorCore's references. -/
abbrev V5 : (c : Dev nD) → (b : Ref sig .tc) → Buf (Elt F) ((c : Thread nD τ).loc b) := fun c b => W5 m c b

/-! ### The gather: its output at the rows its indices name -/

/-- The codebook in pairs of rows, the halved codes in rows of 512, and the output's contents, when the gather is called. -/
abbrev tbOf (c : Dev nD) : Buf (Elt F) (tLoc c) := W5 m c (Proc.devRef .tc main_v47)
abbrev ixOf (c : Dev nD) : Buf (Elt F) (iLoc c) := W5 m c (Proc.devRef .tc main_v50)
abbrev o0Of (c : Dev nD) : Buf (Elt F) (oLoc c) := W5 m c (Proc.devRef .tc main_v51)

/-- After the gather. -/
def W6 (c : Dev nD) : Valuation τ sig (Elt F) :=
  Function.update (W5 m c) (Proc.devRef .tc main_v51) (gout (tbOf m c) (ixOf m c))
theorem W6_out (c : Dev nD) : W6 m c (Proc.devRef .tc main_v51) = gout (tbOf m c) (ixOf m c) := Function.update_self ..
theorem W6_of (c : Dev nD) (r : Ref sig .tc) (h : r ≠ main_v51) : W6 m c (Proc.devRef .tc r) = W5 m c (Proc.devRef .tc r) :=
  Function.update_of_ne (StableHlo.devRef_ne_of_ne h) _ _
theorem args_gather : ∀ a ∈ argRefs, a ≠ main_v51 := ListAll.forall_mem_of_all_decide (by decide +kernel)
theorem W6_args (c : Dev nD) : ∀ a ∈ argRefs, W6 m c (Proc.devRef .tc a) = m ((c : Thread nD τ).loc a) :=
  fun a ha => (W6_of m c a (args_gather a ha)).trans (W5_args m c a ha)

/-- After the operations `opsD`. -/
abbrev W7 : Dev nD → Valuation τ sig (Elt F) := fun c => StableHlo.after opsD (W6 m c)
theorem W7_of (c : Dev nD) (r : Ref sig .tc) (h : r ∉ outsD) : W7 m c (Proc.devRef .tc r) = W6 m c (Proc.devRef .tc r) :=
  StableHlo.after_of_writes_sub opsD _ opsD_writes h
theorem W7_args (c : Dev nD) : ∀ a ∈ argRefs, W7 m c (Proc.devRef .tc a) = m ((c : Thread nD τ).loc a) :=
  fun a ha => (W7_of m c a (args_outsD a ha)).trans (W6_args m c a ha)
/-- The same at the TensorCore's references. -/
abbrev V7 : (c : Dev nD) → (b : Ref sig .tc) → Buf (Elt F) ((c : Thread nD τ).loc b) := fun c b => W7 m c b

/-- After the call `dec`: its outputs at what its points leave, every other buffer as before. -/
def W8 (c : Dev nD) : Valuation τ sig (Elt F) :=
  Pipeline.withArrays spec3 c (W7 m c) fun w => (decDat (V7 m) (Own (F := F) 1) (Bnd (F := F) 1) c).arrAt w cfg3.N
theorem W8_arr (c : Dev nD) (w : Fin cfg3.W) :
    W8 m c (Proc.devRef .tc (Pipeline.arrRef spec3 w)) = (decDat (V7 m) (Own (F := F) 1) (Bnd (F := F) 1) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem W8_of (c : Dev nD) (r : Ref sig .tc) (h : ∀ w : Fin cfg3.W, Pipeline.arrRef spec3 w = r → (cfg3.win w).isOut = false) :
    W8 m c (Proc.devRef .tc r) = W7 m c (Proc.devRef .tc r) := by
  by_cases hw : ∃ w : Fin cfg3.W, Pipeline.arrRef spec3 w = r
  · obtain ⟨w, rfl⟩ := hw
    exact (W8_arr m c w).trans (((decDat (V7 m) (Own (F := F) 1) (Bnd (F := F) 1) c).arrAt_in w (h w rfl) _).trans (decDat_A (V7 m) (Own (F := F) 1) (Bnd (F := F) 1) c w))
  · exact W8_of_ne m c r fun w e => hw ⟨w, e⟩
theorem args_in_dec : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m c (Proc.devRef .tc a) = m ((c : Thread nD τ).loc a) :=
  fun a ha => (W8_of m c a (args_in_dec a ha)).trans (W7_args m c a ha)
abbrev V8 : (c : Dev nD) → (b : Ref sig .tc) → Buf (Elt F) ((c : Thread nD τ).loc b) := fun c b => W8 m c b
theorem W8_fill (c : Dev nD) (w : Fin cfg3.W) : (decDat (V7 m) (Own (F := F) 1) (Bnd (F := F) 1) c).arrAt w cfg3.N = V8 m c (Pipeline.arrRef spec3 w) := (W8_arr m c w).symm
theorem W8_rest (c : Dev nD) : ∀ b, b ∉ Finset.univ.image (Pipeline.arrRef spec3) → V8 m c b = V7 m c b :=
  fun b hb => W8_of_ne m c b fun w e => hb (Finset.mem_image.mpr ⟨w, Finset.mem_univ _, e⟩)

/-- After the operations `opsE`. -/
abbrev W9 : Dev nD → Valuation τ sig (Elt F) := fun c => StableHlo.after opsE (W8 m c)
theorem W9_of (c : Dev nD) (r : Ref sig .tc) (h : r ∉ outsE) : W9 m c (Proc.devRef .tc r) = W8 m c (Proc.devRef .tc r) :=
  StableHlo.after_of_writes_sub opsE _ opsE_writes h
theorem W9_args (c : Dev nD) : ∀ a ∈ argRefs, W9 m c (Proc.devRef .tc a) = m ((c : Thread nD τ).loc a) :=
  fun a ha => (W9_of m c a (args_outsE a ha)).trans (W8_args m c a ha)
/-- The same at the TensorCore's references. -/
abbrev V9 : (c : Dev nD) → (b : Ref sig .tc) → Buf (Elt F) ((c : Thread nD τ).loc b) := fun c b => W9 m c b

end Cert.Proof.Run

end
-- ==== Proof.Regs.lean ====
/-
  The three TensorCore calls, each taking all the unscoped buffers from what they hold before it to what they hold after.
-/
module

public import proofs.«01_k».proof.Proof.Fold
public import Idealize.ShloMosaic.Lib.Pipeline.RegionsLoop

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-- No pipeline has a prefetched table. -/
abbrev adm : (p : Fin 3) → (pcfgs (F := F) p).Adm := fun p => (cfgs p).toPCfg_adm

/-- Every pipeline's proof data, at the contents its call is entered from. -/
def pdats : (p : Fin 3) → (c : Dev nD) → Dat τ (Elt F) (HIx 1) ℕ UU ℕ (Pipeline.pin (pcfgs (F := F)) adm p) c
  | ⟨0, _⟩ => fun c => encDat (V1 m) (Own (F := F) 0) (Bnd (F := F) 0) c
  | ⟨1, _⟩ => fun c => nearDat (V3 m) (Own (F := F) 0) (Bnd (F := F) 0) c
  | ⟨2, _⟩ => fun c => decDat (V7 m) (Own (F := F) 1) (Bnd (F := F) 1) c

/-- What a core owes the SparseCores before call `n` of the gather, its waits so far below that. -/
abbrev Due (n : ℕ) (c : Dev nD) : sProp 𝕄 :=
  iprop(∃ W, ⌜(K (F := F)).WBelow (SparseCore.T c) W (8 * n)⌝ ∗ owes (SparseCore.T c) ((K (F := F)).Otc c n) W)

/-- What rides beside the buffers: the generator register and what the core owes. -/
abbrev Beside (n : ℕ) (c : Dev nD) : sProp 𝕄 := iprop((∃ r, prngReg c r) ∗ Due (F := F) n c)

/-- A pipeline's call in the program is its call below the dispatch, lifted. -/
theorem callTc_lift (p : Fin 3) : (callTc (F := F) p) = SparseCore.liftProg (nD := nD) (pr := .tc) (.op (.customCall (Pipeline.entry p) ()) fun a => .ret a) := rfl

theorem own_none (c : Dev nD) (n : ℕ) : ∀ g, (K (F := F)).Otc c n g none = 0 := fun g => by
  rcases Nat.eq_zero_or_pos ((K (F := F)).Otc c n g none) with h | h
  · exact h
  · exact absurd ((K (F := F)).lev_of_Otc_pos h) (by show ¬ _ ≤ 0; omega)

set_option backward.isDefEq.respectTransparency.types false in
/-- The call `enc`. -/
def encReg : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (enc_obligation (V1 m) (Own (F := F) 0) (Bnd (F := F) 0) c).loose
  hwaits c := Pipeline.cellsWaits_intro _ _ _ _ c fun w s t => (K (F := F)).mayWait_none _ (own_none c 0)
  pre c := iprop(StableHlo.held (c : Thread nD τ) (Pipeline.ucRefs τ sig) (W1 m c) ∗ Beside (F := F) 0 c)
  post c := iprop(StableHlo.held (c : Thread nD τ) (Pipeline.ucRefs τ sig) (W2 m c) ∗ Beside (F := F) 0 c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (encDat_A (V1 m) (Own (F := F) 0) (Bnd (F := F) 0) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = iprop(Pipeline.scopedRest (Ix := HIx 1) (Name := ℕ) (U := UU) (Lvl := ℕ) (Val := Elt F) spec0 c ∗ ∃ r, prngReg c r) from rfl]
    iintro ⟨Hp, -, Hr⟩
    isplitl [Hr]; · iexact Hr
    iexact Hp
  hout c := by
    rw [Pipeline.ownSems0_none, show (pdats m 0 c).Φ (Fin.last _) = iprop(Pipeline.scopedRest (Ix := HIx 1) (Name := ℕ) (U := UU) (Lvl := ℕ) (Val := Elt F) spec0 c ∗ ∃ r, prngReg c r) from rfl]
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (W2_fill m c) (W2_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, h⟩
      · exact h
      · rw [h]; exact Nat.zero_le _
    iexact HO

set_option backward.isDefEq.respectTransparency.types false in
/-- The call `enc` in the program, before what follows it. -/
theorem enc_step (c : Dev nD) {β : Type} (k : PUnit → Prog (TpuEff nD τ sig (Elt F) (SparseCore.Sig (LP (F := F)) 1) .tc) β) (Q : β → sProp 𝕄) :
    iprop((iprop(boundary (c : Thread nD τ) ∗ StableHlo.held (c : Thread nD τ) (Pipeline.ucRefs τ sig) (W2 m c) ∗ Beside (F := F) 0 c)
          -∗ wp frame (wpE ((K (F := F)).defs (D (F := F))) 𝒱 (c : Thread nD τ) none) Set.univ (k ⟨⟩) Q)
        ∗ boundary (c : Thread nD τ) ∗ (StableHlo.held (c : Thread nD τ) (Pipeline.ucRefs τ sig) (W1 m c) ∗ Beside (F := F) 0 c)
        ∗ levAts (K (F := F)).L (K (F := F)).lev
        ∗ Pipeline.cellsGhost (Pipeline.pin (pcfgs (F := F)) adm) (EP (F := F)) 0 c ∗ Pipeline.toksInit (Pipeline.pin (pcfgs (F := F)) adm) (EP (F := F)) 0 c)
      ⊢ wp frame (wpE ((K (F := F)).defs (D (F := F))) 𝒱 (c : Thread nD τ) none) Set.univ (callTc 0 >>= k) Q := by
  rw [wp_bind, callTc_lift]
  refine BI.Entails.trans ?_ ((K (F := F)).wp_liftProg (D (F := F)) 𝒱 (c : Thread nD τ) Set.univ none (.op (.customCall (Pipeline.entry 0) ()) fun a => .ret a) _)
  refine BI.Entails.trans ?_ (Pipeline.RegionSeg.wp (pcfgs (F := F)) adm (pdats m) none cellOf_inj (EP (F := F)) defs₀ 𝒱₀ (K (F := F)).L (K (F := F)).lev (encReg m) c
    none (fun _ h => nomatch h) (fun a => .ret a) _)
  have hk : iprop(iprop(boundary (c : Thread nD τ) ∗ StableHlo.held (c : Thread nD τ) (Pipeline.ucRefs τ sig) (W2 m c) ∗ Beside (F := F) 0 c)
          -∗ wp frame (wpE ((K (F := F)).defs (D (F := F))) 𝒱 (c : Thread nD τ) none) Set.univ (k ⟨⟩) Q)
      ⊢ (iprop(iprop(boundary (c : Thread nD τ) ∗ StableHlo.held (c : Thread nD τ) (Pipeline.ucRefs τ sig) (W2 m c) ∗ Beside (F := F) 0 c)
          -∗ wp frame (wpE (D (F := F)) 𝒱 (c : Thread nD τ) none) Set.univ (.ret ⟨⟩)
            fun a => wp frame (wpE ((K (F := F)).defs (D (F := F))) 𝒱 (c : Thread nD τ) none) Set.univ (k a) Q) : sProp 𝕄) := by
    iintro Hk H
    rw [wp_ret]; imodintro
    iapply Hk; iexact H
  exact sep_mono hk .rfl

set_option backward.isDefEq.respectTransparency.types false in
/-- The call `near`. -/
def nearReg : Pipeline.RegionSeg (pcfgs (F := F)) adm (pdats m) none defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (near_obligation (V3 m) (Own (F := F) 0) (Bnd (F := F) 0) c).loose
  hwaits c := Pipeline.cellsWaits_intro _ _ _ _ c fun w s t => (K (F := F)).mayWait_none _ (own_none c 0)
  pre c := iprop(StableHlo.held (c : Thread nD τ) (Pipeline.ucRefs τ sig) (W3 m c) ∗ Beside (F := F) 0 c)
  post c := iprop(StableHlo.held (c : Thread nD τ) (Pipeline.ucRefs τ sig) (W4 m c) ∗ Beside (F := F) 0 c)
  X c := iprop(∃ r, prngReg c r)
  Y c := iprop(∃ r, prngReg c r)
  Z c := Pipeline.unscopedRest (Ix := HIx 1) (Name := ℕ) (U := UU) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (nearDat_A (V3 m) (Own (F := F) 0) (Bnd (F := F) 0) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 1 c).Φ 0 = iprop(Pipeline.scopedRest (Ix := HIx 1) (Name := ℕ) (U := UU) (Lvl := ℕ) (Val := Elt F) spec1 c ∗ ∃ r, prngReg c r) from rfl]
    iintro ⟨Hp, -, Hr⟩
    isplitl [Hr]; · iexact Hr
    iexact Hp
  hout c := by
    rw [Pipeline.ownSems0_none, show (pdats m 1 c).Φ (Fin.last _) = iprop(Pipeline.scopedRest (Ix := HIx 1) (Name := ℕ) (U := UU) (Lvl := ℕ) (Val := Elt F) spec1 c ∗ ∃ r, prngReg c r) from rfl]
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch1.win launch1.arr_whole c (pdats m) ((pdats m 1 c).share_full fun _ => rfl)
      (V3 m c) (V4 m c) ((pdats m 1 c).arrAt · cfg1.N) (W4_fill m c) (W4_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, h⟩
      · exact h
      · rw [h]; exact Nat.zero_le _
    iexact HO

set_option backward.isDefEq.respectTransparency.types false in
/-- The call `near` in the program, before what follows it. -/
theorem near_step (c : Dev nD) {β : Type} (k : PUnit → Prog (TpuEff nD τ sig (Elt F) (SparseCore.Sig (LP (F := F)) 1) .tc) β) (Q : β → sProp 𝕄) :
    iprop((iprop(boundary (c : Thread nD τ) ∗ StableHlo.held (c : Thread nD τ) (Pipeline.ucRefs τ sig) (W4 m c) ∗ Beside (F := F) 0 c)
          -∗ wp frame (wpE ((K (F := F)).defs (D (F := F))) 𝒱 (c : Thread nD τ) none) Set.univ (k ⟨⟩) Q)
        ∗ boundary (c : Thread nD τ) ∗ (StableHlo.held (c : Thread nD τ) (Pipeline.ucRefs τ sig) (W3 m c) ∗ Beside (F := F) 0 c)
        ∗ levAts (K (F := F)).L (K (F := F)).lev
        ∗ Pipeline.cellsGhost (Pipeline.pin (pcfgs (F := F)) adm) (EP (F := F)) 1 c ∗ Pipeline.toksInit (Pipeline.pin (pcfgs (F := F)) adm) (EP (F := F)) 1 c)
      ⊢ wp frame (wpE ((K (F := F)).defs (D (F := F))) 𝒱 (c : Thread nD τ) none) Set.univ (callTc 1 >>= k) Q := by
  rw [wp_bind, callTc_lift]
  refine BI.Entails.trans ?_ ((K (F := F)).wp_liftProg (D (F := F)) 𝒱 (c : Thread nD τ) Set.univ none (.op (.customCall (Pipeline.entry 1) ()) fun a => .ret a) _)
  refine BI.Entails.trans ?_ (Pipeline.RegionSeg.wp (pcfgs (F := F)) adm (pdats m) none cellOf_inj (EP (F := F)) defs₀ 𝒱₀ (K (F := F)).L (K (F := F)).lev (nearReg m) c
    none (fun _ h => nomatch h) (fun a => .ret a) _)
  have hk : iprop(iprop(boundary (c : Thread nD τ) ∗ StableHlo.held (c : Thread nD τ) (Pipeline.ucRefs τ sig) (W4 m c) ∗ Beside (F := F) 0 c)
          -∗ wp frame (wpE ((K (F := F)).defs (D (F := F))) 𝒱 (c : Thread nD τ) none) Set.univ (k ⟨⟩) Q)
      ⊢ (iprop(iprop(boundary (c : Thread nD τ) ∗ StableHlo.held (c : Thread nD τ) (Pipeline.ucRefs τ sig) (W4 m c) ∗ Beside (F := F) 0 c)
          -∗ wp frame (wpE (D (F := F)) 𝒱 (c : Thread nD τ) none) Set.univ (.ret ⟨⟩)
            fun a => wp frame (wpE ((K (F := F)).defs (D (F := F))) 𝒱 (c : Thread nD τ) none) Set.univ (k a) Q) : sProp 𝕄) := by
    iintro Hk H
    rw [wp_ret]; imodintro
    iapply Hk; iexact H
  exact sep_mono hk .rfl

set_option backward.isDefEq.respectTransparency.types false in
/-- The call `dec`. -/
def decReg : Pipeline.RegionSeg (pcfgs (F := F)) adm (pdats m) none defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (dec_obligation (V7 m) (Own (F := F) 1) (Bnd (F := F) 1) c).loose
  hwaits c := Pipeline.cellsWaits_intro _ _ _ _ c fun w s t => (K (F := F)).mayWait_none _ (own_none c 1)
  pre c := iprop(StableHlo.held (c : Thread nD τ) (Pipeline.ucRefs τ sig) (W7 m c) ∗ Beside (F := F) 1 c)
  post c := iprop(StableHlo.held (c : Thread nD τ) (Pipeline.ucRefs τ sig) (W8 m c) ∗ Beside (F := F) 1 c)
  X c := iprop(∃ r, prngReg c r)
  Y c := iprop(∃ r, prngReg c r)
  Z c := Pipeline.unscopedRest (Ix := HIx 1) (Name := ℕ) (U := UU) (Lvl := ℕ) spec3 c (V7 m c)
  hentry c := by
    rw [Pipeline.ownSems0_none]
    have hsplit := Pipeline.arrays_of_unscopedBufs (p := 2) (pcfgs (F := F)) adm (pdats m) launch3.win launch3.arr_whole c
      ((pdats m 2 c).share_full fun _ => rfl) (V7 m c) (decDat_A (V7 m) (Own (F := F) 1) (Bnd (F := F) 1) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 2 c).Φ 0 = iprop(Pipeline.scopedRest (Ix := HIx 1) (Name := ℕ) (U := UU) (Lvl := ℕ) (Val := Elt F) spec3 c ∗ ∃ r, prngReg c r) from rfl]
    iintro ⟨Hp, -, Hr⟩
    isplitl [Hr]; · iexact Hr
    iexact Hp
  hout c := by
    rw [Pipeline.ownSems0_none, show (pdats m 2 c).Φ (Fin.last _) = iprop(Pipeline.scopedRest (Ix := HIx 1) (Name := ℕ) (U := UU) (Lvl := ℕ) (Val := Elt F) spec3 c ∗ ∃ r, prngReg c r) from rfl]
    iintro ⟨Hr, Hp⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats m) ((pdats m 2 c).share_full fun _ => rfl)
      (V7 m c) (V8 m c) ((pdats m 2 c).arrAt · cfg3.N) (W8_fill m c) (W8_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; intro p hp
      rcases hW hp with h | ⟨w, s, h⟩
      · exact h
      · rw [h]; exact Nat.zero_le _
    iexact HO

set_option backward.isDefEq.respectTransparency.types false in
/-- The call `dec` in the program, before what follows it. -/
theorem dec_step (c : Dev nD) {β : Type} (k : PUnit → Prog (TpuEff nD τ sig (Elt F) (SparseCore.Sig (LP (F := F)) 1) .tc) β) (Q : β → sProp 𝕄) :
    iprop((iprop(boundary (c : Thread nD τ) ∗ StableHlo.held (c : Thread nD τ) (Pipeline.ucRefs τ sig) (W8 m c) ∗ Beside (F := F) 1 c)
          -∗ wp frame (wpE ((K (F := F)).defs (D (F := F))) 𝒱 (c : Thread nD τ) none) Set.univ (k ⟨⟩) Q)
        ∗ boundary (c : Thread nD τ) ∗ (StableHlo.held (c : Thread nD τ) (Pipeline.ucRefs τ sig) (W7 m c) ∗ Beside (F := F) 1 c)
        ∗ levAts (K (F := F)).L (K (F := F)).lev
        ∗ Pipeline.cellsGhost (Pipeline.pin (pcfgs (F := F)) adm) (EP (F := F)) 2 c ∗ Pipeline.toksInit (Pipeline.pin (pcfgs (F := F)) adm) (EP (F := F)) 2 c)
      ⊢ wp frame (wpE ((K (F := F)).defs (D (F := F))) 𝒱 (c : Thread nD τ) none) Set.univ (callTc 2 >>= k) Q := by
  rw [wp_bind, callTc_lift]
  refine BI.Entails.trans ?_ ((K (F := F)).wp_liftProg (D (F := F)) 𝒱 (c : Thread nD τ) Set.univ none (.op (.customCall (Pipeline.entry 2) ()) fun a => .ret a) _)
  refine BI.Entails.trans ?_ (Pipeline.RegionSeg.wp (pcfgs (F := F)) adm (pdats m) none cellOf_inj (EP (F := F)) defs₀ 𝒱₀ (K (F := F)).L (K (F := F)).lev (decReg m) c
    none (fun _ h => nomatch h) (fun a => .ret a) _)
  have hk : iprop(iprop(boundary (c : Thread nD τ) ∗ StableHlo.held (c : Thread nD τ) (Pipeline.ucRefs τ sig) (W8 m c) ∗ Beside (F := F) 1 c)
          -∗ wp frame (wpE ((K (F := F)).defs (D (F := F))) 𝒱 (c : Thread nD τ) none) Set.univ (k ⟨⟩) Q)
      ⊢ (iprop(iprop(boundary (c : Thread nD τ) ∗ StableHlo.held (c : Thread nD τ) (Pipeline.ucRefs τ sig) (W8 m c) ∗ Beside (F := F) 1 c)
          -∗ wp frame (wpE (D (F := F)) 𝒱 (c : Thread nD τ) none) Set.univ (.ret ⟨⟩)
            fun a => wp frame (wpE ((K (F := F)).defs (D (F := F))) 𝒱 (c : Thread nD τ) none) Set.univ (k a) Q) : sProp 𝕄) := by
    iintro Hk H
    rw [wp_ret]; imodintro
    iapply Hk; iexact H
  exact sep_mono hk .rfl

end Cert.Proof.Run

end
-- ==== Proof.Main.lean ====
/-
  The whole program on a TensorCore, and the launch: every weakly fair run ends, with every unscoped buffer of every device at
  what the last valuation names and every semaphore at zero.
-/
module

public import proofs.«01_k».proof.Proof.Regs

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The gather's payloads, at what its operands hold when it is called. -/
abbrev Pm : (K (F := F)).Pay (nD := nD) (Val := Elt F) (Name := ℕ) (U := UU) := P (tbOf m) (ixOf m) (o0Of m)

/-- The gather's three operands. -/
abbrev opsRefs : Finset (DevRef τ sig) := {Proc.devRef .tc main_v50, Proc.devRef .tc main_v47, Proc.devRef .tc main_v51}

theorem opsRefs_sub : opsRefs ⊆ Pipeline.ucRefs τ sig := by
  intro b hb
  simp only [opsRefs, Finset.mem_insert, Finset.mem_singleton] at hb
  rcases hb with rfl | rfl | rfl
  · exact mem_uc main_v50 (by decide)
  · exact mem_uc main_v47 (by decide)
  · exact mem_uc main_v51 (by decide)

theorem held_ops (c : Dev nD) (V : Valuation τ sig (Elt F)) : (StableHlo.held (c : Thread nD τ) opsRefs V : sProp 𝕄)
    = iprop((iLoc c ↦{fullShare} V (Proc.devRef .tc main_v50)) ∗ (tLoc c ↦{fullShare} V (Proc.devRef .tc main_v47)) ∗ oLoc c ↦{fullShare} V (Proc.devRef .tc main_v51)) := by
  unfold StableHlo.held opsRefs
  rw [SparseCore.bigSep_insert' (by decide), SparseCore.bigSep_insert' (by decide), bigSep_singleton]

theorem W6_off (c : Dev nD) : ∀ b ∈ Pipeline.ucRefs τ sig \ opsRefs, W6 m c b = W5 m c b := fun b hb =>
  Function.update_of_ne (fun h => (Finset.mem_sdiff.mp hb).2 (by rw [h]; simp [opsRefs])) _ _

set_option backward.isDefEq.respectTransparency.types false in
/-- The gather in the program, before what follows it. -/
theorem gather_step (κ : GSem nD τ sig → ℕ) (c : Dev nD) {β : Type} (k : PUnit → Prog (TpuEff nD τ sig (Elt F) (SparseCore.Sig (LP (F := F)) 1) .tc) β) (Q : β → sProp 𝕄) :
    iprop((K (F := F)).ctx EH (Pm m) κ ∗ (K (F := F)).tcSt EH c 0 ∗ StableHlo.held (c : Thread nD τ) (Pipeline.ucRefs τ sig) (W5 m c)
        ∗ (iprop((K (F := F)).tcSt EH c 1 ∗ StableHlo.held (c : Thread nD τ) (Pipeline.ucRefs τ sig) (W6 m c))
          -∗ wp frame (wpE ((K (F := F)).defs (D (F := F))) 𝒱 (SparseCore.T c) none) Set.univ (k ⟨⟩) Q))
      ⊢ wp frame (wpE ((K (F := F)).defs (D (F := F))) 𝒱 (SparseCore.T c) none) Set.univ (sc.run c 0 >>= k) Q := by
  rw [wp_bind, StableHlo.held_sub_split (c : Thread nD τ) opsRefs_sub (W5 m c), StableHlo.held_sub_split (c : Thread nD τ) opsRefs_sub (W6 m c),
    held_ops, held_ops, StableHlo.held_congr (c : Thread nD τ) (W6_off m c), W6_out, W6_of m c main_v50 (by decide), W6_of m c main_v47 (by decide)]
  iintro ⟨#Hctx, Hst, ⟨Ho, Hr⟩, Hk⟩
  iapply ((K (F := F)).wp_run (D (F := F)) 𝒱 (EH := EH) (P := Pm m) κ c 0)
  isplitr; · iexact Hctx
  isplitl [Hst]; · iexact Hst
  isplitl [Ho]
  · rw [st_eq]; iexact Ho
  iintro ⟨Hst, Hdn⟩
  ihave Hdn' := (Entails.of_eq (dn_eq (tbOf m) (ixOf m) (o0Of m) c)) $$ Hdn
  iapply Hk
  isplitl [Hst]; · iexact Hst
  isplitl [Hdn']; · iexact Hdn'
  iexact Hr

/-- The rounds of the three pipelines, as the launch deals them to a core. -/
abbrev Ghost (c : Dev nD) : sProp 𝕄 :=
  bigSep Finset.univ fun p : Fin 3 => iprop(Pipeline.cellsGhost (Pipeline.pin (pcfgs (F := F)) adm) (EP (F := F)) p c ∗ Pipeline.toksInit (Pipeline.pin (pcfgs (F := F)) adm) (EP (F := F)) p c)

/-- The rounds of pipeline `p`. -/
abbrev Gp (p : Fin 3) (c : Dev nD) : sProp 𝕄 :=
  iprop(Pipeline.cellsGhost (Pipeline.pin (pcfgs (F := F)) adm) (EP (F := F)) p c ∗ Pipeline.toksInit (Pipeline.pin (pcfgs (F := F)) adm) (EP (F := F)) p c)

theorem ghost_eq (c : Dev nD) : Ghost (F := F) c = iprop(Gp (F := F) 0 c ∗ Gp (F := F) 1 c ∗ Gp (F := F) 2 c) := by
  unfold Ghost
  rw [bigSep_univ_eq_bigSepL [(0 : Fin 3), (1 : Fin 3), (2 : Fin 3)] (by decide) (by decide)]
  rfl

/-- What a core ends with: every unscoped buffer at the last valuation. -/
abbrev Fin9 (c : Dev nD) : sProp 𝕄 := StableHlo.held (c : Thread nD τ) (Pipeline.ucRefs τ sig) (W9 m c)

theorem sub_uc {l : List (HloOp τ sig (Elt F))} (h : l.Forall fun op => op.bufs ⊆ StableHlo.tcRefs τ sig) : ∀ op ∈ l, op.bufs ⊆ Pipeline.ucRefs τ sig :=
  fun op ho => Pipeline.sub_ucRefs op ((List.forall_iff_forall_mem.mp h) op ho)
theorem fresh_mem {l : List (HloOp τ sig (Elt F))} (h : l.Forall fun op => op.fresh = ∅) : ∀ op ∈ l, op.fresh = ∅ :=
  fun op ho => (List.forall_iff_forall_mem.mp h) op ho

set_option backward.isDefEq.respectTransparency.types false in
/-- The program on device `c`'s TensorCore. -/
theorem hmain (κ : GSem nD τ sig → ℕ) (c : Dev nD) :
    iprop((K (F := F)).ctx EH (Pm m) κ ∗ (K (F := F)).tcSt EH c 0 ∗ (K (F := F)).tcRes m ρ c ∗ Ghost (F := F) c)
      ⊢ wp frame (wpE ((K (F := F)).defs (D (F := F))) 𝒱 (SparseCore.T c) none) Set.univ (main c)
          fun _ => iprop((K (F := F)).tcSt EH c 1 ∗ Fin9 m c ∗ (K (F := F)).tcEnd c) := by
  rw [main_eq]
  unfold SparseCore.Cfg.tcRes SparseCore.Cfg.tcEnd
  rw [show unscopedBufs c (fun b => m ((SparseCore.T c).loc b)) = StableHlo.held (c : Thread nD τ) (Pipeline.ucRefs τ sig) (W0 m c)
        from Pipeline.unscopedBufs_held c (W0 m c), ghost_eq]
  iintro ⟨#Hctx, Hst, ⟨Hb, Hh, Hts, Hp⟩, HG0, HG1, HG2⟩
  ihave #Hlev := (SparseCore.Cfg.ctx_levAts κ) $$ Hctx
  ihave Hst' := (show (K (F := F)).tcSt EH c 0 ⊢ iprop(Due (F := F) 0 c ∗ (Due (F := F) 0 c -∗ (K (F := F)).tcSt EH c 0)) from by
    unfold SparseCore.Cfg.tcSt
    iintro ⟨HO, Hr⟩
    isplitl [HO]; · iexact HO
    iintro HO
    isplitl [HO]; · iexact HO
    iexact Hr) $$ Hst
  icases Hst' with ⟨HO, Hst⟩
  iapply (StableHlo.wp_seq 𝒱 none Set.univ c (Pipeline.ucRefs τ sig) _ opsA (sub_uc opsA_sub) (fresh_mem opsA_fresh) (W0 m c)) $$ [Hb Hh]
  · isplitl [Hb] <;> iassumption
  iintro ⟨Hb, Hh⟩
  iapply (enc_step m c)
  isplitr [Hb Hh HG0 HO Hp]
  swap
  · isplitl [Hb]; · iexact Hb
    isplitl [Hh HO Hp]
    · isplitl [Hh]; · iexact Hh
      isplitl [Hp]; · iexists _; iexact Hp
      iexact HO
    isplitr; · iexact Hlev
    iexact HG0
  iintro ⟨Hb, Hh, Hp, HO⟩
  iapply (StableHlo.wp_seq 𝒱 none Set.univ c (Pipeline.ucRefs τ sig) _ opsB (sub_uc opsB_sub) (fresh_mem opsB_fresh) (W2 m c)) $$ [Hb Hh]
  · isplitl [Hb] <;> iassumption
  iintro ⟨Hb, Hh⟩
  iapply (near_step m c)
  isplitr [Hb Hh HG1 HO Hp]
  swap
  · isplitl [Hb]; · iexact Hb
    isplitl [Hh HO Hp]
    · isplitl [Hh]; · iexact Hh
      isplitl [Hp]; · iexact Hp
      iexact HO
    isplitr; · iexact Hlev
    iexact HG1
  iintro ⟨Hb, Hh, Hp, HO⟩
  iapply (StableHlo.wp_seq 𝒱 none Set.univ c (Pipeline.ucRefs τ sig) _ opsC (sub_uc opsC_sub) (fresh_mem opsC_fresh) (W4 m c)) $$ [Hb Hh]
  · isplitl [Hb] <;> iassumption
  iintro ⟨Hb, Hh⟩
  ispecialize Hst $$ HO
  iapply (gather_step m κ c)
  isplitr; · iexact Hctx
  isplitl [Hst]; · iexact Hst
  isplitl [Hh]; · iexact Hh
  iintro ⟨Hst, Hh⟩
  ihave Hst' := (show (K (F := F)).tcSt EH c 1 ⊢ iprop(Due (F := F) 1 c ∗ (Due (F := F) 1 c -∗ (K (F := F)).tcSt EH c 1)) from by
    unfold SparseCore.Cfg.tcSt
    iintro ⟨HO, Hr⟩
    isplitl [HO]; · iexact HO
    iintro HO
    isplitl [HO]; · iexact HO
    iexact Hr) $$ Hst
  icases Hst' with ⟨HO, Hst⟩
  iapply (StableHlo.wp_seq 𝒱 none Set.univ c (Pipeline.ucRefs τ sig) _ opsD (sub_uc opsD_sub) (fresh_mem opsD_fresh) (W6 m c)) $$ [Hb Hh]
  · isplitl [Hb] <;> iassumption
  iintro ⟨Hb, Hh⟩
  iapply (dec_step m c)
  isplitr [Hb Hh HG2 HO Hp]
  swap
  · isplitl [Hb]; · iexact Hb
    isplitl [Hh HO Hp]
    · isplitl [Hh]; · iexact Hh
      isplitl [Hp]; · iexact Hp
      iexact HO
    isplitr; · iexact Hlev
    iexact HG2
  iintro ⟨Hb, Hh, Hp, HO⟩
  iapply (StableHlo.wp_seq 𝒱 none Set.univ c (Pipeline.ucRefs τ sig) _ opsE (sub_uc opsE_sub) (fresh_mem opsE_fresh) (W8 m c)) $$ [Hb Hh]
  · isplitl [Hb] <;> iassumption
  iintro ⟨Hb, Hh⟩
  ispecialize Hst $$ HO
  rw [wp_pure]; imodintro
  isplitl [Hst]; · iexact Hst
  isplitl [Hh]; · iexact Hh
  isplitl [Hb] <;> iassumption

theorem nothing {I : Type} (s : Finset I) : (bigSep s fun _ => iprop(emp)) = (iprop(emp) : sProp 𝕄) := bigSep_emp_const s

/-- The launch's ghost state, dealt. -/
theorem hu₀ : (ownU (u₀ (F := F)) : sProp 𝕄)
    ⊢ |={Set.univ}=> iprop(BI.own (EH (initOf (K (F := F)).hsCells (K (F := F)).hsToks)) ∗ (bigSep Finset.univ fun c : Dev nD => Ghost (F := F) c)
        ∗ bigSep Finset.univ fun thr : Thread nD τ => bigSep Finset.univ fun q : Fin 1 => (Pm m).x q thr) := by
  unfold u₀
  iintro Hu
  ihave H := (ownU_pair (initOf (K (F := F)).hsCells (K (F := F)).hsToks)
    ((initOf (Pipeline.cells cfgs cellOf_inj) (Pipeline.launchToks cfgs cellOf_inj), 1) : UG)) $$ Hu
  icases H with ⟨HH, HR⟩
  ihave HR' := (own_pair_emb (embR : Emb UG 𝕄) (initOf (Pipeline.cells cfgs cellOf_inj) (Pipeline.launchToks cfgs cellOf_inj)) (1 : Counters)) $$ HR
  icases HR' with ⟨HR, -⟩
  imod (Pipeline.fund_ghost (Pipeline.pin (pcfgs (F := F)) adm) (EP (F := F)) cellOf_inj) $$ [HR] with ⟨Hc, Ht⟩
  · iexact HR
  imodintro
  isplitl [HH]; · iexact HH
  isplitl [Hc Ht]
  · unfold Ghost
    simp only [bigSep_sep']
    isplitl [Hc] <;> iassumption
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), nothing]
  iempintro

/-- What is read of a final state. -/
def Ends (c : Dev nD) (s' : Phys nD τ sig (Elt F)) : Prop := ∀ b ∈ Pipeline.ucRefs τ sig, s'.mem.mem ((c : Thread nD τ).1, b) = W9 m c b

theorem hfin (c : Dev nD) (s' : Phys nD τ sig (Elt F)) : iprop(Fin9 m c ∗ SI s') ⊢ (⌜Ends m c s'⌝ : sProp 𝕄) := by
  iintro ⟨Hh, HSI⟩
  unfold Fin9 StableHlo.held
  ihave H := (pointsTo_read_all (Pipeline.ucRefs τ sig) (fun b => ((c : Thread nD τ).1, b)) (W9 m c) s') $$ [Hh HSI]
  · isplitl [Hh] <;> iassumption
  icases H with ⟨%h, -⟩
  ipureintro; exact h

/-- THE RUN: from any memory whose halved codes all name a row of the paired codebook when the gather is called. -/
theorem run_main [∀ e, Nonempty (Elt F e)] (hix : ∀ d (j : S32x512.Idx), (ixOf m d j : BitVec 32).toNat < 4096) :
    θ_run (Cert.KernelIdeal.defs (F := F)) (Cert.KernelIdeal.threads (F := F)) ⟨m, fun _ => 0, ρ⟩
      (fun r => (∀ c : Dev nD, ∀ b ∈ Pipeline.ucRefs τ sig, r.2.mem ((c : Thread nD τ).1, b) = W9 m c b) ∧ r.2.sem = fun _ => 0) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (tbOf m) (ixOf m) (o0Of m) hix)
    (fun q _ => match q with | 0 => SparseCore.Cfg.VecSplit.of_plain (vecSplit (tbOf m) (ixOf m) (o0Of m)))
    m ρ main (Ghost (F := F)) (Fin9 m) (u₀ (F := F)) (sep_elim_left.trans (hu₀ m)) (hmain m ρ) (Ends m) (hfin m) _ (fun _ h hz => ⟨h, hz⟩)

end Cert.Proof.Run

end
-- ==== Proof.Least.lean ====
/-
  The least index that a test marks, as the signed minimum over the marked indices computes it.
-/
module

public import proofs.«01_k».proof.Proof.Setup
public import Idealize.ShloMosaic.Lib.WordCmp
public import Idealize.ShloMosaic.PureOps.Reduce

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

/-- The signed minimum of the marked indices, every other index standing as 8191. -/
def codeOf (d : Fin 8192 → BitVec 1) : BitVec 32 :=
  Finset.univ.fold IntOp.minsi 2147483647#32 fun x : Fin 8192 => Scalar.select (d x) (BitVec.ofNat 32 x) 8191#32

/-- A fold of the signed minimum is below every term, and is a term or what it started from. -/
theorem fold_minsi {ι : Type} [DecidableEq ι] (b : BitVec 32) (f : ι → BitVec 32) (S : Finset ι) :
    (∀ x ∈ S, (S.fold IntOp.minsi b f).toInt ≤ (f x).toInt) ∧ (S.fold IntOp.minsi b f = b ∨ ∃ x ∈ S, S.fold IntOp.minsi b f = f x) := by
  induction S using Finset.induction_on with
  | empty => exact ⟨fun x hx => absurd hx (Finset.notMem_empty x), .inl (by simp)⟩
  | insert a S ha ih =>
    rw [Finset.fold_insert ha]
    by_cases h : (f a).slt (S.fold IntOp.minsi b f) = true
    · rw [show IntOp.minsi (f a) (S.fold IntOp.minsi b f) = f a from if_pos h]
      rw [BitVec.slt_eq_decide, decide_eq_true_eq] at h
      refine ⟨fun x hx => ?_, .inr ⟨a, Finset.mem_insert_self a S, rfl⟩⟩
      rcases Finset.mem_insert.mp hx with rfl | hx
      · exact le_rfl
      · exact h.le.trans (ih.1 x hx)
    · rw [show IntOp.minsi (f a) (S.fold IntOp.minsi b f) = S.fold IntOp.minsi b f from if_neg h]
      rw [BitVec.slt_eq_decide, decide_eq_true_eq, not_lt] at h
      refine ⟨fun x hx => ?_, ih.2.imp id fun ⟨x, hx, e⟩ => ⟨x, Finset.mem_insert_of_mem hx, e⟩⟩
      rcases Finset.mem_insert.mp hx with rfl | hx
      · exact h
      · exact ih.1 x hx

theorem term_val (d : Fin 8192 → BitVec 1) (x : Fin 8192) :
    (Scalar.select (d x) (BitVec.ofNat 32 x) 8191#32 : BitVec 32).toNat = if d x = 1 then x.val else 8191 := by
  unfold Scalar.select
  have hx := x.isLt
  split
  · rw [BitVec.toNat_ofNat]; omega
  · rfl

theorem toInt_small (v : BitVec 32) (h : v.toNat < 8192) : v.toInt = v.toNat := by
  rw [BitVec.toInt_eq_toNat_cond]; omega

/-- It is one of its terms, and below every other. -/
theorem codeOf_term (d : Fin 8192 → BitVec 1) : ∃ x : Fin 8192, (codeOf d).toNat = (if d x = 1 then x.val else 8191)
    ∧ ∀ y : Fin 8192, (codeOf d).toNat ≤ (if d y = 1 then y.val else 8191) := by
  obtain ⟨hle, hor⟩ := fold_minsi 2147483647#32 (fun x : Fin 8192 => (Scalar.select (d x) (BitVec.ofNat 32 x) 8191#32 : BitVec 32)) Finset.univ
  have small : ∀ x : Fin 8192, (Scalar.select (d x) (BitVec.ofNat 32 x) 8191#32 : BitVec 32).toNat < 8192 := fun x => by
    rw [term_val]; have := x.isLt; split <;> omega
  rcases hor with h | ⟨x, -, h⟩
  · exfalso
    have h0 := hle 0 (Finset.mem_univ _)
    rw [h] at h0
    have h1 := toInt_small _ (small 0)
    have h2 := small 0
    have h3 : (2147483647#32 : BitVec 32).toInt = 2147483647 := by decide
    omega
  · refine ⟨x, ?_, fun y => ?_⟩
    · unfold codeOf; rw [h, term_val]
    · have hy := hle y (Finset.mem_univ _)
      rw [h, toInt_small _ (small x), toInt_small _ (small y)] at hy
      unfold codeOf; rw [h, ← term_val d y]; exact_mod_cast hy

theorem mk_eq {n a : ℕ} (h : a < n) (x : Fin n) (e : a = x.val) : (⟨a, h⟩ : Fin n) = x := Fin.ext e

theorem codeOf_lt (d : Fin 8192 → BitVec 1) : (codeOf d).toNat < 8192 := by
  obtain ⟨x, h, -⟩ := codeOf_term d
  have := x.isLt
  rw [h]; split <;> omega

/-- Where some index is marked, it is the least marked one. -/
theorem codeOf_spec (d : Fin 8192 → BitVec 1) (h : ∃ x, d x = 1) :
    d ⟨(codeOf d).toNat, codeOf_lt d⟩ = 1 ∧ ∀ y, d y = 1 → (codeOf d).toNat ≤ y.val := by
  obtain ⟨x, hx, hle⟩ := codeOf_term d
  refine ⟨?_, fun y hy => by have := hle y; rwa [if_pos hy] at this⟩
  obtain ⟨z, hz⟩ := h
  have hzle := hle z
  rw [if_pos hz] at hzle
  by_cases h1 : d x = 1
  · rw [if_pos h1] at hx
    rw [show (⟨(codeOf d).toNat, codeOf_lt d⟩ : Fin 8192) = x from mk_eq _ _ hx]; exact h1
  · rw [if_neg h1] at hx
    have hzl := z.isLt
    have e : (codeOf d).toNat = z.val := by clear hle h1; omega
    rw [show (⟨(codeOf d).toNat, codeOf_lt d⟩ : Fin 8192) = z from mk_eq _ _ e]; exact hz

end Cert.Proof.Run

end
-- ==== Proof.Codes.lean ====
/-
  The codes: the nearest-code call's output and the indices the gather reads are in range, whatever the float values are.
-/
module

public import proofs.«01_k».proof.Proof.Main
public import proofs.«01_k».proof.Proof.Least
public import Idealize.ShloMosaic.Lib.Pipeline.ValueKit
public import Idealize.ShloMosaic.Lib.StableHlo.RunRead
public import Idealize.ShloMosaic.Lib.StableHlo.ReadAt

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

open Idealize.ShloMosaic.ValueIdx (idx2_lt0 idx2_lt1)

/-- Every entry the body leaves is the least index of some test. -/
theorem nearVal_code (x0 : Vec F S64x256 .f32) (x1 : Vec F S8x256 .f32) (x2 : Vec F S8192x64 .f32) (x3 : Vec F S8192x1 .f32) (y : S8x256.Idx) :
    ∃ d, nearVal x0 x1 x2 x3 y = codeOf d := by
  unfold nearVal k1_pay1
  pointwise
  exact ⟨_, rfl⟩

theorem nearOut_eq (x0 : Vec F S64x256 .f32) (x1 : Vec F S8x256 .f32) (x2 : Vec F S8192x64 .f32) (x3 : Vec F S8192x1 .f32) :
    nearOut x0 x1 x2 x3 = nearVal x0 x1 x2 x3 :=
  View.canon_cons_unit_lit (Val := Elt F) (S := S8x256) (e := .i32) inb_S8x256_S8x256_0_0 _ [] (by decide)

variable (m : (ℓ : Loc nD τ sig) → Buf (Elt F) ℓ)

/-- Every code the second call leaves is a row of the codebook. -/
theorem codes_lt (c : Dev nD) (i : S8x16384.Idx) : (W4 m c (Proc.devRef .tc main_v43) i : BitVec 32).toNat < 8192 := by
  have h := (nearDat (V3 m) (Own (F := F) 0) (Bnd (F := F) 0) c).arrAt_forall_of_covers 4 (fun _ v => (v : BitVec 32).toNat < 8192)
    (by decide +kernel) (fun t hf y => by
      blk_simp
      rw [nearDat_after4, nearOut_eq]
      obtain ⟨d, hd⟩ := nearVal_code (nearBlk (V3 m) c 0 t) (nearBlk (V3 m) c 1 t) (nearBlk (V3 m) c 2 t) (nearBlk (V3 m) c 3 t) y
      rw [hd]; exact codeOf_lt d) i
  rw [← W4_arr m c 4] at h
  exact h

/-- The index the gather reads at `j` is the halved code of its row. -/
theorem ixOf_eq (c : Dev nD) (j : S32x512.Idx) : (ixOf m c j : BitVec 32)
    = (W4 m c (Proc.devRef .tc main_v43) (ix2 0 ⟨(j 0).val * 512 + (j 1).val, by have := idx2_lt0 j; have := idx2_lt1 j; omega⟩) : BitVec 32).sshiftRight 1 := by
  unfold ixOf W5
  generalize W4 m c = V
  after_reads_at
  rfl

theorem ix_lt (c : Dev nD) (j : S32x512.Idx) : (ixOf m c j : BitVec 32).toNat < 4096 := by
  rw [ixOf_eq]
  have h := codes_lt m c (ix2 0 ⟨(j 0).val * 512 + (j 1).val, by have := idx2_lt0 j; have := idx2_lt1 j; omega⟩)
  generalize (W4 m c (Proc.devRef .tc main_v43) (ix2 0 _) : BitVec 32) = v at h ⊢
  rw [BitVec.toNat_sshiftRight_of_msb_false (by rw [BitVec.msb_eq_decide, decide_eq_false_iff_not]; omega), Nat.shiftRight_eq_div_pow]
  omega

end Cert.Proof.Run

end
-- ==== Proof.Frames.lean ====
/-
  The kernel runs: its arguments end as they began and every counter is back at zero.
-/
module

public import proofs.«01_k».proof.Proof.Main
public import proofs.«01_k».proof.Proof.Codes
public import proofs.«01_k».proof.Defs
public import proofs.«01_k».proof.Proof.Gen.Kernel.Skeleton

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ) (ρ : Dev nD → PrngReg)

theorem args_unscoped : ∀ a ∈ argRefs, ¬ (Proc.devRef .tc a : DevRef τ sig).isScoped :=
  ListAll.forall_mem_of_all_decide (by decide +kernel)

/-- At the end an argument array holds what it held at launch. -/
theorem arg_end {r : PUnit × MemSt nD τ sig (Elt F)}
    (h : ∀ c : Dev nD, ∀ b ∈ Pipeline.ucRefs τ sig, r.2.mem ((c : Thread nD τ).1, b) = W9 m c b) (c : Dev nD) (a : Ref sig .tc)
    (ha : a ∈ argRefs) : r.2.mem ((c.tc : Thread nD τ).loc a) = m ((c.tc : Thread nD τ).loc a) :=
  (h c (Proc.devRef .tc a) (mem_uc a (args_unscoped a ha))).trans (W9_args m c a ha)

/-- Every argument array holds what it held at launch, and every counter is zero. -/
abbrev Kept (r : PUnit × MemSt nD τ sig (Elt F)) : Prop :=
  (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20) ∧ r.2.mem ((c.tc : Thread nD τ).loc main_arg21) = m ((c.tc : Thread nD τ).loc main_arg21)) ∧ r.2.sem = fun _ => 0

/-- The kernel runs, leaves its arguments and all counters at zero, whatever the float values are. -/
theorem frame_any [∀ e, Nonempty (Elt F e)] : θ_run (Cert.KernelIdeal.defs (F := F)) (Cert.KernelIdeal.threads (F := F)) ⟨m, fun _ => 0, ρ⟩ (Kept m) :=
  (θ_run (Cert.KernelIdeal.defs (F := F)) _ _).mono
    (fun _ h => ⟨fun c => ⟨arg_end m h.1 c main_arg0 (by decide), arg_end m h.1 c main_arg1 (by decide), arg_end m h.1 c main_arg2 (by decide), arg_end m h.1 c main_arg3 (by decide), arg_end m h.1 c main_arg4 (by decide), arg_end m h.1 c main_arg5 (by decide), arg_end m h.1 c main_arg6 (by decide), arg_end m h.1 c main_arg7 (by decide), arg_end m h.1 c main_arg8 (by decide), arg_end m h.1 c main_arg9 (by decide), arg_end m h.1 c main_arg10 (by decide), arg_end m h.1 c main_arg11 (by decide), arg_end m h.1 c main_arg12 (by decide), arg_end m h.1 c main_arg13 (by decide), arg_end m h.1 c main_arg14 (by decide), arg_end m h.1 c main_arg15 (by decide), arg_end m h.1 c main_arg16 (by decide), arg_end m h.1 c main_arg17 (by decide), arg_end m h.1 c main_arg18 (by decide), arg_end m h.1 c main_arg19 (by decide), arg_end m h.1 c main_arg20 (by decide), arg_end m h.1 c main_arg21 (by decide)⟩, h.2⟩)
    (run_main m ρ (ix_lt m))

/-- Over the reals. -/
theorem frame_ideal : Cert.quiescent_KernelIdeal := fun m ρ _ => frame_any (F := Ideal) m ρ

set_option maxHeartbeats 4000000 in
/-- The kernels' bodies have the same text over bit patterns. -/
theorem bodies_eq : (Cert.Kernel.defs₀ (F := Bits)) = Cert.KernelIdeal.defs₀ (F := Bits) := by
  funext p ℓ a
  cases p with
  | tc => match ℓ, a with
    | 0, a => rfl
    | 1, a => rfl
    | 2, a => rfl
    | 3, a => rfl
  | scVector c s => match ℓ, a with
    | 0, a => rfl
    | 1, a => rfl
    | 2, a => rfl
    | 3, a => rfl
  | scScalar c => match ℓ, a with
    | 0, a => rfl
    | 1, a => rfl
    | 2, a => rfl
    | 3, a => rfl

set_option maxHeartbeats 4000000 in
theorem defs_eq : (Cert.Kernel.defs (F := Bits)) = Cert.KernelIdeal.defs (F := Bits) :=
  congrArg (fun d => (Cert.KernelIdeal.sc (F := Bits)).defs (Pipeline.defs (Cert.KernelIdeal.pcfgs (F := Bits)) d)) bodies_eq

set_option maxHeartbeats 4000000 in
/-- Over bit patterns: the text is the same. -/
theorem frame_kernel : Cert.quiescent_Kernel := fun m ρ _ => by
  have h := frame_any (F := Bits) m ρ
  rw [← defs_eq] at h
  exact h

end Cert.Proof.Run

end
-- ==== Proof.Ref.lean ====
/-
  The reference as one line of operations, stage by stage, what each stage writes, its run, and what every buffer holds after each
  stage.
-/
module

public import proofs.«01_k».proof.Proof.Gen.ReferenceIdeal
public import proofs.«01_k».proof.Defs
public import Idealize.ShloMosaic.Lib.StableHlo.RunHlo
public import Idealize.ShloMosaic.Lib.StableHlo.RunRead
public import Idealize.ShloMosaic.Lib.StableHlo.ReadAt
public import Idealize.ShloMosaic.Lib.Pipeline.Regions
public import Idealize.ShloMosaic.Lib.Pipeline.ValueKit
public import Idealize.ShloMosaic.Lib.Quiescent

@[expose] public section

noncomputable section

namespace Cert.Proof.Ref

open Cert.ReferenceIdeal Cert.ReferenceIdeal.Gen
open Idealize.ShloMosaic Idealize.ShloMosaic.TcCoe
open Idealize.SL Idealize.SL.Sem

variable {F : FTy → Type} [FloatOps F]

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- The operations of the first encoder layer. -/
abbrev sL1 : List (HloOp τ sig (Elt F)) :=
  [ StableHlo.unary main_arg1 main_v0 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v0 main_v1 (rfl : (.f32 : EltTy) = .f32) shapeCasts_S1x64x64_S64x64,
    StableHlo.unary main_v1 main_v2 ((transpose S64x64 [1, 0] · transposes_S64x64_S64x64_1_0) : (⟨S64x64, .f32⟩ : BufTy).Contents (Elt F) → (⟨S64x64, .f32⟩ : BufTy).Contents (Elt F)),
    StableHlo.binary main_arg0 main_v2 main_v3 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    StableHlo.unary main_arg2 main_v4 ((extractStridedSlice S1x64 ![0, 0] · slices_S2x64_S1x64_0_0) : (⟨S2x64, .f32⟩ : BufTy).Contents (Elt F) → (⟨S1x64, .f32⟩ : BufTy).Contents (Elt F)),
    StableHlo.reshape main_v4 main_v5 (rfl : (.f32 : EltTy) = .f32) shapeCasts_S1x64_S64,
    StableHlo.unary main_v5 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S16384x64 ![0, 1] bcast_S1x64_S16384x64_0_1 : (⟨S1x64, .f32⟩ : BufTy).Contents (Elt F) → (⟨S16384x64, .f32⟩ : BufTy).Contents (Elt F)),
    StableHlo.binary main_v3 main_v7 main_v8 (addf : (⟨S16384x64, .f32⟩ : BufTy).Contents (Elt F) → (⟨S16384x64, .f32⟩ : BufTy).Contents (Elt F) → (⟨S16384x64, .f32⟩ : BufTy).Contents (Elt F)),
    StableHlo.unary main_arg3 main_v9 ((extractStridedSlice S1x64 ![0, 0] · slices_S2x64_S1x64_0_0) : (⟨S2x64, .f32⟩ : BufTy).Contents (Elt F) → (⟨S1x64, .f32⟩ : BufTy).Contents (Elt F)),
    StableHlo.reshape main_v9 main_v10 (rfl : (.f32 : EltTy) = .f32) shapeCasts_S1x64_S64,
    StableHlo.unary main_arg4 main_v11 ((extractStridedSlice S1x64 ![0, 0] · slices_S2x64_S1x64_0_0) : (⟨S2x64, .f32⟩ : BufTy).Contents (Elt F) → (⟨S1x64, .f32⟩ : BufTy).Contents (Elt F)),
    StableHlo.reshape main_v11 main_v12 (rfl : (.f32 : EltTy) = .f32) shapeCasts_S1x64_S64,
    StableHlo.unary main_arg5 main_v13 ((extractStridedSlice S1x64 ![0, 0] · slices_S2x64_S1x64_0_0) : (⟨S2x64, .f32⟩ : BufTy).Contents (Elt F) → (⟨S1x64, .f32⟩ : BufTy).Contents (Elt F)),
    StableHlo.reshape main_v13 main_v14 (rfl : (.f32 : EltTy) = .f32) shapeCasts_S1x64_S64,
    StableHlo.unary main_arg6 main_v15 ((extractStridedSlice S1x64 ![0, 0] · slices_S2x64_S1x64_0_0) : (⟨S2x64, .f32⟩ : BufTy).Contents (Elt F) → (⟨S1x64, .f32⟩ : BufTy).Contents (Elt F)),
    StableHlo.reshape main_v15 main_v16 (rfl : (.f32 : EltTy) = .f32) shapeCasts_S1x64_S64,
    StableHlo.unary main_v14 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S16384x64 ![0, 1] bcast_S1x64_S16384x64_0_1 : (⟨S1x64, .f32⟩ : BufTy).Contents (Elt F) → (⟨S16384x64, .f32⟩ : BufTy).Contents (Elt F)),
    StableHlo.binary main_v8 main_v18 main_v19 (subf : (⟨S16384x64, .f32⟩ : BufTy).Contents (Elt F) → (⟨S16384x64, .f32⟩ : BufTy).Contents (Elt F) → (⟨S16384x64, .f32⟩ : BufTy).Contents (Elt F)),
    StableHlo.unary main_v10 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S16384x64 ![0, 1] bcast_S1x64_S16384x64_0_1 : (⟨S1x64, .f32⟩ : BufTy).Contents (Elt F) → (⟨S16384x64, .f32⟩ : BufTy).Contents (Elt F)),
    StableHlo.binary main_v21 main_v19 main_v22 (mulf : (⟨S16384x64, .f32⟩ : BufTy).Contents (Elt F) → (⟨S16384x64, .f32⟩ : BufTy).Contents (Elt F) → (⟨S16384x64, .f32⟩ : BufTy).Contents (Elt F)),
    StableHlo.nullary main_cst (constant S_ .f32 0x3727C5AC#32),
    StableHlo.unary main_cst main_v23 (broadcastInDim S64 ![] bcast_S_S64 : (⟨S_, .f32⟩ : BufTy).Contents (Elt F) → (⟨S64, .f32⟩ : BufTy).Contents (Elt F)),
    StableHlo.binary main_v16 main_v23 main_v24 (addf : (⟨S64, .f32⟩ : BufTy).Contents (Elt F) → (⟨S64, .f32⟩ : BufTy).Contents (Elt F) → (⟨S64, .f32⟩ : BufTy).Contents (Elt F)),
    StableHlo.unary main_v24 main_v25 (Host.sqrt : (⟨S64, .f32⟩ : BufTy).Contents (Elt F) → (⟨S64, .f32⟩ : BufTy).Contents (Elt F)),
    StableHlo.unary main_v25 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S16384x64 ![0, 1] bcast_S1x64_S16384x64_0_1 : (⟨S1x64, .f32⟩ : BufTy).Contents (Elt F) → (⟨S16384x64, .f32⟩ : BufTy).Contents (Elt F)),
    StableHlo.binary main_v22 main_v27 main_v28 (Host.divf : (⟨S16384x64, .f32⟩ : BufTy).Contents (Elt F) → (⟨S16384x64, .f32⟩ : BufTy).Contents (Elt F) → (⟨S16384x64, .f32⟩ : BufTy).Contents (Elt F)),
    StableHlo.unary main_v12 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S16384x64 ![0, 1] bcast_S1x64_S16384x64_0_1 : (⟨S1x64, .f32⟩ : BufTy).Contents (Elt F) → (⟨S16384x64, .f32⟩ : BufTy).Contents (Elt F)),
    StableHlo.binary main_v28 main_v30 main_v31 (addf : (⟨S16384x64, .f32⟩ : BufTy).Contents (Elt F) → (⟨S16384x64, .f32⟩ : BufTy).Contents (Elt F) → (⟨S16384x64, .f32⟩ : BufTy).Contents (Elt F)),
    StableHlo.nullary main_call0_cst (constant S_ .f32 0x00000000#32),
    StableHlo.unary main_call0_cst main_call0_v0 ((broadcastInDim S16384x64 ![] bcast_S_S16384x64) : (⟨S_, .f32⟩ : BufTy).Contents (Elt F) → (⟨S16384x64, .f32⟩ : BufTy).Contents (Elt F)),
    StableHlo.binary main_v31 main_call0_v0 main_v32 (maximumf : (⟨S16384x64, .f32⟩ : BufTy).Contents (Elt F) → (⟨S16384x64, .f32⟩ : BufTy).Contents (Elt F) → (⟨S16384x64, .f32⟩ : BufTy).Contents (Elt F)) ]

theorem sL1_sub : (sL1 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem sL1_fresh : (sL1 : List (HloOp τ sig (Elt F))).Forall fun op => op.fresh = ∅ :=
  StableHlo.forall_fresh_of_map rfl

/-- What they write, in order. -/
abbrev oL1 : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_cst, main_v23, main_v24, main_v25, main_v26, main_v27, main_v28, main_v29, main_v30, main_v31, main_call0_cst, main_call0_v0, main_v32]

theorem sL1_writes : (sL1 : List (HloOp τ sig (Elt F))).Forall fun op => op.writes ⊆ (oL1.map (Proc.devRef (τ := τ) .tc)).toFinset :=
  StableHlo.forall_writes_sub_of_map rfl

theorem args_oL1 : ∀ a ∈ argRefs, a ∉ oL1 := ListAll.forall_mem_of_all_decide (by decide +kernel)

/-- The operations of the second encoder layer (the first part). -/
abbrev sL2a : List (HloOp τ sig (Elt F)) :=
  [ StableHlo.unary main_arg1 main_v33 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v33 main_v34 (rfl : (.f32 : EltTy) = .f32) shapeCasts_S1x64x64_S64x64,
    StableHlo.unary main_v34 main_v35 ((transpose S64x64 [1, 0] · transposes_S64x64_S64x64_1_0) : (⟨S64x64, .f32⟩ : BufTy).Contents (Elt F) → (⟨S64x64, .f32⟩ : BufTy).Contents (Elt F)),
    StableHlo.binary main_v32 main_v35 main_v36 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    StableHlo.unary main_arg2 main_v37 ((extractStridedSlice S1x64 ![1, 0] · slices_S2x64_S1x64_1_0) : (⟨S2x64, .f32⟩ : BufTy).Contents (Elt F) → (⟨S1x64, .f32⟩ : BufTy).Contents (Elt F)),
    StableHlo.reshape main_v37 main_v38 (rfl : (.f32 : EltTy) = .f32) shapeCasts_S1x64_S64,
    StableHlo.unary main_v38 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S16384x64 ![0, 1] bcast_S1x64_S16384x64_0_1 : (⟨S1x64, .f32⟩ : BufTy).Contents (Elt F) → (⟨S16384x64, .f32⟩ : BufTy).Contents (Elt F)),
    StableHlo.binary main_v36 main_v40 main_v41 (addf : (⟨S16384x64, .f32⟩ : BufTy).Contents (Elt F) → (⟨S16384x64, .f32⟩ : BufTy).Contents (Elt F) → (⟨S16384x64, .f32⟩ : BufTy).Contents (Elt F)),
    StableHlo.unary main_arg3 main_v42 ((extractStridedSlice S1x64 ![1, 0] · slices_S2x64_S1x64_1_0) : (⟨S2x64, .f32⟩ : BufTy).Contents (Elt F) → (⟨S1x64, .f32⟩ : BufTy).Contents (Elt F)),
    StableHlo.reshape main_v42 main_v43 (rfl : (.f32 : EltTy) = .f32) shapeCasts_S1x64_S64,
    StableHlo.unary main_arg4 main_v44 ((extractStridedSlice S1x64 ![1, 0] · slices_S2x64_S1x64_1_0) : (⟨S2x64, .f32⟩ : BufTy).Contents (Elt F) → (⟨S1x64, .f32⟩ : BufTy).Contents (Elt F)),
    StableHlo.reshape main_v44 main_v45 (rfl : (.f32 : EltTy) = .f32) shapeCasts_S1x64_S64,
    StableHlo.unary main_arg5 main_v46 ((extractStridedSlice S1x64 ![1, 0] · slices_S2x64_S1x64_1_0) : (⟨S2x64, .f32⟩ : BufTy).Contents (Elt F) → (⟨S1x64, .f32⟩ : BufTy).Contents (Elt F)),
    StableHlo.reshape main_v46 main_v47 (rfl : (.f32 : EltTy) = .f32) shapeCasts_S1x64_S64,
    StableHlo.unary main_arg6 main_v48 ((extractStridedSlice S1x64 ![1, 0] · slices_S2x64_S1x64_1_0) : (⟨S2x64, .f32⟩ : BufTy).Contents (Elt F) → (⟨S1x64, .f32⟩ : BufTy).Contents (Elt F)),
    StableHlo.reshape main_v48 main_v49 (rfl : (.f32 : EltTy) = .f32) shapeCasts_S1x64_S64,
    StableHlo.unary main_v47 main_v50 (broadcastInDim S1x64 ![1] bcast_S64_S1x64_1 : (⟨S64, .f32⟩ : BufTy).Contents (Elt F) → (⟨S1x64, .f32⟩ : BufTy).Contents (Elt F)),
    StableHlo.unary main_v50 main_v51 (broadcastInDim S16384x64 ![0, 1] bcast_S1x64_S16384x64_0_1 : (⟨S1x64, .f32⟩ : BufTy).Contents (Elt F) → (⟨S16384x64, .f32⟩ : BufTy).Contents (Elt F)),
    StableHlo.binary main_v41 main_v51 main_v52 (subf : (⟨S16384x64, .f32⟩ : BufTy).Contents (Elt F) → (⟨S16384x64, .f32⟩ : BufTy).Contents (Elt F) → (⟨S16384x64, .f32⟩ : BufTy).Contents (Elt F)),
    StableHlo.unary main_v43 main_v53 (broadcastInDim S1x64 ![1] bcast_S64_S1x64_1 : (⟨S64, .f32⟩ : BufTy).Contents (Elt F) → (⟨S1x64, .f32⟩ : BufTy).Contents (Elt F)),
    StableHlo.unary main_v53 main_v54 (broadcastInDim S16384x64 ![0, 1] bcast_S1x64_S16384x64_0_1 : (⟨S1x64, .f32⟩ : BufTy).Contents (Elt F) → (⟨S16384x64, .f32⟩ : BufTy).Contents (Elt F)),
    StableHlo.binary main_v54 main_v52 main_v55 (mulf : (⟨S16384x64, .f32⟩ : BufTy).Contents (Elt F) → (⟨S16384x64, .f32⟩ : BufTy).Contents (Elt F) → (⟨S16384x64, .f32⟩ : BufTy).Contents (Elt F)),
    StableHlo.nullary main_cst_0 (constant S_ .f32 0x3727C5AC#32),
    StableHlo.unary main_cst_0 main_v56 (broadcastInDim S64 ![] bcast_S_S64 : (⟨S_, .f32⟩ : BufTy).Contents (Elt F) → (⟨S64, .f32⟩ : BufTy).Contents (Elt F)),
    StableHlo.binary main_v49 main_v56 main_v57 (addf : (⟨S64, .f32⟩ : BufTy).Contents (Elt F) → (⟨S64, .f32⟩ : BufTy).Contents (Elt F) → (⟨S64, .f32⟩ : BufTy).Contents (Elt F)) ]

theorem sL2a_sub : (sL2a : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem sL2a_fresh : (sL2a : List (HloOp τ sig (Elt F))).Forall fun op => op.fresh = ∅ :=
  StableHlo.forall_fresh_of_map rfl

/-- What they write, in order. -/
abbrev oL2a : List (Ref sig .tc) := [main_v33, main_v34, main_v35, main_v36, main_v37, main_v38, main_v39, main_v40, main_v41, main_v42, main_v43, main_v44, main_v45, main_v46, main_v47, main_v48, main_v49, main_v50, main_v51, main_v52, main_v53, main_v54, main_v55, main_cst_0, main_v56, main_v57]

theorem sL2a_writes : (sL2a : List (HloOp τ sig (Elt F))).Forall fun op => op.writes ⊆ (oL2a.map (Proc.devRef (τ := τ) .tc)).toFinset :=
  StableHlo.forall_writes_sub_of_map rfl

theorem args_oL2a : ∀ a ∈ argRefs, a ∉ oL2a := ListAll.forall_mem_of_all_decide (by decide +kernel)

/-- The operations of the second encoder layer. -/
abbrev sL2 : List (HloOp τ sig (Elt F)) :=
  [ StableHlo.unary main_v57 main_v58 (Host.sqrt : (⟨S64, .f32⟩ : BufTy).Contents (Elt F) → (⟨S64, .f32⟩ : BufTy).Contents (Elt F)),
    StableHlo.unary main_v58 main_v59 (broadcastInDim S1x64 ![1] bcast_S64_S1x64_1 : (⟨S64, .f32⟩ : BufTy).Contents (Elt F) → (⟨S1x64, .f32⟩ : BufTy).Contents (Elt F)),
    StableHlo.unary main_v59 main_v60 (broadcastInDim S16384x64 ![0, 1] bcast_S1x64_S16384x64_0_1 : (⟨S1x64, .f32⟩ : BufTy).Contents (Elt F) → (⟨S16384x64, .f32⟩ : BufTy).Contents (Elt F)),
    StableHlo.binary main_v55 main_v60 main_v61 (Host.divf : (⟨S16384x64, .f32⟩ : BufTy).Contents (Elt F) → (⟨S16384x64, .f32⟩ : BufTy).Contents (Elt F) → (⟨S16384x64, .f32⟩ : BufTy).Contents (Elt F)),
    StableHlo.unary main_v45 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S16384x64 ![0, 1] bcast_S1x64_S16384x64_0_1 : (⟨S1x64, .f32⟩ : BufTy).Contents (Elt F) → (⟨S16384x64, .f32⟩ : BufTy).Contents (Elt F)),
    StableHlo.binary main_v61 main_v63 main_v64 (addf : (⟨S16384x64, .f32⟩ : BufTy).Contents (Elt F) → (⟨S16384x64, .f32⟩ : BufTy).Contents (Elt F) → (⟨S16384x64, .f32⟩ : BufTy).Contents (Elt F)),
    StableHlo.nullary main_call1_cst (constant S_ .f32 0x00000000#32),
    StableHlo.unary main_call1_cst main_call1_v0 ((broadcastInDim S16384x64 ![] bcast_S_S16384x64) : (⟨S_, .f32⟩ : BufTy).Contents (Elt F) → (⟨S16384x64, .f32⟩ : BufTy).Contents (Elt F)),
    StableHlo.binary main_v64 main_call1_v0 main_v65 (maximumf : (⟨S16384x64, .f32⟩ : BufTy).Contents (Elt F) → (⟨S16384x64, .f32⟩ : BufTy).Contents (Elt F) → (⟨S16384x64, .f32⟩ : BufTy).Contents (Elt F)) ]

theorem sL2_sub : (sL2 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem sL2_fresh : (sL2 : List (HloOp τ sig (Elt F))).Forall fun op => op.fresh = ∅ :=
  StableHlo.forall_fresh_of_map rfl

/-- What they write, in order. -/
abbrev oL2 : List (Ref sig .tc) := [main_v58, main_v59, main_v60, main_v61, main_v62, main_v63, main_v64, main_call1_cst, main_call1_v0, main_v65]

theorem sL2_writes : (sL2 : List (HloOp τ sig (Elt F))).Forall fun op => op.writes ⊆ (oL2.map (Proc.devRef (τ := τ) .tc)).toFinset :=
  StableHlo.forall_writes_sub_of_map rfl

theorem args_oL2 : ∀ a ∈ argRefs, a ∉ oL2 := ListAll.forall_mem_of_all_decide (by decide +kernel)

/-- The operations of the encoder head. -/
abbrev sHd : List (HloOp τ sig (Elt F)) :=
  [ StableHlo.unary main_arg7 main_v66 ((transpose S64x64 [1, 0] · transposes_S64x64_S64x64_1_0) : (⟨S64x64, .f32⟩ : BufTy).Contents (Elt F) → (⟨S64x64, .f32⟩ : BufTy).Contents (Elt F)),
    StableHlo.binary main_v65 main_v66 main_v67 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    StableHlo.unary main_arg8 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S16384x64 ![0, 1] bcast_S1x64_S16384x64_0_1 : (⟨S1x64, .f32⟩ : BufTy).Contents (Elt F) → (⟨S16384x64, .f32⟩ : BufTy).Contents (Elt F)),
    StableHlo.binary main_v67 main_v69 main_v70 (addf : (⟨S16384x64, .f32⟩ : BufTy).Contents (Elt F) → (⟨S16384x64, .f32⟩ : BufTy).Contents (Elt F) → (⟨S16384x64, .f32⟩ : BufTy).Contents (Elt F)),
    StableHlo.unary main_v70 main_v71 (Host.tanh : (⟨S16384x64, .f32⟩ : BufTy).Contents (Elt F) → (⟨S16384x64, .f32⟩ : BufTy).Contents (Elt F)),
    StableHlo.unary main_arg9 main_v72 ((transpose S64x64 [1, 0] · transposes_S64x64_S64x64_1_0) : (⟨S64x64, .f32⟩ : BufTy).Contents (Elt F) → (⟨S64x64, .f32⟩ : BufTy).Contents (Elt F)),
    StableHlo.binary main_v71 main_v72 main_v73 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    StableHlo.unary main_arg10 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S16384x64 ![0, 1] bcast_S1x64_S16384x64_0_1 : (⟨S1x64, .f32⟩ : BufTy).Contents (Elt F) → (⟨S16384x64, .f32⟩ : BufTy).Contents (Elt F)),
    StableHlo.binary main_v73 main_v75 main_v76 (addf : (⟨S16384x64, .f32⟩ : BufTy).Contents (Elt F) → (⟨S16384x64, .f32⟩ : BufTy).Contents (Elt F) → (⟨S16384x64, .f32⟩ : BufTy).Contents (Elt F)) ]

theorem sHd_sub : (sHd : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

theorem sHd_fresh : (sHd : List (HloOp τ sig (Elt F))).Forall fun op => op.fresh = ∅ :=
  StableHlo.forall_fresh_of_map rfl

/-- What they write, in order. -/
abbrev oHd : List (Ref sig .tc) := [main_v66, main_v67, main_v68, main_v69, main_v70, main_v71, main_v72, main_v73, main_v74, main_v75, main_v76]

theorem sHd_writes : (sHd : List (HloOp τ sig (Elt F))).Forall fun op => op.writes ⊆ (oHd.map (Proc.devRef (τ := τ) .tc)).toFinset :=
  StableHlo.forall_writes_sub_of_map rfl

theorem args_oHd : ∀ a ∈ argRefs, a ∉ oHd := ListAll.forall_mem_of_all_decide (by decide +kernel)

/-- The operations that normalise the rows and the codebook. -/
abbrev sNm : List (HloOp τ sig (Elt F)) :=
  [ StableHlo.binary main_v76 main_v76 main_call2_v0 (mulf : (⟨S16384x64, .f32⟩ : BufTy).Contents (Elt F) → (⟨S16384x64, .f32⟩ : BufTy).Contents (Elt F) → (⟨S16384x64, .f32⟩ : BufTy).Contents (Elt F)),
    StableHlo.nullary main_call2_cst (constant S_ .f32 0x00000000#32),
    StableHlo.binary main_call2_v0 main_call2_cst main_call2_v1 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_call2_v1 main_call2_v2 ((broadcastInDim S16384x1 ![0] bcast_S16384_S16384x1_0) : (⟨S16384, .f32⟩ : BufTy).Contents (Elt F) → (⟨S16384x1, .f32⟩ : BufTy).Contents (Elt F)),
    StableHlo.unary main_call2_v2 main_v77 (Host.sqrt : (⟨S16384x1, .f32⟩ : BufTy).Contents (Elt F) → (⟨S16384x1, .f32⟩ : BufTy).Contents (Elt F)),
    StableHlo.nullary main_cst_1 (constant S_ .f32 0x2B8CBCCC#32),
    StableHlo.unary main_cst_1 main_v78 (broadcastInDim S16384x1 ![] bcast_S_S16384x1 : (⟨S_, .f32⟩ : BufTy).Contents (Elt F) → (⟨S16384x1, .f32⟩ : BufTy).Contents (Elt F)),
    StableHlo.binary main_v77 main_v78 main_v79 (maximumf : (⟨S16384x1, .f32⟩ : BufTy).Contents (Elt F) → (⟨S16384x1, .f32⟩ : BufTy).Contents (Elt F) → (⟨S16384x1, .f32⟩ : BufTy).Contents (Elt F)),
    StableHlo.unary main_v79 main_v80 (broadcastInDim S16384x64 ![0, 1] bcast_S16384x1_S16384x64_0_1 : (⟨S16384x1, .f32⟩ : BufTy).Contents (Elt F) → (⟨S16384x64, .f32⟩ : BufTy).Contents (Elt F)),
    StableHlo.binary main_v76 main_v80 main_v81 (Host.divf : (⟨S16384x64, .f32⟩ : BufTy).Contents (Elt F) → (⟨S16384x64, .f32⟩ : BufTy).Contents (Elt F) → (⟨S16384x64, .f32⟩ : BufTy).Contents (Elt F)),
    StableHlo.binary main_arg21 main_arg21 main_call3_v0 (mulf : (⟨S8192x64, .f32⟩ : BufTy).Contents (Elt F) → (⟨S8192x64, .f32⟩ : BufTy).Contents (Elt F) → (⟨S8192x64, .f32⟩ : BufTy).Contents (Elt F)),
    StableHlo.nullary main_call3_cst (constant S_ .f32 0x00000000#32),
    StableHlo.binary main_call3_v0 main_call3_cst main_call3_v1 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_call3_v1 main_call3_v2 ((broadcastInDim S8192x1 ![0] bcast_S8192_S8192x1_0) : (⟨S8192, .f32⟩ : BufTy).Contents (Elt F) → (⟨S8192x1, .f32⟩ : BufTy).Contents (Elt F)),
    StableHlo.unary main_call3_v2 main_v82 (Host.sqrt : (⟨S8192x1, .f32⟩ : BufTy).Contents (Elt F) → (⟨S8192x1, .f32⟩ : BufTy).Contents (Elt F)),
    StableHlo.nullary main_cst_2 (constant S_ .f32 0x2B8CBCCC#32),
    StableHlo.unary main_cst_2 main_v83 (broadcastInDim S8192x1 ![] bcast_S_S8192x1 : (⟨S_, .f32⟩ : BufTy).Contents (Elt F) → (⟨S8192x1, .f32⟩ : BufTy).Contents (Elt F)),
    StableHlo.binary main_v82 main_v83 main_v84 (maximumf : (⟨S8192x1, .f32⟩ : BufTy).Contents (Elt F) → (⟨S8192x1, .f32⟩ : BufTy).Contents (Elt F) → (⟨S8192x1, .f32⟩ : BufTy).Contents (Elt F)),
    StableHlo.unary main_v84 main_v85 (broadcastInDim S8192x64 ![0, 1] bcast_S8192x1_S8192x64_0_1 : (⟨S8192x1, .f32⟩ : BufTy).Contents (Elt F) → (⟨S8192x64, .f32⟩ : BufTy).Contents (Elt F)),
    StableHlo.binary main_arg21 main_v85 main_v86 (Host.divf : (⟨S8192x64, .f32⟩ : BufTy).Contents (Elt F) → (⟨S8192x64, .f32⟩ : BufTy).Contents (Elt F) → (⟨S8192x64, .f32⟩ : BufTy).Contents (Elt F)) ]

theorem sNm_sub : (sNm : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub ..⟩

theorem sNm_fresh : (sNm : List (HloOp τ sig (Elt F))).Forall fun op => op.fresh = ∅ :=
  StableHlo.forall_fresh_of_map rfl

/-- What they write, in order. -/
abbrev oNm : List (Ref sig .tc) := [main_call2_v0, main_call2_cst, main_call2_v1, main_call2_v2, main_v77, main_cst_1, main_v78, main_v79, main_v80, main_v81, main_call3_v0, main_call3_cst, main_call3_v1, main_call3_v2, main_v82, main_cst_2, main_v83, main_v84, main_v85, main_v86]

theorem sNm_writes : (sNm : List (HloOp τ sig (Elt F))).Forall fun op => op.writes ⊆ (oNm.map (Proc.devRef (τ := τ) .tc)).toFinset :=
  StableHlo.forall_writes_sub_of_map rfl

theorem args_oNm : ∀ a ∈ argRefs, a ∉ oNm := ListAll.forall_mem_of_all_decide (by decide +kernel)

/-- The operations of the squared distances of every row to every code. -/
abbrev sDs : List (HloOp τ sig (Elt F)) :=
  [ StableHlo.binary main_v81 main_v81 main_v87 (mulf : (⟨S16384x64, .f32⟩ : BufTy).Contents (Elt F) → (⟨S16384x64, .f32⟩ : BufTy).Contents (Elt F) → (⟨S16384x64, .f32⟩ : BufTy).Contents (Elt F)),
    StableHlo.nullary main_cst_3 (constant S_ .f32 0x00000000#32),
    StableHlo.binary main_v87 main_cst_3 main_v88 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.unary main_v88 main_v89 (broadcastInDim S16384x1 ![0] bcast_S16384_S16384x1_0 : (⟨S16384, .f32⟩ : BufTy).Contents (Elt F) → (⟨S16384x1, .f32⟩ : BufTy).Contents (Elt F)),
    StableHlo.binary main_v86 main_v86 main_v90 (mulf : (⟨S8192x64, .f32⟩ : BufTy).Contents (Elt F) → (⟨S8192x64, .f32⟩ : BufTy).Contents (Elt F) → (⟨S8192x64, .f32⟩ : BufTy).Contents (Elt F)),
    StableHlo.nullary main_cst_4 (constant S_ .f32 0x00000000#32),
    StableHlo.binary main_v90 main_cst_4 main_v91 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v91 main_v92 (broadcastInDim S1x8192 ![1] bcast_S8192_S1x8192_1 : (⟨S8192, .f32⟩ : BufTy).Contents (Elt F) → (⟨S1x8192, .f32⟩ : BufTy).Contents (Elt F)),
    StableHlo.unary main_v89 main_v93 (broadcastInDim S16384x8192 ![0, 1] bcast_S16384x1_S16384x8192_0_1 : (⟨S16384x1, .f32⟩ : BufTy).Contents (Elt F) → (⟨S16384x8192, .f32⟩ : BufTy).Contents (Elt F)),
    StableHlo.unary main_v92 main_v94 (broadcastInDim S16384x8192 ![0, 1] bcast_S1x8192_S16384x8192_0_1 : (⟨S1x8192, .f32⟩ : BufTy).Contents (Elt F) → (⟨S16384x8192, .f32⟩ : BufTy).Contents (Elt F)),
    StableHlo.binary main_v93 main_v94 main_v95 (addf : (⟨S16384x8192, .f32⟩ : BufTy).Contents (Elt F) → (⟨S16384x8192, .f32⟩ : BufTy).Contents (Elt F) → (⟨S16384x8192, .f32⟩ : BufTy).Contents (Elt F)),
    StableHlo.nullary main_cst_5 (constant S_ .f32 0x40000000#32),
    StableHlo.unary main_cst_5 main_v96 (broadcastInDim S16384x64 ![] bcast_S_S16384x64 : (⟨S_, .f32⟩ : BufTy).Contents (Elt F) → (⟨S16384x64, .f32⟩ : BufTy).Contents (Elt F)),
    StableHlo.binary main_v96 main_v81 main_v97 (mulf : (⟨S16384x64, .f32⟩ : BufTy).Contents (Elt F) → (⟨S16384x64, .f32⟩ : BufTy).Contents (Elt F) → (⟨S16384x64, .f32⟩ : BufTy).Contents (Elt F)),
    StableHlo.unary main_v86 main_v98 ((transpose S64x8192 [1, 0] · transposes_S8192x64_S64x8192_1_0) : (⟨S8192x64, .f32⟩ : BufTy).Contents (Elt F) → (⟨S64x8192, .f32⟩ : BufTy).Contents (Elt F)),
    StableHlo.binary main_v97 main_v98 main_v99 ((fun l r => Host.dotGeneral dot_S16384x64_S64x8192_S16384x8192_1_0_0_1_n_n none l r) : (⟨S16384x64, .f32⟩ : BufTy).Contents (Elt F) → (⟨S64x8192, .f32⟩ : BufTy).Contents (Elt F) → (⟨S16384x8192, .f32⟩ : BufTy).Contents (Elt F)),
    StableHlo.binary main_v95 main_v99 main_v100 (subf : (⟨S16384x8192, .f32⟩ : BufTy).Contents (Elt F) → (⟨S16384x8192, .f32⟩ : BufTy).Contents (Elt F) → (⟨S16384x8192, .f32⟩ : BufTy).Contents (Elt F)) ]

theorem sDs_sub : (sDs : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub ..⟩

theorem sDs_fresh : (sDs : List (HloOp τ sig (Elt F))).Forall fun op => op.fresh = ∅ :=
  StableHlo.forall_fresh_of_map rfl

/-- What they write, in order. -/
abbrev oDs : List (Ref sig .tc) := [main_v87, main_cst_3, main_v88, main_v89, main_v90, main_cst_4, main_v91, main_v92, main_v93, main_v94, main_v95, main_cst_5, main_v96, main_v97, main_v98, main_v99, main_v100]

theorem sDs_writes : (sDs : List (HloOp τ sig (Elt F))).Forall fun op => op.writes ⊆ (oDs.map (Proc.devRef (τ := τ) .tc)).toFinset :=
  StableHlo.forall_writes_sub_of_map rfl

theorem args_oDs : ∀ a ∈ argRefs, a ∉ oDs := ListAll.forall_mem_of_all_decide (by decide +kernel)

/-- The operations of the nearest code of every row. -/
abbrev sAm : List (HloOp τ sig (Elt F)) :=
  [ StableHlo.nullary main_call4_v0 (iotaInDim S16384x8192 32 1),
    StableHlo.nullary main_call4_cst (constant S_ .f32 0x7F800000#32),
    StableHlo.nullary main_call4_c (constantI S_ 32 0#32),
    StableHlo.quaternary main_v100 main_call4_v0 main_call4_cst main_call4_c main_call4_v1_0 ((fun x y u v j => (Host.argReduce reducer_argmin_f32_i32 x y u v reducesTo_S16384x8192_S16384_d1 h_S_ j).1) : (⟨S16384x8192, .f32⟩ : BufTy).Contents (Elt F) → (⟨S16384x8192, .i32⟩ : BufTy).Contents (Elt F) → (⟨S_, .f32⟩ : BufTy).Contents (Elt F) → (⟨S_, .i32⟩ : BufTy).Contents (Elt F) → (⟨S16384, .f32⟩ : BufTy).Contents (Elt F)),
    StableHlo.quaternary main_v100 main_call4_v0 main_call4_cst main_call4_c main_v101 ((fun x y u v j => (Host.argReduce reducer_argmin_f32_i32 x y u v reducesTo_S16384x8192_S16384_d1 h_S_ j).2) : (⟨S16384x8192, .f32⟩ : BufTy).Contents (Elt F) → (⟨S16384x8192, .i32⟩ : BufTy).Contents (Elt F) → (⟨S_, .f32⟩ : BufTy).Contents (Elt F) → (⟨S_, .i32⟩ : BufTy).Contents (Elt F) → (⟨S16384, .i32⟩ : BufTy).Contents (Elt F)) ]

theorem sAm_sub : (sAm : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

theorem sAm_fresh : (sAm : List (HloOp τ sig (Elt F))).Forall fun op => op.fresh = ∅ :=
  StableHlo.forall_fresh_of_map rfl

/-- What they write, in order. -/
abbrev oAm : List (Ref sig .tc) := [main_call4_v0, main_call4_cst, main_call4_c, main_call4_v1_0, main_v101]

theorem sAm_writes : (sAm : List (HloOp τ sig (Elt F))).Forall fun op => op.writes ⊆ (oAm.map (Proc.devRef (τ := τ) .tc)).toFinset :=
  StableHlo.forall_writes_sub_of_map rfl

theorem args_oAm : ∀ a ∈ argRefs, a ∉ oAm := ListAll.forall_mem_of_all_decide (by decide +kernel)

/-- The operations that take the rows of the normalised codebook at those codes. -/
abbrev sTk : List (HloOp τ sig (Elt F)) :=
  [ StableHlo.nullary main_call5_c (constantI S_ 32 0#32),
    StableHlo.unary main_call5_c main_call5_v0 ((broadcastInDim S16384 ![] bcast_S_S16384) : (⟨S_, .i32⟩ : BufTy).Contents (Elt F) → (⟨S16384, .i32⟩ : BufTy).Contents (Elt F)),
    StableHlo.binary main_v101 main_call5_v0 main_call5_v1 ((cmpi .slt) : (⟨S16384, .i32⟩ : BufTy).Contents (Elt F) → (⟨S16384, .i32⟩ : BufTy).Contents (Elt F) → (⟨S16384, .i1⟩ : BufTy).Contents (Elt F)),
    StableHlo.nullary main_call5_c_0 (constantI S_ 32 8192#32),
    StableHlo.unary main_call5_c_0 main_call5_v2 ((broadcastInDim S16384 ![] bcast_S_S16384) : (⟨S_, .i32⟩ : BufTy).Contents (Elt F) → (⟨S16384, .i32⟩ : BufTy).Contents (Elt F)),
    StableHlo.binary main_v101 main_call5_v2 main_call5_v3 (addi : (⟨S16384, .i32⟩ : BufTy).Contents (Elt F) → (⟨S16384, .i32⟩ : BufTy).Contents (Elt F) → (⟨S16384, .i32⟩ : BufTy).Contents (Elt F)),
    StableHlo.ternary main_call5_v1 main_call5_v3 main_v101 main_call5_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_call5_v4 main_call5_v5 ((broadcastInDim S16384x1 ![0] bcast_S16384_S16384x1_0) : (⟨S16384, .i32⟩ : BufTy).Contents (Elt F) → (⟨S16384x1, .i32⟩ : BufTy).Contents (Elt F)),
    StableHlo.nullary main_call5_c_1 (constantI S1 32 8191#32),
    StableHlo.nullary main_call5_c_2 (constantI S_ 32 0#32),
    StableHlo.unary main_call5_c_2 main_call5_v6 ((broadcastInDim S16384x1 ![] bcast_S_S16384x1) : (⟨S_, .i32⟩ : BufTy).Contents (Elt F) → (⟨S16384x1, .i32⟩ : BufTy).Contents (Elt F)),
    StableHlo.binary main_call5_v5 main_call5_v6 main_call5_v7 ((cmpi .sge) : (⟨S16384x1, .i32⟩ : BufTy).Contents (Elt F) → (⟨S16384x1, .i32⟩ : BufTy).Contents (Elt F) → (⟨S16384x1, .i1⟩ : BufTy).Contents (Elt F)),
    StableHlo.unary main_call5_c_1 main_call5_v8 ((broadcastInDim S1x1 ![1] bcast_S1_S1x1_1) : (⟨S1, .i32⟩ : BufTy).Contents (Elt F) → (⟨S1x1, .i32⟩ : BufTy).Contents (Elt F)),
    StableHlo.unary main_call5_v8 main_call5_v9 ((broadcastInDim S16384x1 ![0, 1] bcast_S1x1_S16384x1_0_1) : (⟨S1x1, .i32⟩ : BufTy).Contents (Elt F) → (⟨S16384x1, .i32⟩ : BufTy).Contents (Elt F)),
    StableHlo.binary main_call5_v5 main_call5_v9 main_call5_v10 ((cmpi .sle) : (⟨S16384x1, .i32⟩ : BufTy).Contents (Elt F) → (⟨S16384x1, .i32⟩ : BufTy).Contents (Elt F) → (⟨S16384x1, .i1⟩ : BufTy).Contents (Elt F)),
    StableHlo.binary main_call5_v7 main_call5_v10 main_call5_v11 (andi : (⟨S16384x1, .i1⟩ : BufTy).Contents (Elt F) → (⟨S16384x1, .i1⟩ : BufTy).Contents (Elt F) → (⟨S16384x1, .i1⟩ : BufTy).Contents (Elt F)),
    StableHlo.nullary main_call5_c_3 (constantI S_ 1 1#1),
    StableHlo.binary main_call5_v11 main_call5_c_3 main_call5_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
    StableHlo.binary main_v86 main_call5_v5 main_call5_v13 ((fun x i => Host.gather gather_S8192x64_S16384x1_S16384x64_1_0_n_n_0_1_164 x i) : (⟨S8192x64, .f32⟩ : BufTy).Contents (Elt F) → (⟨S16384x1, .i32⟩ : BufTy).Contents (Elt F) → (⟨S16384x64, .f32⟩ : BufTy).Contents (Elt F)),
    StableHlo.unary main_call5_v12 main_call5_v14 ((broadcastInDim S16384x64 ![0] bcast_S16384_S16384x64_0) : (⟨S16384, .i1⟩ : BufTy).Contents (Elt F) → (⟨S16384x64, .i1⟩ : BufTy).Contents (Elt F)),
    StableHlo.nullary main_call5_cst (constant S_ .f32 0x7FC00000#32),
    StableHlo.unary main_call5_cst main_call5_v15 ((broadcastInDim S16384x64 ![] bcast_S_S16384x64) : (⟨S_, .f32⟩ : BufTy).Contents (Elt F) → (⟨S16384x64, .f32⟩ : BufTy).Contents (Elt F)),
    StableHlo.ternary main_call5_v14 main_call5_v13 main_call5_v15 main_v102 (select : (⟨S16384x64, .i1⟩ : BufTy).Contents (Elt F) → (⟨S16384x64, .f32⟩ : BufTy).Contents (Elt F) → (⟨S16384x64, .f32⟩ : BufTy).Contents (Elt F) → (⟨S16384x64, .f32⟩ : BufTy).Contents (Elt F)) ]

theorem sTk_sub : (sTk : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem sTk_fresh : (sTk : List (HloOp τ sig (Elt F))).Forall fun op => op.fresh = ∅ :=
  StableHlo.forall_fresh_of_map rfl

/-- What they write, in order. -/
abbrev oTk : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v102]

theorem sTk_writes : (sTk : List (HloOp τ sig (Elt F))).Forall fun op => op.writes ⊆ (oTk.map (Proc.devRef (τ := τ) .tc)).toFinset :=
  StableHlo.forall_writes_sub_of_map rfl

theorem args_oTk : ∀ a ∈ argRefs, a ∉ oTk := ListAll.forall_mem_of_all_decide (by decide +kernel)

/-- The operations of the loss and of the row handed to the decoder. -/
abbrev sLs : List (HloOp τ sig (Elt F)) :=
  [ StableHlo.binary main_v102 main_v81 main_v103 (subf : (⟨S16384x64, .f32⟩ : BufTy).Contents (Elt F) → (⟨S16384x64, .f32⟩ : BufTy).Contents (Elt F) → (⟨S16384x64, .f32⟩ : BufTy).Contents (Elt F)),
    StableHlo.binary main_v103 main_v103 main_v104 (mulf : (⟨S16384x64, .f32⟩ : BufTy).Contents (Elt F) → (⟨S16384x64, .f32⟩ : BufTy).Contents (Elt F) → (⟨S16384x64, .f32⟩ : BufTy).Contents (Elt F)),
    StableHlo.nullary main_cst_6 (constant S_ .f32 0x00000000#32),
    StableHlo.binary main_v104 main_cst_6 main_v105 ((fun x v => Host.reduceAdd x v reducesTo_S16384x64_S_d0_1 h_S_) : (⟨S16384x64, .f32⟩ : BufTy).Contents (Elt F) → (⟨S_, .f32⟩ : BufTy).Contents (Elt F) → (⟨S_, .f32⟩ : BufTy).Contents (Elt F)),
    StableHlo.nullary main_cst_7 (constant S_ .f32 0x49800000#32),
    StableHlo.binary main_v105 main_cst_7 main_v106 (Host.divf : (⟨S_, .f32⟩ : BufTy).Contents (Elt F) → (⟨S_, .f32⟩ : BufTy).Contents (Elt F) → (⟨S_, .f32⟩ : BufTy).Contents (Elt F)),
    StableHlo.nullary main_cst_8 (constant S_ .f32 0x3F800000#32),
    StableHlo.binary main_cst_8 main_v106 main_v107 (mulf : (⟨S_, .f32⟩ : BufTy).Contents (Elt F) → (⟨S_, .f32⟩ : BufTy).Contents (Elt F) → (⟨S_, .f32⟩ : BufTy).Contents (Elt F)),
    StableHlo.binary main_v102 main_v81 main_v108 (subf : (⟨S16384x64, .f32⟩ : BufTy).Contents (Elt F) → (⟨S16384x64, .f32⟩ : BufTy).Contents (Elt F) → (⟨S16384x64, .f32⟩ : BufTy).Contents (Elt F)),
    StableHlo.binary main_v81 main_v108 main_v109 (addf : (⟨S16384x64, .f32⟩ : BufTy).Contents (Elt F) → (⟨S16384x64, .f32⟩ : BufTy).Contents (Elt F) → (⟨S16384x64, .f32⟩ : BufTy).Contents (Elt F)) ]

theorem sLs_sub : (sLs : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.binary_bufs_sub .., StableHlo.binary_bufs_sub ..⟩

theorem sLs_fresh : (sLs : List (HloOp τ sig (Elt F))).Forall fun op => op.fresh = ∅ :=
  StableHlo.forall_fresh_of_map rfl

/-- What they write, in order. -/
abbrev oLs : List (Ref sig .tc) := [main_v103, main_v104, main_cst_6, main_v105, main_cst_7, main_v106, main_cst_8, main_v107, main_v108, main_v109]

theorem sLs_writes : (sLs : List (HloOp τ sig (Elt F))).Forall fun op => op.writes ⊆ (oLs.map (Proc.devRef (τ := τ) .tc)).toFinset :=
  StableHlo.forall_writes_sub_of_map rfl

theorem args_oLs : ∀ a ∈ argRefs, a ∉ oLs := ListAll.forall_mem_of_all_decide (by decide +kernel)

/-- The operations of the first decoder layer. -/
abbrev sM1 : List (HloOp τ sig (Elt F)) :=
  [ StableHlo.unary main_arg11 main_v110 ((extractStridedSlice S1x64x64 ![0, 0, 0] · slices_S2x64x64_S1x64x64_0_0_0) : (⟨S2x64x64, .f32⟩ : BufTy).Contents (Elt F) → (⟨S1x64x64, .f32⟩ : BufTy).Contents (Elt F)),
    StableHlo.reshape main_v110 main_v111 (rfl : (.f32 : EltTy) = .f32) shapeCasts_S1x64x64_S64x64,
    StableHlo.unary main_v111 main_v112 ((transpose S64x64 [1, 0] · transposes_S64x64_S64x64_1_0) : (⟨S64x64, .f32⟩ : BufTy).Contents (Elt F) → (⟨S64x64, .f32⟩ : BufTy).Contents (Elt F)),
    StableHlo.binary main_v109 main_v112 main_v113 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    StableHlo.unary main_arg12 main_v114 ((extractStridedSlice S1x64 ![0, 0] · slices_S2x64_S1x64_0_0) : (⟨S2x64, .f32⟩ : BufTy).Contents (Elt F) → (⟨S1x64, .f32⟩ : BufTy).Contents (Elt F)),
    StableHlo.reshape main_v114 main_v115 (rfl : (.f32 : EltTy) = .f32) shapeCasts_S1x64_S64,
    StableHlo.unary main_v115 main_v116 (broadcastInDim S1x64 ![1] bcast_S64_S1x64_1 : (⟨S64, .f32⟩ : BufTy).Contents (Elt F) → (⟨S1x64, .f32⟩ : BufTy).Contents (Elt F)),
    StableHlo.unary main_v116 main_v117 (broadcastInDim S16384x64 ![0, 1] bcast_S1x64_S16384x64_0_1 : (⟨S1x64, .f32⟩ : BufTy).Contents (Elt F) → (⟨S16384x64, .f32⟩ : BufTy).Contents (Elt F)),
    StableHlo.binary main_v113 main_v117 main_v118 (addf : (⟨S16384x64, .f32⟩ : BufTy).Contents (Elt F) → (⟨S16384x64, .f32⟩ : BufTy).Contents (Elt F) → (⟨S16384x64, .f32⟩ : BufTy).Contents (Elt F)),
    StableHlo.unary main_arg13 main_v119 ((extractStridedSlice S1x64 ![0, 0] · slices_S2x64_S1x64_0_0) : (⟨S2x64, .f32⟩ : BufTy).Contents (Elt F) → (⟨S1x64, .f32⟩ : BufTy).Contents (Elt F)),
    StableHlo.reshape main_v119 main_v120 (rfl : (.f32 : EltTy) = .f32) shapeCasts_S1x64_S64,
    StableHlo.unary main_arg14 main_v121 ((extractStridedSlice S1x64 ![0, 0] · slices_S2x64_S1x64_0_0) : (⟨S2x64, .f32⟩ : BufTy).Contents (Elt F) → (⟨S1x64, .f32⟩ : BufTy).Contents (Elt F)),
    StableHlo.reshape main_v121 main_v122 (rfl : (.f32 : EltTy) = .f32) shapeCasts_S1x64_S64,
    StableHlo.unary main_arg15 main_v123 ((extractStridedSlice S1x64 ![0, 0] · slices_S2x64_S1x64_0_0) : (⟨S2x64, .f32⟩ : BufTy).Contents (Elt F) → (⟨S1x64, .f32⟩ : BufTy).Contents (Elt F)),
    StableHlo.reshape main_v123 main_v124 (rfl : (.f32 : EltTy) = .f32) shapeCasts_S1x64_S64,
    StableHlo.unary main_arg16 main_v125 ((extractStridedSlice S1x64 ![0, 0] · slices_S2x64_S1x64_0_0) : (⟨S2x64, .f32⟩ : BufTy).Contents (Elt F) → (⟨S1x64, .f32⟩ : BufTy).Contents (Elt F)),
    StableHlo.reshape main_v125 main_v126 (rfl : (.f32 : EltTy) = .f32) shapeCasts_S1x64_S64,
    StableHlo.unary main_v124 main_v127 (broadcastInDim S1x64 ![1] bcast_S64_S1x64_1 : (⟨S64, .f32⟩ : BufTy).Contents (Elt F) → (⟨S1x64, .f32⟩ : BufTy).Contents (Elt F)),
    StableHlo.unary main_v127 main_v128 (broadcastInDim S16384x64 ![0, 1] bcast_S1x64_S16384x64_0_1 : (⟨S1x64, .f32⟩ : BufTy).Contents (Elt F) → (⟨S16384x64, .f32⟩ : BufTy).Contents (Elt F)),
    StableHlo.binary main_v118 main_v128 main_v129 (subf : (⟨S16384x64, .f32⟩ : BufTy).Contents (Elt F) → (⟨S16384x64, .f32⟩ : BufTy).Contents (Elt F) → (⟨S16384x64, .f32⟩ : BufTy).Contents (Elt F)),
    StableHlo.unary main_v120 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S16384x64 ![0, 1] bcast_S1x64_S16384x64_0_1 : (⟨S1x64, .f32⟩ : BufTy).Contents (Elt F) → (⟨S16384x64, .f32⟩ : BufTy).Contents (Elt F)),
    StableHlo.binary main_v131 main_v129 main_v132 (mulf : (⟨S16384x64, .f32⟩ : BufTy).Contents (Elt F) → (⟨S16384x64, .f32⟩ : BufTy).Contents (Elt F) → (⟨S16384x64, .f32⟩ : BufTy).Contents (Elt F)),
    StableHlo.nullary main_cst_9 (constant S_ .f32 0x3727C5AC#32),
    StableHlo.unary main_cst_9 main_v133 (broadcastInDim S64 ![] bcast_S_S64 : (⟨S_, .f32⟩ : BufTy).Contents (Elt F) → (⟨S64, .f32⟩ : BufTy).Contents (Elt F)),
    StableHlo.binary main_v126 main_v133 main_v134 (addf : (⟨S64, .f32⟩ : BufTy).Contents (Elt F) → (⟨S64, .f32⟩ : BufTy).Contents (Elt F) → (⟨S64, .f32⟩ : BufTy).Contents (Elt F)),
    StableHlo.unary main_v134 main_v135 (Host.sqrt : (⟨S64, .f32⟩ : BufTy).Contents (Elt F) → (⟨S64, .f32⟩ : BufTy).Contents (Elt F)),
    StableHlo.unary main_v135 main_v136 (broadcastInDim S1x64 ![1] bcast_S64_S1x64_1 : (⟨S64, .f32⟩ : BufTy).Contents (Elt F) → (⟨S1x64, .f32⟩ : BufTy).Contents (Elt F)),
    StableHlo.unary main_v136 main_v137 (broadcastInDim S16384x64 ![0, 1] bcast_S1x64_S16384x64_0_1 : (⟨S1x64, .f32⟩ : BufTy).Contents (Elt F) → (⟨S16384x64, .f32⟩ : BufTy).Contents (Elt F)),
    StableHlo.binary main_v132 main_v137 main_v138 (Host.divf : (⟨S16384x64, .f32⟩ : BufTy).Contents (Elt F) → (⟨S16384x64, .f32⟩ : BufTy).Contents (Elt F) → (⟨S16384x64, .f32⟩ : BufTy).Contents (Elt F)),
    StableHlo.unary main_v122 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S16384x64 ![0, 1] bcast_S1x64_S16384x64_0_1 : (⟨S1x64, .f32⟩ : BufTy).Contents (Elt F) → (⟨S16384x64, .f32⟩ : BufTy).Contents (Elt F)),
    StableHlo.binary main_v138 main_v140 main_v141 (addf : (⟨S16384x64, .f32⟩ : BufTy).Contents (Elt F) → (⟨S16384x64, .f32⟩ : BufTy).Contents (Elt F) → (⟨S16384x64, .f32⟩ : BufTy).Contents (Elt F)),
    StableHlo.nullary main_call6_cst (constant S_ .f32 0x00000000#32),
    StableHlo.unary main_call6_cst main_call6_v0 ((broadcastInDim S16384x64 ![] bcast_S_S16384x64) : (⟨S_, .f32⟩ : BufTy).Contents (Elt F) → (⟨S16384x64, .f32⟩ : BufTy).Contents (Elt F)),
    StableHlo.binary main_v141 main_call6_v0 main_v142 (maximumf : (⟨S16384x64, .f32⟩ : BufTy).Contents (Elt F) → (⟨S16384x64, .f32⟩ : BufTy).Contents (Elt F) → (⟨S16384x64, .f32⟩ : BufTy).Contents (Elt F)) ]

theorem sM1_sub : (sM1 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem sM1_fresh : (sM1 : List (HloOp τ sig (Elt F))).Forall fun op => op.fresh = ∅ :=
  StableHlo.forall_fresh_of_map rfl

/-- What they write, in order. -/
abbrev oM1 : List (Ref sig .tc) := [main_v110, main_v111, main_v112, main_v113, main_v114, main_v115, main_v116, main_v117, main_v118, main_v119, main_v120, main_v121, main_v122, main_v123, main_v124, main_v125, main_v126, main_v127, main_v128, main_v129, main_v130, main_v131, main_v132, main_cst_9, main_v133, main_v134, main_v135, main_v136, main_v137, main_v138, main_v139, main_v140, main_v141, main_call6_cst, main_call6_v0, main_v142]

theorem sM1_writes : (sM1 : List (HloOp τ sig (Elt F))).Forall fun op => op.writes ⊆ (oM1.map (Proc.devRef (τ := τ) .tc)).toFinset :=
  StableHlo.forall_writes_sub_of_map rfl

theorem args_oM1 : ∀ a ∈ argRefs, a ∉ oM1 := ListAll.forall_mem_of_all_decide (by decide +kernel)

/-- The operations of the second decoder layer (the first part). -/
abbrev sM2a : List (HloOp τ sig (Elt F)) :=
  [ StableHlo.unary main_arg11 main_v143 ((extractStridedSlice S1x64x64 ![1, 0, 0] · slices_S2x64x64_S1x64x64_1_0_0) : (⟨S2x64x64, .f32⟩ : BufTy).Contents (Elt F) → (⟨S1x64x64, .f32⟩ : BufTy).Contents (Elt F)),
    StableHlo.reshape main_v143 main_v144 (rfl : (.f32 : EltTy) = .f32) shapeCasts_S1x64x64_S64x64,
    StableHlo.unary main_v144 main_v145 ((transpose S64x64 [1, 0] · transposes_S64x64_S64x64_1_0) : (⟨S64x64, .f32⟩ : BufTy).Contents (Elt F) → (⟨S64x64, .f32⟩ : BufTy).Contents (Elt F)),
    StableHlo.binary main_v142 main_v145 main_v146 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    StableHlo.unary main_arg12 main_v147 ((extractStridedSlice S1x64 ![1, 0] · slices_S2x64_S1x64_1_0) : (⟨S2x64, .f32⟩ : BufTy).Contents (Elt F) → (⟨S1x64, .f32⟩ : BufTy).Contents (Elt F)),
    StableHlo.reshape main_v147 main_v148 (rfl : (.f32 : EltTy) = .f32) shapeCasts_S1x64_S64,
    StableHlo.unary main_v148 main_v149 (broadcastInDim S1x64 ![1] bcast_S64_S1x64_1 : (⟨S64, .f32⟩ : BufTy).Contents (Elt F) → (⟨S1x64, .f32⟩ : BufTy).Contents (Elt F)),
    StableHlo.unary main_v149 main_v150 (broadcastInDim S16384x64 ![0, 1] bcast_S1x64_S16384x64_0_1 : (⟨S1x64, .f32⟩ : BufTy).Contents (Elt F) → (⟨S16384x64, .f32⟩ : BufTy).Contents (Elt F)),
    StableHlo.binary main_v146 main_v150 main_v151 (addf : (⟨S16384x64, .f32⟩ : BufTy).Contents (Elt F) → (⟨S16384x64, .f32⟩ : BufTy).Contents (Elt F) → (⟨S16384x64, .f32⟩ : BufTy).Contents (Elt F)),
    StableHlo.unary main_arg13 main_v152 ((extractStridedSlice S1x64 ![1, 0] · slices_S2x64_S1x64_1_0) : (⟨S2x64, .f32⟩ : BufTy).Contents (Elt F) → (⟨S1x64, .f32⟩ : BufTy).Contents (Elt F)),
    StableHlo.reshape main_v152 main_v153 (rfl : (.f32 : EltTy) = .f32) shapeCasts_S1x64_S64,
    StableHlo.unary main_arg14 main_v154 ((extractStridedSlice S1x64 ![1, 0] · slices_S2x64_S1x64_1_0) : (⟨S2x64, .f32⟩ : BufTy).Contents (Elt F) → (⟨S1x64, .f32⟩ : BufTy).Contents (Elt F)),
    StableHlo.reshape main_v154 main_v155 (rfl : (.f32 : EltTy) = .f32) shapeCasts_S1x64_S64,
    StableHlo.unary main_arg15 main_v156 ((extractStridedSlice S1x64 ![1, 0] · slices_S2x64_S1x64_1_0) : (⟨S2x64, .f32⟩ : BufTy).Contents (Elt F) → (⟨S1x64, .f32⟩ : BufTy).Contents (Elt F)),
    StableHlo.reshape main_v156 main_v157 (rfl : (.f32 : EltTy) = .f32) shapeCasts_S1x64_S64,
    StableHlo.unary main_arg16 main_v158 ((extractStridedSlice S1x64 ![1, 0] · slices_S2x64_S1x64_1_0) : (⟨S2x64, .f32⟩ : BufTy).Contents (Elt F) → (⟨S1x64, .f32⟩ : BufTy).Contents (Elt F)),
    StableHlo.reshape main_v158 main_v159 (rfl : (.f32 : EltTy) = .f32) shapeCasts_S1x64_S64,
    StableHlo.unary main_v157 main_v160 (broadcastInDim S1x64 ![1] bcast_S64_S1x64_1 : (⟨S64, .f32⟩ : BufTy).Contents (Elt F) → (⟨S1x64, .f32⟩ : BufTy).Contents (Elt F)),
    StableHlo.unary main_v160 main_v161 (broadcastInDim S16384x64 ![0, 1] bcast_S1x64_S16384x64_0_1 : (⟨S1x64, .f32⟩ : BufTy).Contents (Elt F) → (⟨S16384x64, .f32⟩ : BufTy).Contents (Elt F)),
    StableHlo.binary main_v151 main_v161 main_v162 (subf : (⟨S16384x64, .f32⟩ : BufTy).Contents (Elt F) → (⟨S16384x64, .f32⟩ : BufTy).Contents (Elt F) → (⟨S16384x64, .f32⟩ : BufTy).Contents (Elt F)),
    StableHlo.unary main_v153 main_v163 (broadcastInDim S1x64 ![1] bcast_S64_S1x64_1 : (⟨S64, .f32⟩ : BufTy).Contents (Elt F) → (⟨S1x64, .f32⟩ : BufTy).Contents (Elt F)),
    StableHlo.unary main_v163 main_v164 (broadcastInDim S16384x64 ![0, 1] bcast_S1x64_S16384x64_0_1 : (⟨S1x64, .f32⟩ : BufTy).Contents (Elt F) → (⟨S16384x64, .f32⟩ : BufTy).Contents (Elt F)),
    StableHlo.binary main_v164 main_v162 main_v165 (mulf : (⟨S16384x64, .f32⟩ : BufTy).Contents (Elt F) → (⟨S16384x64, .f32⟩ : BufTy).Contents (Elt F) → (⟨S16384x64, .f32⟩ : BufTy).Contents (Elt F)),
    StableHlo.nullary main_cst_10 (constant S_ .f32 0x3727C5AC#32),
    StableHlo.unary main_cst_10 main_v166 (broadcastInDim S64 ![] bcast_S_S64 : (⟨S_, .f32⟩ : BufTy).Contents (Elt F) → (⟨S64, .f32⟩ : BufTy).Contents (Elt F)),
    StableHlo.binary main_v159 main_v166 main_v167 (addf : (⟨S64, .f32⟩ : BufTy).Contents (Elt F) → (⟨S64, .f32⟩ : BufTy).Contents (Elt F) → (⟨S64, .f32⟩ : BufTy).Contents (Elt F)) ]

theorem sM2a_sub : (sM2a : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem sM2a_fresh : (sM2a : List (HloOp τ sig (Elt F))).Forall fun op => op.fresh = ∅ :=
  StableHlo.forall_fresh_of_map rfl

/-- What they write, in order. -/
abbrev oM2a : List (Ref sig .tc) := [main_v143, main_v144, main_v145, main_v146, main_v147, main_v148, main_v149, main_v150, main_v151, main_v152, main_v153, main_v154, main_v155, main_v156, main_v157, main_v158, main_v159, main_v160, main_v161, main_v162, main_v163, main_v164, main_v165, main_cst_10, main_v166, main_v167]

theorem sM2a_writes : (sM2a : List (HloOp τ sig (Elt F))).Forall fun op => op.writes ⊆ (oM2a.map (Proc.devRef (τ := τ) .tc)).toFinset :=
  StableHlo.forall_writes_sub_of_map rfl

theorem args_oM2a : ∀ a ∈ argRefs, a ∉ oM2a := ListAll.forall_mem_of_all_decide (by decide +kernel)

/-- The operations of the second decoder layer. -/
abbrev sM2 : List (HloOp τ sig (Elt F)) :=
  [ StableHlo.unary main_v167 main_v168 (Host.sqrt : (⟨S64, .f32⟩ : BufTy).Contents (Elt F) → (⟨S64, .f32⟩ : BufTy).Contents (Elt F)),
    StableHlo.unary main_v168 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S16384x64 ![0, 1] bcast_S1x64_S16384x64_0_1 : (⟨S1x64, .f32⟩ : BufTy).Contents (Elt F) → (⟨S16384x64, .f32⟩ : BufTy).Contents (Elt F)),
    StableHlo.binary main_v165 main_v170 main_v171 (Host.divf : (⟨S16384x64, .f32⟩ : BufTy).Contents (Elt F) → (⟨S16384x64, .f32⟩ : BufTy).Contents (Elt F) → (⟨S16384x64, .f32⟩ : BufTy).Contents (Elt F)),
    StableHlo.unary main_v155 main_v172 (broadcastInDim S1x64 ![1] bcast_S64_S1x64_1 : (⟨S64, .f32⟩ : BufTy).Contents (Elt F) → (⟨S1x64, .f32⟩ : BufTy).Contents (Elt F)),
    StableHlo.unary main_v172 main_v173 (broadcastInDim S16384x64 ![0, 1] bcast_S1x64_S16384x64_0_1 : (⟨S1x64, .f32⟩ : BufTy).Contents (Elt F) → (⟨S16384x64, .f32⟩ : BufTy).Contents (Elt F)),
    StableHlo.binary main_v171 main_v173 main_v174 (addf : (⟨S16384x64, .f32⟩ : BufTy).Contents (Elt F) → (⟨S16384x64, .f32⟩ : BufTy).Contents (Elt F) → (⟨S16384x64, .f32⟩ : BufTy).Contents (Elt F)),
    StableHlo.nullary main_call7_cst (constant S_ .f32 0x00000000#32),
    StableHlo.unary main_call7_cst main_call7_v0 ((broadcastInDim S16384x64 ![] bcast_S_S16384x64) : (⟨S_, .f32⟩ : BufTy).Contents (Elt F) → (⟨S16384x64, .f32⟩ : BufTy).Contents (Elt F)),
    StableHlo.binary main_v174 main_call7_v0 main_v175 (maximumf : (⟨S16384x64, .f32⟩ : BufTy).Contents (Elt F) → (⟨S16384x64, .f32⟩ : BufTy).Contents (Elt F) → (⟨S16384x64, .f32⟩ : BufTy).Contents (Elt F)) ]

theorem sM2_sub : (sM2 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem sM2_fresh : (sM2 : List (HloOp τ sig (Elt F))).Forall fun op => op.fresh = ∅ :=
  StableHlo.forall_fresh_of_map rfl

/-- What they write, in order. -/
abbrev oM2 : List (Ref sig .tc) := [main_v168, main_v169, main_v170, main_v171, main_v172, main_v173, main_v174, main_call7_cst, main_call7_v0, main_v175]

theorem sM2_writes : (sM2 : List (HloOp τ sig (Elt F))).Forall fun op => op.writes ⊆ (oM2.map (Proc.devRef (τ := τ) .tc)).toFinset :=
  StableHlo.forall_writes_sub_of_map rfl

theorem args_oM2 : ∀ a ∈ argRefs, a ∉ oM2 := ListAll.forall_mem_of_all_decide (by decide +kernel)

/-- The operations of the decoder head. -/
abbrev sMh : List (HloOp τ sig (Elt F)) :=
  [ StableHlo.unary main_arg17 main_v176 ((transpose S64x64 [1, 0] · transposes_S64x64_S64x64_1_0) : (⟨S64x64, .f32⟩ : BufTy).Contents (Elt F) → (⟨S64x64, .f32⟩ : BufTy).Contents (Elt F)),
    StableHlo.binary main_v175 main_v176 main_v177 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    StableHlo.unary main_arg18 main_v178 (broadcastInDim S1x64 ![1] bcast_S64_S1x64_1 : (⟨S64, .f32⟩ : BufTy).Contents (Elt F) → (⟨S1x64, .f32⟩ : BufTy).Contents (Elt F)),
    StableHlo.unary main_v178 main_v179 (broadcastInDim S16384x64 ![0, 1] bcast_S1x64_S16384x64_0_1 : (⟨S1x64, .f32⟩ : BufTy).Contents (Elt F) → (⟨S16384x64, .f32⟩ : BufTy).Contents (Elt F)),
    StableHlo.binary main_v177 main_v179 main_v180 (addf : (⟨S16384x64, .f32⟩ : BufTy).Contents (Elt F) → (⟨S16384x64, .f32⟩ : BufTy).Contents (Elt F) → (⟨S16384x64, .f32⟩ : BufTy).Contents (Elt F)),
    StableHlo.unary main_v180 main_v181 (Host.tanh : (⟨S16384x64, .f32⟩ : BufTy).Contents (Elt F) → (⟨S16384x64, .f32⟩ : BufTy).Contents (Elt F)),
    StableHlo.unary main_arg19 main_v182 ((transpose S64x64 [1, 0] · transposes_S64x64_S64x64_1_0) : (⟨S64x64, .f32⟩ : BufTy).Contents (Elt F) → (⟨S64x64, .f32⟩ : BufTy).Contents (Elt F)),
    StableHlo.binary main_v181 main_v182 main_v183 ((fun l r => Host.dotGeneral dot_S16384x64_S64x64_S16384x64_1_0_0_1_n_n none l r) : (⟨S16384x64, .f32⟩ : BufTy).Contents (Elt F) → (⟨S64x64, .f32⟩ : BufTy).Contents (Elt F) → (⟨S16384x64, .f32⟩ : BufTy).Contents (Elt F)),
    StableHlo.unary main_arg20 main_v184 (broadcastInDim S1x64 ![1] bcast_S64_S1x64_1 : (⟨S64, .f32⟩ : BufTy).Contents (Elt F) → (⟨S1x64, .f32⟩ : BufTy).Contents (Elt F)),
    StableHlo.unary main_v184 main_v185 (broadcastInDim S16384x64 ![0, 1] bcast_S1x64_S16384x64_0_1 : (⟨S1x64, .f32⟩ : BufTy).Contents (Elt F) → (⟨S16384x64, .f32⟩ : BufTy).Contents (Elt F)),
    StableHlo.binary main_v183 main_v185 main_v186 (addf : (⟨S16384x64, .f32⟩ : BufTy).Contents (Elt F) → (⟨S16384x64, .f32⟩ : BufTy).Contents (Elt F) → (⟨S16384x64, .f32⟩ : BufTy).Contents (Elt F)) ]

theorem sMh_sub : (sMh : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

theorem sMh_fresh : (sMh : List (HloOp τ sig (Elt F))).Forall fun op => op.fresh = ∅ :=
  StableHlo.forall_fresh_of_map rfl

/-- What they write, in order. -/
abbrev oMh : List (Ref sig .tc) := [main_v176, main_v177, main_v178, main_v179, main_v180, main_v181, main_v182, main_v183, main_v184, main_v185, main_v186]

theorem sMh_writes : (sMh : List (HloOp τ sig (Elt F))).Forall fun op => op.writes ⊆ (oMh.map (Proc.devRef (τ := τ) .tc)).toFinset :=
  StableHlo.forall_writes_sub_of_map rfl

theorem args_oMh : ∀ a ∈ argRefs, a ∉ oMh := ListAll.forall_mem_of_all_decide (by decide +kernel)

theorem part0_eq (d : Dev nD) : main_part0 (F := F) d = StableHlo.seqK sL1 (StableHlo.seqK sL2a (pure ⟨⟩)) := by
  chain_rfl

theorem part1_eq (d : Dev nD) : main_part1 (F := F) d = StableHlo.seqK sL2 (StableHlo.seqK sHd (StableHlo.seqK sNm (StableHlo.seqK sDs (StableHlo.seqK sAm (StableHlo.seqK sTk (StableHlo.seqK sLs (pure ⟨⟩))))))) := by
  chain_rfl

theorem part2_eq (d : Dev nD) : main_part2 (F := F) d = StableHlo.seqK sM1 (StableHlo.seqK sM2a (pure ⟨⟩)) := by
  chain_rfl

theorem part3_eq (d : Dev nD) : main_part3 (F := F) d = StableHlo.seqK sM2 (StableHlo.seqK sMh (pure ⟨⟩)) := by
  chain_rfl

/-- The whole line. -/
def line : List (HloOp τ sig (Elt F)) := sL1 ++ (sL2a ++ (sL2 ++ (sHd ++ (sNm ++ (sDs ++ (sAm ++ (sTk ++ (sLs ++ (sM1 ++ (sM2a ++ (sM2 ++ (sMh))))))))))))

theorem main_eq (d : Dev nD) : main (F := F) d = StableHlo.seq line := by
  show (main_part0 (F := F) d >>= fun _ => main_part1 (F := F) d >>= fun _ => main_part2 (F := F) d >>= fun _ => main_part3 (F := F) d) = _
  rw [part0_eq, part1_eq, part2_eq, part3_eq]
  simp only [line, StableHlo.seq_append, ← StableHlo.seq_bind_seqK, bind_assoc, pure_bind, bind_pure_unit]

theorem line_sub : (line : List (HloOp τ sig (Elt F))).Forall fun op => op.bufs ⊆ StableHlo.tcRefs τ sig := by
  unfold line; simp only [List.forall_append]
  exact ⟨sL1_sub, sL2a_sub, sL2_sub, sHd_sub, sNm_sub, sDs_sub, sAm_sub, sTk_sub, sLs_sub, sM1_sub, sM2a_sub, sM2_sub, sMh_sub⟩

theorem line_fresh : (line : List (HloOp τ sig (Elt F))).Forall fun op => op.fresh = ∅ := by
  unfold line; simp only [List.forall_append]
  exact ⟨sL1_fresh, sL2a_fresh, sL2_fresh, sHd_fresh, sNm_fresh, sDs_fresh, sAm_fresh, sTk_fresh, sLs_fresh, sM1_fresh, sM2a_fresh, sM2_fresh, sMh_fresh⟩

variable (V : Valuation τ sig (Elt F))

/-- What every buffer holds after the stage `sL1`, from `V`. -/
abbrev RL1 : Valuation τ sig (Elt F) := StableHlo.after sL1 V
theorem RL1_of (r : Ref sig .tc) (h : r ∉ oL1) : RL1 V (Proc.devRef .tc r) = V (Proc.devRef .tc r) :=
  StableHlo.after_of_writes_sub sL1 _ sL1_writes h
theorem RL1_args : ∀ a ∈ argRefs, RL1 V (Proc.devRef .tc a) = V (Proc.devRef .tc a) :=
  fun a ha => (RL1_of V a (args_oL1 a ha))

/-- What every buffer holds after the stage `sL2a`, from `V`. -/
abbrev RL2a : Valuation τ sig (Elt F) := StableHlo.after sL2a (RL1 V)
theorem RL2a_of (r : Ref sig .tc) (h : r ∉ oL2a) : RL2a V (Proc.devRef .tc r) = RL1 V (Proc.devRef .tc r) :=
  StableHlo.after_of_writes_sub sL2a _ sL2a_writes h
theorem RL2a_args : ∀ a ∈ argRefs, RL2a V (Proc.devRef .tc a) = V (Proc.devRef .tc a) :=
  fun a ha => (RL2a_of V a (args_oL2a a ha)).trans (RL1_args V a ha)

/-- What every buffer holds after the stage `sL2`, from `V`. -/
abbrev RL2 : Valuation τ sig (Elt F) := StableHlo.after sL2 (RL2a V)
theorem RL2_of (r : Ref sig .tc) (h : r ∉ oL2) : RL2 V (Proc.devRef .tc r) = RL2a V (Proc.devRef .tc r) :=
  StableHlo.after_of_writes_sub sL2 _ sL2_writes h
theorem RL2_args : ∀ a ∈ argRefs, RL2 V (Proc.devRef .tc a) = V (Proc.devRef .tc a) :=
  fun a ha => (RL2_of V a (args_oL2 a ha)).trans (RL2a_args V a ha)

/-- What every buffer holds after the stage `sHd`, from `V`. -/
abbrev RHd : Valuation τ sig (Elt F) := StableHlo.after sHd (RL2 V)
theorem RHd_of (r : Ref sig .tc) (h : r ∉ oHd) : RHd V (Proc.devRef .tc r) = RL2 V (Proc.devRef .tc r) :=
  StableHlo.after_of_writes_sub sHd _ sHd_writes h
theorem RHd_args : ∀ a ∈ argRefs, RHd V (Proc.devRef .tc a) = V (Proc.devRef .tc a) :=
  fun a ha => (RHd_of V a (args_oHd a ha)).trans (RL2_args V a ha)

/-- What every buffer holds after the stage `sNm`, from `V`. -/
abbrev RNm : Valuation τ sig (Elt F) := StableHlo.after sNm (RHd V)
theorem RNm_of (r : Ref sig .tc) (h : r ∉ oNm) : RNm V (Proc.devRef .tc r) = RHd V (Proc.devRef .tc r) :=
  StableHlo.after_of_writes_sub sNm _ sNm_writes h
theorem RNm_args : ∀ a ∈ argRefs, RNm V (Proc.devRef .tc a) = V (Proc.devRef .tc a) :=
  fun a ha => (RNm_of V a (args_oNm a ha)).trans (RHd_args V a ha)

/-- What every buffer holds after the stage `sDs`, from `V`. -/
abbrev RDs : Valuation τ sig (Elt F) := StableHlo.after sDs (RNm V)
theorem RDs_of (r : Ref sig .tc) (h : r ∉ oDs) : RDs V (Proc.devRef .tc r) = RNm V (Proc.devRef .tc r) :=
  StableHlo.after_of_writes_sub sDs _ sDs_writes h
theorem RDs_args : ∀ a ∈ argRefs, RDs V (Proc.devRef .tc a) = V (Proc.devRef .tc a) :=
  fun a ha => (RDs_of V a (args_oDs a ha)).trans (RNm_args V a ha)

/-- What every buffer holds after the stage `sAm`, from `V`. -/
abbrev RAm : Valuation τ sig (Elt F) := StableHlo.after sAm (RDs V)
theorem RAm_of (r : Ref sig .tc) (h : r ∉ oAm) : RAm V (Proc.devRef .tc r) = RDs V (Proc.devRef .tc r) :=
  StableHlo.after_of_writes_sub sAm _ sAm_writes h
theorem RAm_args : ∀ a ∈ argRefs, RAm V (Proc.devRef .tc a) = V (Proc.devRef .tc a) :=
  fun a ha => (RAm_of V a (args_oAm a ha)).trans (RDs_args V a ha)

/-- What every buffer holds after the stage `sTk`, from `V`. -/
abbrev RTk : Valuation τ sig (Elt F) := StableHlo.after sTk (RAm V)
theorem RTk_of (r : Ref sig .tc) (h : r ∉ oTk) : RTk V (Proc.devRef .tc r) = RAm V (Proc.devRef .tc r) :=
  StableHlo.after_of_writes_sub sTk _ sTk_writes h
theorem RTk_args : ∀ a ∈ argRefs, RTk V (Proc.devRef .tc a) = V (Proc.devRef .tc a) :=
  fun a ha => (RTk_of V a (args_oTk a ha)).trans (RAm_args V a ha)

/-- What every buffer holds after the stage `sLs`, from `V`. -/
abbrev RLs : Valuation τ sig (Elt F) := StableHlo.after sLs (RTk V)
theorem RLs_of (r : Ref sig .tc) (h : r ∉ oLs) : RLs V (Proc.devRef .tc r) = RTk V (Proc.devRef .tc r) :=
  StableHlo.after_of_writes_sub sLs _ sLs_writes h
theorem RLs_args : ∀ a ∈ argRefs, RLs V (Proc.devRef .tc a) = V (Proc.devRef .tc a) :=
  fun a ha => (RLs_of V a (args_oLs a ha)).trans (RTk_args V a ha)

/-- What every buffer holds after the stage `sM1`, from `V`. -/
abbrev RM1 : Valuation τ sig (Elt F) := StableHlo.after sM1 (RLs V)
theorem RM1_of (r : Ref sig .tc) (h : r ∉ oM1) : RM1 V (Proc.devRef .tc r) = RLs V (Proc.devRef .tc r) :=
  StableHlo.after_of_writes_sub sM1 _ sM1_writes h
theorem RM1_args : ∀ a ∈ argRefs, RM1 V (Proc.devRef .tc a) = V (Proc.devRef .tc a) :=
  fun a ha => (RM1_of V a (args_oM1 a ha)).trans (RLs_args V a ha)

/-- What every buffer holds after the stage `sM2a`, from `V`. -/
abbrev RM2a : Valuation τ sig (Elt F) := StableHlo.after sM2a (RM1 V)
theorem RM2a_of (r : Ref sig .tc) (h : r ∉ oM2a) : RM2a V (Proc.devRef .tc r) = RM1 V (Proc.devRef .tc r) :=
  StableHlo.after_of_writes_sub sM2a _ sM2a_writes h
theorem RM2a_args : ∀ a ∈ argRefs, RM2a V (Proc.devRef .tc a) = V (Proc.devRef .tc a) :=
  fun a ha => (RM2a_of V a (args_oM2a a ha)).trans (RM1_args V a ha)

/-- What every buffer holds after the stage `sM2`, from `V`. -/
abbrev RM2 : Valuation τ sig (Elt F) := StableHlo.after sM2 (RM2a V)
theorem RM2_of (r : Ref sig .tc) (h : r ∉ oM2) : RM2 V (Proc.devRef .tc r) = RM2a V (Proc.devRef .tc r) :=
  StableHlo.after_of_writes_sub sM2 _ sM2_writes h
theorem RM2_args : ∀ a ∈ argRefs, RM2 V (Proc.devRef .tc a) = V (Proc.devRef .tc a) :=
  fun a ha => (RM2_of V a (args_oM2 a ha)).trans (RM2a_args V a ha)

/-- What every buffer holds after the stage `sMh`, from `V`. -/
abbrev RMh : Valuation τ sig (Elt F) := StableHlo.after sMh (RM2 V)
theorem RMh_of (r : Ref sig .tc) (h : r ∉ oMh) : RMh V (Proc.devRef .tc r) = RM2 V (Proc.devRef .tc r) :=
  StableHlo.after_of_writes_sub sMh _ sMh_writes h
theorem RMh_args : ∀ a ∈ argRefs, RMh V (Proc.devRef .tc a) = V (Proc.devRef .tc a) :=
  fun a ha => (RMh_of V a (args_oMh a ha)).trans (RM2_args V a ha)

theorem after_line : StableHlo.after line V = RMh V := by
  simp only [line, StableHlo.after_append]

/-- The run of the reference: every buffer at the last stage's contents, the counters at zero. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∀ (d : Dev nD) (b : Ref sig .tc), r.2.mem ((d.tc : Thread nD τ).loc b) = RMh (fun b => m (d, b)) (Proc.devRef .tc b))
      ∧ r.2.sem = fun _ => 0) :=
  (θ_run (defs (F := F)) _ _).mono (fun r h => ⟨fun d b => by rw [h d b, after_line], sem_eq_zero_of_no_sems rfl _⟩)
    (StableHlo.run_seq (by decide) (by decide) defs main (fun _ => line) main_eq (fun _ => line_sub) m ρ
      (fun _ => List.forall_iff_forall_mem.mp line_fresh))

end Cert.Proof.Ref

end
-- ==== Proof.RefFrame.lean ====
/-
  The reference runs: its arguments end as they began and every counter is back at zero.
-/
module

public import proofs.«01_k».proof.Proof.Ref

@[expose] public section

noncomputable section

namespace Cert.Proof.Ref

open Cert.ReferenceIdeal Cert.ReferenceIdeal.Gen
open Idealize.ShloMosaic Idealize.ShloMosaic.TcCoe
open Idealize.SL Idealize.SL.Sem

/-- At the end an argument array holds what it held at launch. -/
theorem arg_end {F : FTy → Type} [FloatOps F] (m : (ℓ : Loc nD τ sig) → Buf (Elt F) ℓ) {r : PUnit × MemSt nD τ sig (Elt F)}
    (h : ∀ (d : Dev nD) (b : Ref sig .tc), r.2.mem ((d.tc : Thread nD τ).loc b) = RMh (fun b => m (d, b)) (Proc.devRef .tc b))
    (c : Dev nD) (a : Ref sig .tc) (ha : a ∈ argRefs) : r.2.mem ((c.tc : Thread nD τ).loc a) = m ((c.tc : Thread nD τ).loc a) :=
  (h c a).trans (RMh_args _ a ha)

/-- The reference over the reals runs, leaves its arguments and all counters at zero. -/
theorem frame_reference : Cert.quiescent_ReferenceIdeal := fun m ρ _ =>
  (θ_run (Cert.ReferenceIdeal.defs (F := Ideal)) _ _).mono
    (fun _ h => ⟨fun c => ⟨arg_end m h.1 c main_arg0 (by decide), arg_end m h.1 c main_arg1 (by decide), arg_end m h.1 c main_arg2 (by decide), arg_end m h.1 c main_arg3 (by decide), arg_end m h.1 c main_arg4 (by decide), arg_end m h.1 c main_arg5 (by decide), arg_end m h.1 c main_arg6 (by decide), arg_end m h.1 c main_arg7 (by decide), arg_end m h.1 c main_arg8 (by decide), arg_end m h.1 c main_arg9 (by decide), arg_end m h.1 c main_arg10 (by decide), arg_end m h.1 c main_arg11 (by decide), arg_end m h.1 c main_arg12 (by decide), arg_end m h.1 c main_arg13 (by decide), arg_end m h.1 c main_arg14 (by decide), arg_end m h.1 c main_arg15 (by decide), arg_end m h.1 c main_arg16 (by decide), arg_end m h.1 c main_arg17 (by decide), arg_end m h.1 c main_arg18 (by decide), arg_end m h.1 c main_arg19 (by decide), arg_end m h.1 c main_arg20 (by decide), arg_end m h.1 c main_arg21 (by decide)⟩, h.2⟩)
    (run_main (F := Ideal) m ρ)

end Cert.Proof.Ref

end
-- ==== Proof.Model.lean ====
/-
  The mathematics of the program, row by row, over the extended reals: a network of two layers and a head, a row scaled to unit
  length, the distance of a row to a code, the least nearest code.
-/
module

public import Idealize.ShloMosaic.PureOps.Ideal
public import Idealize.ShloMosaic.Lib.Pipeline.ValueKit

@[expose] public section

noncomputable section

namespace Cert.Proof.Model

open Idealize.ShloMosaic

/-- An array of extended reals. -/
abbrev Arr (n : ℕ) (d : Fin n → ℕ) : Type := (⟨n, d⟩ : Shape).Idx → EReal
/-- A row of 64 numbers. -/
abbrev Row : Type := Fin 64 → EReal

/-- Row `i` of an array of rows. -/
def row {n : ℕ} (A : Arr 2 ![n, 64]) (i : Fin n) : Row := fun x => A (ix2 i x)

/-- Layer `l`: a linear map, a normalisation by the stored mean and variance, a clamp at zero from below. -/
def layer (W : Arr 3 ![2, 64, 64]) (b g t u v : Arr 2 ![2, 64]) (l : Fin 2) (h : Row) : Row := fun j =>
  max (Ideal.div (g (ix2 l j) * (∑ x, h x * W (ix3 l j x) + b (ix2 l j) - u (ix2 l j)))
    (Ideal.sqrt (v (ix2 l j) + Ideal.ofBits .f32 925353388#32)) + t (ix2 l j)) 0

/-- The head: a linear map, a hyperbolic tangent, a linear map. -/
def head (W₁ : Arr 2 ![64, 64]) (b₁ : Arr 1 ![64]) (W₂ : Arr 2 ![64, 64]) (b₂ : Arr 1 ![64]) (h : Row) : Row := fun j =>
  ∑ x, Ideal.tanh (∑ y, h y * W₁ (ix2 x y) + b₁ (ix1 x)) * W₂ (ix2 j x) + b₂ (ix1 j)

/-- The network: both layers, then the head. -/
def net (W : Arr 3 ![2, 64, 64]) (b g t u v : Arr 2 ![2, 64]) (W₁ : Arr 2 ![64, 64]) (b₁ : Arr 1 ![64]) (W₂ : Arr 2 ![64, 64])
    (b₂ : Arr 1 ![64]) (h : Row) : Row :=
  head W₁ b₁ W₂ b₂ (layer W b g t u v 1 (layer W b g t u v 0 h))

/-- A row divided by its length, or by a small constant if that is larger. -/
def unit (h : Row) : Row := fun j => Ideal.div (h j) (max (Ideal.sqrt (∑ x, h x * h x)) (Ideal.ofBits .f32 730643660#32))

/-- The squared distance of a row to a code, expanded. -/
def sqDist (z k : Row) : EReal := ∑ x, z x * z x + ∑ x, k x * k x - ∑ x, Ideal.ofBits .f32 1073741824#32 * z x * k x

/-- `n` is the least index at which `d` is least. -/
def IsLeast {N : ℕ} (d : Fin N → EReal) (n : Fin N) : Prop := (∀ k, d n ≤ d k) ∧ ∀ k, d k ≤ d n → n ≤ k

theorem IsLeast.unique {N : ℕ} {d : Fin N → EReal} {a b : Fin N} (ha : IsLeast d a) (hb : IsLeast d b) : a = b :=
  le_antisymm (ha.2 b (hb.1 a)) (hb.2 a (ha.1 b))

/-- The least index of a least value. -/
def nearest {N : ℕ} [NeZero N] (d : Fin N → EReal) : Fin N := open Classical in
  if h : ∃ n, IsLeast d n then h.choose else 0

theorem nearest_eq {N : ℕ} [NeZero N] {d : Fin N → EReal} {n : Fin N} (h : IsLeast d n) : nearest d = n := by
  have he : ∃ n, IsLeast d n := ⟨n, h⟩
  unfold nearest; rw [dif_pos he]; exact he.choose_spec.unique h

/-- The sum over all rows of the squared differences of two arrays of rows. -/
def sqDiff (a b : Fin 16384 → Row) : EReal := ∑ i, ∑ x, (a i x - b i x) * (a i x - b i x)

/-- The row handed to the decoder: the row, plus its difference to the chosen code. -/
def through (z q : Row) : Row := fun x => z x + (q x - z x)

end Cert.Proof.Model

end
-- ==== Proof.EncVal.lean ====
/-
  The encoder over the reals, row by row.
-/
module

public import proofs.«01_k».proof.Proof.Enc
public import proofs.«01_k».proof.Proof.Model
public import proofs.«01_k».proof.Proof.Fold
public import Idealize.ShloMosaic.Lib.Pipeline.ValueKit
public import Idealize.ShloMosaic.Lib.StableHlo.RunRead
public import Idealize.ShloMosaic.Lib.StableHlo.ReadAt

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

open Cert.Proof.Model

/-- The encoder's body, entry by entry: the network, its weights stored transposed. -/
theorem encVal_eq (x0 : Vec Ideal S256x64 .f32) (x1 : Vec Ideal S2x64x64 .f32) (x2 x3 x4 x5 x6 : Vec Ideal S2x1x64 .f32)
    (x7 : Vec Ideal S64x64 .f32) (x8 : Vec Ideal S1x64 .f32) (x9 : Vec Ideal S64x64 .f32) (x10 : Vec Ideal S1x64 .f32) (a : Fin 256) (j : Fin 64) :
    (encVal x0 x1 x2 x3 x4 x5 x6 x7 x8 x9 x10 (ix2 a j) : EReal)
      = net (fun y => x1 (ix3 (y 0) (y 2) (y 1))) (fun y => x2 (ix3 (y 0) 0 (y 1))) (fun y => x3 (ix3 (y 0) 0 (y 1))) (fun y => x4 (ix3 (y 0) 0 (y 1)))
          (fun y => x5 (ix3 (y 0) 0 (y 1))) (fun y => x6 (ix3 (y 0) 0 (y 1))) (fun y => x7 (ix2 (y 1) (y 0))) (fun y => x8 (ix2 0 (y 0)))
          (fun y => x9 (ix2 (y 1) (y 0))) (fun y => x10 (ix2 0 (y 0))) (row x0 a) j := by
  unfold encVal k0_pay1 k0_pay2 k0_pay3 k0_pay4 k0_pay5 k0_pay6 net head layer row
  pointwise

theorem encOut_eq (x0 : Vec Ideal S256x64 .f32) (x1 : Vec Ideal S2x64x64 .f32) (x2 x3 x4 x5 x6 : Vec Ideal S2x1x64 .f32)
    (x7 : Vec Ideal S64x64 .f32) (x8 : Vec Ideal S1x64 .f32) (x9 : Vec Ideal S64x64 .f32) (x10 : Vec Ideal S1x64 .f32) :
    encOut x0 x1 x2 x3 x4 x5 x6 x7 x8 x9 x10 = encVal x0 x1 x2 x3 x4 x5 x6 x7 x8 x9 x10 :=
  View.canon_cons_unit_lit (Val := Elt Ideal) (S := S256x64) (e := .f32) inb_S256x64_S256x64_0_0 _ [] (by decide)

variable (m : (ℓ : Loc nD τ sig) → Buf (Elt Ideal) ℓ)

theorem enc_idx : ∀ t : Fin cfg0.N, win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0] ∧ win0_8.index t = ![0, 0] ∧ win0_9.index t = ![0, 0] ∧ win0_10.index t = ![0, 0] := by
  decide +kernel

theorem enc_blk1 (c : Dev nD) (t : Fin cfg0.N) (l : Fin 2) (x j : Fin 64) :
    (encBlk (V1 m) c 1 t (ix3 l x j) : EReal) = W0 m c (Proc.devRef .tc main_arg1) (ix3 l j x) := by
  unfold encBlk
  blk_simp
  rw [show (win0_1.blk t).view.emb (ix3 l x j) = ix3 l x j by blk_ext [(enc_idx t).1]]
  after_reads_at

theorem enc_blk2 (c : Dev nD) (t : Fin cfg0.N) (l : Fin 2) (j : Fin 64) :
    (encBlk (V1 m) c 2 t (ix3 l 0 j) : EReal) = W0 m c (Proc.devRef .tc main_arg2) (ix2 l j) := by
  unfold encBlk
  blk_simp
  rw [show (win0_2.blk t).view.emb (ix3 l 0 j) = ix3 l 0 j by blk_ext [(enc_idx t).2.1]]
  after_reads_at

theorem enc_blk3 (c : Dev nD) (t : Fin cfg0.N) (l : Fin 2) (j : Fin 64) :
    (encBlk (V1 m) c 3 t (ix3 l 0 j) : EReal) = W0 m c (Proc.devRef .tc main_arg3) (ix2 l j) := by
  unfold encBlk
  blk_simp
  rw [show (win0_3.blk t).view.emb (ix3 l 0 j) = ix3 l 0 j by blk_ext [(enc_idx t).2.2.1]]
  after_reads_at

theorem enc_blk4 (c : Dev nD) (t : Fin cfg0.N) (l : Fin 2) (j : Fin 64) :
    (encBlk (V1 m) c 4 t (ix3 l 0 j) : EReal) = W0 m c (Proc.devRef .tc main_arg4) (ix2 l j) := by
  unfold encBlk
  blk_simp
  rw [show (win0_4.blk t).view.emb (ix3 l 0 j) = ix3 l 0 j by blk_ext [(enc_idx t).2.2.2.1]]
  after_reads_at

theorem enc_blk5 (c : Dev nD) (t : Fin cfg0.N) (l : Fin 2) (j : Fin 64) :
    (encBlk (V1 m) c 5 t (ix3 l 0 j) : EReal) = W0 m c (Proc.devRef .tc main_arg5) (ix2 l j) := by
  unfold encBlk
  blk_simp
  rw [show (win0_5.blk t).view.emb (ix3 l 0 j) = ix3 l 0 j by blk_ext [(enc_idx t).2.2.2.2.1]]
  after_reads_at

theorem enc_blk6 (c : Dev nD) (t : Fin cfg0.N) (l : Fin 2) (j : Fin 64) :
    (encBlk (V1 m) c 6 t (ix3 l 0 j) : EReal) = W0 m c (Proc.devRef .tc main_arg6) (ix2 l j) := by
  unfold encBlk
  blk_simp
  rw [show (win0_6.blk t).view.emb (ix3 l 0 j) = ix3 l 0 j by blk_ext [(enc_idx t).2.2.2.2.2.1]]
  after_reads_at

theorem enc_blk7 (c : Dev nD) (t : Fin cfg0.N) (x j : Fin 64) :
    (encBlk (V1 m) c 7 t (ix2 x j) : EReal) = W0 m c (Proc.devRef .tc main_arg7) (ix2 j x) := by
  unfold encBlk
  blk_simp
  rw [show (win0_7.blk t).view.emb (ix2 x j) = ix2 x j by blk_ext [(enc_idx t).2.2.2.2.2.2.1]]
  after_reads_at

theorem enc_blk8 (c : Dev nD) (t : Fin cfg0.N) (j : Fin 64) :
    (encBlk (V1 m) c 8 t (ix2 0 j) : EReal) = W0 m c (Proc.devRef .tc main_arg8) (ix1 j) := by
  unfold encBlk
  blk_simp
  rw [show (win0_8.blk t).view.emb (ix2 0 j) = ix2 0 j by blk_ext [(enc_idx t).2.2.2.2.2.2.2.1]]
  after_reads_at

theorem enc_blk9 (c : Dev nD) (t : Fin cfg0.N) (x j : Fin 64) :
    (encBlk (V1 m) c 9 t (ix2 x j) : EReal) = W0 m c (Proc.devRef .tc main_arg9) (ix2 j x) := by
  unfold encBlk
  blk_simp
  rw [show (win0_9.blk t).view.emb (ix2 x j) = ix2 x j by blk_ext [(enc_idx t).2.2.2.2.2.2.2.2.1]]
  after_reads_at

theorem enc_blk10 (c : Dev nD) (t : Fin cfg0.N) (j : Fin 64) :
    (encBlk (V1 m) c 10 t (ix2 0 j) : EReal) = W0 m c (Proc.devRef .tc main_arg10) (ix1 j) := by
  unfold encBlk
  blk_simp
  rw [show (win0_10.blk t).view.emb (ix2 0 j) = ix2 0 j by blk_ext [(enc_idx t).2.2.2.2.2.2.2.2.2]]
  after_reads_at

theorem enc_rows_idx : ∀ t : Fin cfg0.N, win0_0.index t = ![t.val, 0] ∧ win0_11.index t = ![t.val, 0] := by decide +kernel

theorem enc_blk0 (c : Dev nD) (t : Fin cfg0.N) (a : Fin 256) (x : Fin 64) (i : Fin 16384) (hi : i.val = t.val * 256 + a.val) :
    (encBlk (V1 m) c 0 t (ix2 a x) : EReal) = W0 m c (Proc.devRef .tc main_arg0) (ix2 i x) := by
  unfold encBlk
  blk_simp
  rw [show (win0_0.blk t).view.emb (ix2 a x) = ix2 i x by blk_ext [(enc_rows_idx t).1]]
  after_reads_at

/-- The encoder's array: the network of every row. -/
theorem enc_arr (c : Dev nD) : ((encDat (V1 m) (Own (F := Ideal) 0) (Bnd (F := Ideal) 0) c).arrAt 11 cfg0.N : Arr 2 ![16384, 64]) = fun z =>
    net (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) (W0 m c (Proc.devRef .tc main_arg7)) (W0 m c (Proc.devRef .tc main_arg8)) (W0 m c (Proc.devRef .tc main_arg9)) (W0 m c (Proc.devRef .tc main_arg10)) (row (W0 m c (Proc.devRef .tc main_arg0)) (z 0)) (z 1) := by
  refine (encDat (V1 m) (Own (F := Ideal) 0) (Bnd (F := Ideal) 0) c).arrAt_eq_of_covers 11 _ (by decide +kernel) (fun t hf y => ?_)
  rw [encDat_after11, encOut_eq]
  blk_simp
  obtain ⟨a, j, rfl⟩ : ∃ (a : Fin 256) (j : Fin 64), y = ix2 a j := ⟨y 0, y 1, by funext b; match b with | ⟨0, _⟩ => rfl | ⟨1, _⟩ => rfl⟩
  have ht := t.isLt
  have ha := a.isLt
  have hN : t.val < 64 := ht
  have hi : t.val * 256 + a.val < 16384 := by omega
  rw [show (win0_11.blk t).view.emb (ix2 a j) = ix2 (⟨t.val * 256 + a.val, hi⟩ : Fin 16384) j by blk_ext [(enc_rows_idx t).2], encVal_eq]
  unfold net head layer row
  simp only [ix2_0, ix2_1, ix1_0, ix3_0, ix3_1, ix3_2, enc_blk0 m c t a _ ⟨t.val * 256 + a.val, hi⟩ rfl, enc_blk1 m c t, enc_blk2 m c t, enc_blk3 m c t, enc_blk4 m c t, enc_blk5 m c t, enc_blk6 m c t, enc_blk7 m c t, enc_blk8 m c t, enc_blk9 m c t, enc_blk10 m c t]

/-- The encoder's rows, of the arguments. -/
theorem enc_net_row (c : Dev nD) (i : Fin 16384) : row (W2 m c (Proc.devRef .tc main_v10)) i
    = net (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) (W0 m c (Proc.devRef .tc main_arg7)) (W0 m c (Proc.devRef .tc main_arg8)) (W0 m c (Proc.devRef .tc main_arg9)) (W0 m c (Proc.devRef .tc main_arg10)) (row (W0 m c (Proc.devRef .tc main_arg0)) i) := by
  funext x
  unfold row
  exact (congrFun ((W2_arr m c 11).trans (enc_arr m c)) (ix2 i x))

end Cert.Proof.Run

end
-- ==== Proof.Spec.lean ====
/-
  What both programs compute, from the argument arrays: the normalised rows, the chosen codes, the decoded rows, the loss.
-/
module

public import proofs.«01_k».proof.Proof.Model

@[expose] public section

noncomputable section

namespace Cert.Proof.Model

open Idealize.ShloMosaic

/-- The encoded rows, each of unit length. -/
def zRows (x : Arr 2 ![16384, 64]) (W : Arr 3 ![2, 64, 64]) (b g t u v : Arr 2 ![2, 64]) (W₁ : Arr 2 ![64, 64]) (b₁ : Arr 1 ![64])
    (W₂ : Arr 2 ![64, 64]) (b₂ : Arr 1 ![64]) : Fin 16384 → Row := fun i => unit (net W b g t u v W₁ b₁ W₂ b₂ (row x i))

/-- The codes, each of unit length. -/
def codeRows (C : Arr 2 ![8192, 64]) : Fin 8192 → Row := fun k => unit (row C k)

/-- The code of every row: the nearest, the least of several. -/
def chosen (Z : Fin 16384 → Row) (B : Fin 8192 → Row) : Fin 16384 → Row := fun i => B (nearest fun k => sqDist (Z i) (B k))

/-- The decoded rows. -/
def decoded (Z : Fin 16384 → Row) (B : Fin 8192 → Row) (W : Arr 3 ![2, 64, 64]) (b g t u v : Arr 2 ![2, 64]) (W₁ : Arr 2 ![64, 64])
    (b₁ : Arr 1 ![64]) (W₂ : Arr 2 ![64, 64]) (b₂ : Arr 1 ![64]) : Fin 16384 → Row :=
  fun i => net W b g t u v W₁ b₁ W₂ b₂ (through (Z i) (chosen Z B i))

/-- The mean squared difference of the rows to their codes. -/
def loss (Z : Fin 16384 → Row) (B : Fin 8192 → Row) : EReal := Ideal.div (sqDiff (chosen Z B) Z) (Ideal.ofBits .f32 1233125376#32)

end Cert.Proof.Model

end
-- ==== Proof.HostVal.lean ====
/-
  The operations between the calls over the reals: the normalised rows and codes, the table of pairs, the mean.
-/
module

public import proofs.«01_k».proof.Proof.EncVal
public import proofs.«01_k».proof.Proof.Spec
public import Idealize.ShloMosaic.Lib.Pipeline.ValueKit
public import Idealize.ShloMosaic.Lib.StableHlo.RunRead
public import Idealize.ShloMosaic.Lib.StableHlo.ReadAt

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

open Cert.Proof.Model

section
variable (V : Valuation τ sig (Elt Ideal))

theorem v19_row (i : Fin 16384) : row (StableHlo.after opsB V (Proc.devRef .tc main_v19)) i = unit (row (V (Proc.devRef .tc main_v10)) i) := by
  funext j
  unfold row unit
  after_reads_at
  try (simp only [id_eq]; pointwise)

theorem v32_row (k : Fin 8192) : row (StableHlo.after opsB V (Proc.devRef .tc main_v32)) k = unit (row (V (Proc.devRef .tc main_arg21)) k) := by
  funext j
  unfold row unit
  after_reads_at
  try (simp only [id_eq]; pointwise)

theorem v37_at (x : Fin 64) (i : Fin 16384) : (StableHlo.after opsB V (Proc.devRef .tc main_v37) : Arr 2 ![64, 16384]) (ix2 x i)
    = unit (row (V (Proc.devRef .tc main_v10)) i) x := by
  unfold row unit
  after_reads_at
  try (simp only [id_eq]; pointwise)

theorem v40_at (r : Fin 8) (i : Fin 16384) : (StableHlo.after opsB V (Proc.devRef .tc main_v40) : Arr 2 ![8, 16384]) (ix2 r i)
    = ∑ x, unit (row (V (Proc.devRef .tc main_v10)) i) x * unit (row (V (Proc.devRef .tc main_v10)) i) x := by
  unfold row unit
  after_reads_at
  try (simp only [id_eq]; pointwise)

theorem v42_at (k : Fin 8192) : (StableHlo.after opsB V (Proc.devRef .tc main_v42) : Arr 2 ![8192, 1]) (ix2 k 0)
    = ∑ x, unit (row (V (Proc.devRef .tc main_arg21)) k) x * unit (row (V (Proc.devRef .tc main_arg21)) k) x := by
  unfold row unit
  after_reads_at
  try (simp only [id_eq]; pointwise)

theorem v46_at (i : Fin 16384) : (StableHlo.after opsC V (Proc.devRef .tc main_v46) : S16384x1.Idx → BitVec 32) (ix2 i 0)
    = (V (Proc.devRef .tc main_v43) : S8x16384.Idx → BitVec 32) (ix2 0 i) := by
  after_reads_at

/-- The table of pairs: row `p` is the codes `2 p` and `2 p + 1`, one after the other. -/
theorem v47_at (p : Fin 4096) (q : Fin 128) (k : Fin 8192) (x : Fin 64) (h : k.val * 64 + x.val = p.val * 128 + q.val) :
    (StableHlo.after opsC V (Proc.devRef .tc main_v47) : Arr 2 ![4096, 128]) (ix2 p q) = (V (Proc.devRef .tc main_v32) : Arr 2 ![8192, 64]) (ix2 k x) := by
  after_reads_at
  have hk := k.isLt
  have hx := x.isLt
  congr 1
  funext b
  match b with
  | ⟨0, _⟩ => exact Fin.ext (by show p.val * 2 + q.val / 64 = k.val; omega)
  | ⟨1, _⟩ => exact Fin.ext (by show q.val % 64 = x.val; omega)

theorem v64_at (y : S_.Idx) : (StableHlo.after opsE V (Proc.devRef .tc main_v64) : Arr 0 ![]) y
    = Ideal.div ((V (Proc.devRef .tc main_v62_1) : Arr 2 ![1, 1]) (ix2 0 0)) (Ideal.ofBits .f32 1233125376#32) := by
  after_reads_at

end

variable (m : (ℓ : Loc nD τ sig) → Buf (Elt Ideal) ℓ)

/-- The normalised rows, of the arguments. -/
abbrev Zk (c : Dev nD) : Fin 16384 → Row := zRows (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) (W0 m c (Proc.devRef .tc main_arg7)) (W0 m c (Proc.devRef .tc main_arg8)) (W0 m c (Proc.devRef .tc main_arg9)) (W0 m c (Proc.devRef .tc main_arg10))
/-- The normalised codes, of the arguments. -/
abbrev Bk (c : Dev nD) : Fin 8192 → Row := codeRows (W0 m c (Proc.devRef .tc main_arg21))

theorem z_row (c : Dev nD) (i : Fin 16384) : unit (row (W2 m c (Proc.devRef .tc main_v10)) i) = Zk m c i := by
  rw [enc_net_row]; rfl

theorem b_row (c : Dev nD) (k : Fin 8192) : unit (row (W2 m c (Proc.devRef .tc main_arg21)) k) = Bk m c k := by
  rw [W2_args m c main_arg21 (by decide +kernel)]; rfl

end Cert.Proof.Run

end
-- ==== Proof.NearVal.lean ====
/-
  The nearest-code call over the reals: the code of every row is the nearest.
-/
module

public import proofs.«01_k».proof.Proof.HostVal
public import proofs.«01_k».proof.Proof.Codes
public import Idealize.ShloMosaic.Lib.Pipeline.ValueKit
public import Idealize.ShloMosaic.Lib.StableHlo.RunRead
public import Idealize.ShloMosaic.Lib.StableHlo.ReadAt

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

open Cert.Proof.Model

theorem inf_top : Ideal.ofBits .f32 2139095040#32 = ⊤ := by simp [Ideal.ofBits, Ideal.ieee]

/-- A minimum taken from the top is attained. -/
theorem fold_min_spec (d : Fin 8192 → EReal) : (∀ k, Finset.univ.fold min ⊤ d ≤ d k) ∧ ∃ k, d k = Finset.univ.fold min ⊤ d := by
  have hle : ∀ k, Finset.univ.fold min ⊤ d ≤ d k := fun k => ((Finset.le_fold_min _).mp le_rfl).2 k (Finset.mem_univ _)
  refine ⟨hle, ?_⟩
  rcases (Finset.fold_min_le (Finset.univ.fold min ⊤ d)).mp le_rfl with h | ⟨k, -, h⟩
  · exact ⟨0, le_antisymm (le_top.trans h) (hle 0)⟩
  · exact ⟨k, le_antisymm h (hle k)⟩

theorem fin_of {N a : ℕ} {h : a < N} (h' : a < N) (p : Fin N → Prop) (hp : p ⟨a, h⟩) : ∃ n : Fin N, a = n.val ∧ p n := ⟨⟨a, h⟩, rfl, hp⟩

/-- What the body leaves in a column: the least index of its least distance. -/
theorem nearVal_at (x0 : Vec Ideal S64x256 .f32) (x1 : Vec Ideal S8x256 .f32) (x2 : Vec Ideal S8192x64 .f32) (x3 : Vec Ideal S8192x1 .f32)
    (r : Fin 8) (i : Fin 256) : ∃ n : Fin 8192,
      IsLeast (fun k => ((x1 (ix2 0 i) : EReal) + x3 (ix2 k 0) - ∑ x, (x2 (ix2 k x) : EReal) * (Ideal.ofBits .f32 1073741824#32 * x0 (ix2 x i)))) n
      ∧ (nearVal x0 x1 x2 x3 (ix2 r i) : BitVec 32) = BitVec.ofNat 32 n.val := by
  generalize hd : (fun k : Fin 8192 => ((x1 (ix2 0 i) : EReal) + x3 (ix2 k 0) - ∑ x, (x2 (ix2 k x) : EReal) * (Ideal.ofBits .f32 1073741824#32 * x0 (ix2 x i)))) = d
  have e : (nearVal x0 x1 x2 x3 (ix2 r i) : BitVec 32) = codeOf fun k => if d k = Finset.univ.fold min ⊤ d then 1 else 0 := by
    rw [← hd, ← inf_top]
    unfold nearVal k1_pay1 codeOf
    pointwise
    congr 1
    funext k
    unfold Scalar.select
    split <;> simp_all
  obtain ⟨hle, k₀, hk₀⟩ := fold_min_spec d
  generalize ht : (fun k : Fin 8192 => if d k = Finset.univ.fold min ⊤ d then (1 : BitVec 1) else 0) = t at e
  have ht1 : ∀ k, t k = 1 → d k = Finset.univ.fold min ⊤ d := fun k hk => by
    by_contra hne
    rw [← ht] at hk
    exact absurd ((if_neg hne).symm.trans hk) (by decide)
  have ht2 : ∀ k, d k = Finset.univ.fold min ⊤ d → t k = 1 := fun k hk => by rw [← ht]; exact if_pos hk
  obtain ⟨h1, h2⟩ := codeOf_spec t ⟨k₀, ht2 k₀ hk₀⟩
  obtain ⟨n, hv, h1⟩ : ∃ n : Fin 8192, (codeOf t).toNat = n.val ∧ t n = 1 := fin_of (codeOf_lt t) (fun n => t n = 1) h1
  have hmin := ht1 n h1
  have hA : ∀ k, d n ≤ d k := fun k => by rw [hmin]; exact hle k
  have hB : ∀ k, d k ≤ d n → n ≤ k := fun k hk => by
    have hk' : d k = Finset.univ.fold min ⊤ d := le_antisymm (by rw [← hmin]; exact hk) (hle k)
    have := h2 k (ht2 k hk')
    rw [hv] at this
    exact this
  refine ⟨n, ⟨hA, hB⟩, ?_⟩
  rw [e, ← hv, BitVec.ofNat_toNat, BitVec.setWidth_eq]

variable (m : (ℓ : Loc nD τ sig) → Buf (Elt Ideal) ℓ)

theorem near_idx : ∀ t : Fin cfg1.N, win1_0.index t = ![0, t.val] ∧ win1_1.index t = ![0, t.val] ∧ win1_2.index t = ![0, 0] ∧ win1_3.index t = ![0, 0]
    ∧ win1_4.index t = ![0, t.val] := by decide +kernel

theorem near_blk0 (c : Dev nD) (t : Fin cfg1.N) (x : Fin 64) (a : Fin 256) (i : Fin 16384) (hi : i.val = t.val * 256 + a.val) :
    (nearBlk (V3 m) c 0 t (ix2 x a) : EReal) = Zk m c i x := by
  unfold nearBlk
  blk_simp
  rw [show (win1_0.blk t).view.emb (ix2 x a) = ix2 x i by blk_ext [(near_idx t).1]]
  exact (v37_at (W2 m c) x i).trans (congrFun (z_row m c i) x)

theorem near_blk1 (c : Dev nD) (t : Fin cfg1.N) (r : Fin 8) (a : Fin 256) (i : Fin 16384) (hi : i.val = t.val * 256 + a.val) :
    (nearBlk (V3 m) c 1 t (ix2 r a) : EReal) = ∑ x, Zk m c i x * Zk m c i x := by
  unfold nearBlk
  blk_simp
  rw [show (win1_1.blk t).view.emb (ix2 r a) = ix2 r i by blk_ext [(near_idx t).2.1]]
  refine (v40_at (W2 m c) r i).trans ?_
  rw [z_row]

theorem near_blk2 (c : Dev nD) (t : Fin cfg1.N) (k : Fin 8192) (x : Fin 64) :
    (nearBlk (V3 m) c 2 t (ix2 k x) : EReal) = Bk m c k x := by
  unfold nearBlk
  blk_simp
  rw [show (win1_2.blk t).view.emb (ix2 k x) = ix2 k x by blk_ext [(near_idx t).2.2.1]]
  exact (congrFun (v32_row (W2 m c) k) x).trans (congrFun (b_row m c k) x)

theorem near_blk3 (c : Dev nD) (t : Fin cfg1.N) (k : Fin 8192) :
    (nearBlk (V3 m) c 3 t (ix2 k 0) : EReal) = ∑ x, Bk m c k x * Bk m c k x := by
  unfold nearBlk
  blk_simp
  rw [show (win1_3.blk t).view.emb (ix2 k 0) = ix2 k 0 by blk_ext [(near_idx t).2.2.2.1]]
  refine (v42_at (W2 m c) k).trans ?_
  rw [b_row]

/-- Every code: the nearest of its row. -/
theorem code_forall (c : Dev nD) (z : S8x16384.Idx) : (W4 m c (Proc.devRef .tc main_v43) z : BitVec 32)
    = BitVec.ofNat 32 (nearest fun k => sqDist (Zk m c (z 1)) (Bk m c k)).val := by
  have h := (nearDat (V3 m) (Own (F := Ideal) 0) (Bnd (F := Ideal) 0) c).arrAt_forall_of_covers 4
    (fun z v => (v : BitVec 32) = BitVec.ofNat 32 (nearest fun k => sqDist (Zk m c ((show S8x16384.Idx from z) 1)) (Bk m c k)).val)
    (by decide +kernel) (fun t hf y => by
      blk_simp
      rw [nearDat_after4, nearOut_eq]
      obtain ⟨r, a, rfl⟩ : ∃ (r : Fin 8) (a : Fin 256), y = ix2 r a := ⟨y 0, y 1, by funext b; match b with | ⟨0, _⟩ => rfl | ⟨1, _⟩ => rfl⟩
      have hN : t.val < 64 := t.isLt
      have ha := a.isLt
      have hi : t.val * 256 + a.val < 16384 := by omega
      obtain ⟨n, hn, e⟩ := nearVal_at (nearBlk (V3 m) c 0 t) (nearBlk (V3 m) c 1 t) (nearBlk (V3 m) c 2 t) (nearBlk (V3 m) c 3 t) r a
      rw [show (win1_4.blk t).view.emb (ix2 r a) = ix2 r (⟨t.val * 256 + a.val, hi⟩ : Fin 16384) by blk_ext [(near_idx t).2.2.2.2]]
      refine e.trans ?_
      refine congrArg (fun n : Fin 8192 => BitVec.ofNat 32 n.val) (nearest_eq ?_).symm
      refine Eq.mp (congrArg (fun d : Fin 8192 → EReal => IsLeast d n) (funext fun k => ?_)) hn
      show _ = sqDist (Zk m c ⟨t.val * 256 + a.val, hi⟩) (Bk m c k)
      unfold sqDist
      rw [near_blk1 m c t 0 a ⟨t.val * 256 + a.val, hi⟩ rfl, near_blk3 m c t k]
      refine congrArg _ (Finset.sum_congr rfl fun x _ => ?_)
      rw [near_blk0 m c t x a ⟨t.val * 256 + a.val, hi⟩ rfl, near_blk2 m c t k x]
      exact mul_comm _ _) z
  rw [← W4_arr m c 4] at h
  exact h

end Cert.Proof.Run

end
-- ==== Proof.GatherVal.lean ====
/-
  The gathered pairs over the reals, and the half of every pair that the decoder picks: the chosen code.
-/
module

public import proofs.«01_k».proof.Proof.NearVal
public import Idealize.ShloMosaic.Lib.Pipeline.ValueKit
public import Idealize.ShloMosaic.Lib.StableHlo.RunRead
public import Idealize.ShloMosaic.Lib.StableHlo.ReadAt

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

open Cert.Proof.Model

/-- The half of a pair of codes that the code's last bit names. -/
def pickRow (x1 : Vec Ideal S256x128 .f32) (x2 : Vec Ideal S256x1 .i32) (a : Fin 256) : Row := fun x =>
  Scalar.select (IntOp.cmpi .eq (IntOp.andi (x2 (ix2 a 0)) 1#32) 0#32) (x1 (ix2 a ⟨x.val, by omega⟩)) (x1 (ix2 a ⟨64 + x.val, by omega⟩))

theorem select_parity {α : Type} (n : Fin 8192) (a b : α) :
    Scalar.select (IntOp.cmpi .eq (IntOp.andi (BitVec.ofNat 32 n.val) 1#32) 0#32) a b = if n.val % 2 = 0 then a else b := by
  have hn := n.isLt
  have e : (IntOp.andi (BitVec.ofNat 32 n.val) 1#32 : BitVec 32).toNat = n.val % 2 := by
    show (BitVec.ofNat 32 n.val &&& 1#32).toNat = _
    rw [BitVec.toNat_and, BitVec.toNat_ofNat, Nat.mod_eq_of_lt (by omega)]
    exact Nat.and_one_is_mod _
  generalize IntOp.andi (BitVec.ofNat 32 n.val) 1#32 = v at e
  by_cases h : n.val % 2 = 0
  · rw [if_pos h]
    have hv : v = 0#32 := BitVec.eq_of_toNat_eq (by rw [e, h]; rfl)
    rw [hv]; rfl
  · rw [if_neg h]
    have hv : v = 1#32 := BitVec.eq_of_toNat_eq (by rw [e]; show n.val % 2 = 1; omega)
    rw [hv]; rfl

theorem half_toNat (n : Fin 8192) : ((BitVec.ofNat 32 n.val).sshiftRight 1).toNat = n.val / 2 := by
  have hn := n.isLt
  have h : (BitVec.ofNat 32 n.val).toNat = n.val := by rw [BitVec.toNat_ofNat, Nat.mod_eq_of_lt (by omega)]
  rw [BitVec.toNat_sshiftRight_of_msb_false (by rw [BitVec.msb_eq_decide, decide_eq_false_iff_not, h]; omega), h, Nat.shiftRight_eq_div_pow]

variable (m : (ℓ : Loc nD τ sig) → Buf (Elt Ideal) ℓ)

/-- The code of row `i`. -/
abbrev nk (c : Dev nD) (i : Fin 16384) : Fin 8192 := nearest fun k => sqDist (Zk m c i) (Bk m c k)

theorem ix_at (c : Dev nD) (i : Fin 16384) :
    (ixOf m c (ix2 ⟨i.val / 512, by omega⟩ ⟨i.val % 512, Nat.mod_lt _ (by decide)⟩) : BitVec 32).toNat = (nk m c i).val / 2 := by
  rw [ixOf_eq, code_forall]
  have hi : (⟨i.val / 512 * 512 + i.val % 512, by omega⟩ : Fin 16384) = i := Fin.ext (by show i.val / 512 * 512 + i.val % 512 = i.val; omega)
  exact (congrArg (fun i' : Fin 16384 => ((BitVec.ofNat 32 (nk m c i').val).sshiftRight 1).toNat) hi).trans (half_toNat _)

/-- The gathered pair of row `i`: the codes of its halved code, one after the other. -/
theorem pair_at (c : Dev nD) (i : Fin 16384) (q : Fin 128) (k : Fin 8192) (x : Fin 64)
    (h : k.val * 64 + x.val = (nk m c i).val / 2 * 128 + q.val) :
    (W6 m c (Proc.devRef .tc main_v51) : Arr 2 ![16384, 128]) (ix2 i q) = Bk m c k x := by
  rw [W6_out]
  have hn := (nk m c i).isLt
  have e : gout (F := Ideal) (tbOf m c) (ixOf m c) (ix2 i q) = tbOf m c (ix2 ⟨(ixOf m c (ix2 ⟨i.val / 512, by omega⟩ ⟨i.val % 512, Nat.mod_lt _ (by decide)⟩) : BitVec 32).toNat % 4096, Nat.mod_lt _ (by decide)⟩ q) := rfl
  refine e.trans ?_
  refine (v47_at (W4 m c) ⟨_, _⟩ q k x ?_).trans ?_
  · rw [ix_at]
    show k.val * 64 + x.val = (nk m c i).val / 2 % 4096 * 128 + q.val
    omega
  · rw [W4_of m c main_v32 (by decide +kernel)]
    exact (congrFun (v32_row (W2 m c) k) x).trans (congrFun (b_row m c k) x)

theorem v46_code (c : Dev nD) (i : Fin 16384) : (W6 m c (Proc.devRef .tc main_v46) : S16384x1.Idx → BitVec 32) (ix2 i 0) = BitVec.ofNat 32 (nk m c i).val := by
  rw [W6_of m c main_v46 (by decide +kernel)]
  exact (v46_at (W4 m c) i).trans (code_forall m c (ix2 0 i))

theorem v19_kept (c : Dev nD) (i : Fin 16384) (x : Fin 64) : (W6 m c (Proc.devRef .tc main_v19) : Arr 2 ![16384, 64]) (ix2 i x) = Zk m c i x := by
  rw [W6_of m c main_v19 (by decide +kernel), W5_of m c main_v19 (by decide +kernel), W4_of m c main_v19 (by decide +kernel)]
  exact (congrFun (v19_row (W2 m c) i) x).trans (congrFun (z_row m c i) x)

/-! ## The decoder's row windows -/

theorem dec_rows_idx : ∀ t : Fin cfg3.N, win3_0.index t = ![t.val, 0] ∧ win3_1.index t = ![t.val, 0] ∧ win3_2.index t = ![t.val, 0] ∧ win3_13.index t = ![t.val, 0] := by
  decide +kernel

theorem dec_blk0 (c : Dev nD) (t : Fin cfg3.N) (a : Fin 256) (x : Fin 64) (i : Fin 16384) (hi : i.val = t.val * 256 + a.val) :
    (decBlk (V7 m) c 0 t (ix2 a x) : EReal) = Zk m c i x := by
  unfold decBlk
  blk_simp
  rw [show (win3_0.blk t).view.emb (ix2 a x) = ix2 i x by blk_ext [(dec_rows_idx t).1]]
  show (W7 m c (Proc.devRef .tc main_v19) : Arr 2 ![16384, 64]) (ix2 i x) = _
  rw [W7_of m c main_v19 (by decide +kernel)]
  exact v19_kept m c i x

theorem dec_blk1 (c : Dev nD) (t : Fin cfg3.N) (a : Fin 256) (q : Fin 128) (i : Fin 16384) (hi : i.val = t.val * 256 + a.val) :
    (decBlk (V7 m) c 1 t (ix2 a q) : EReal) = (W6 m c (Proc.devRef .tc main_v51) : Arr 2 ![16384, 128]) (ix2 i q) := by
  unfold decBlk
  blk_simp
  rw [show (win3_1.blk t).view.emb (ix2 a q) = ix2 i q by blk_ext [(dec_rows_idx t).2.1]]
  show (W7 m c (Proc.devRef .tc main_v51) : Arr 2 ![16384, 128]) (ix2 i q) = _
  rw [W7_of m c main_v51 (by decide +kernel)]

theorem dec_blk2 (c : Dev nD) (t : Fin cfg3.N) (a : Fin 256) (i : Fin 16384) (hi : i.val = t.val * 256 + a.val) :
    (decBlk (V7 m) c 2 t (ix2 a 0) : BitVec 32) = BitVec.ofNat 32 (nk m c i).val := by
  unfold decBlk
  blk_simp
  rw [show (win3_2.blk t).view.emb (ix2 a 0) = ix2 i 0 by blk_ext [(dec_rows_idx t).2.2.1]]
  show (W7 m c (Proc.devRef .tc main_v46) : S16384x1.Idx → BitVec 32) (ix2 i 0) = _
  rw [W7_of m c main_v46 (by decide +kernel)]
  exact v46_code m c i

/-- The row the decoder picks is the chosen code. -/
theorem pick_row (c : Dev nD) (t : Fin cfg3.N) (a : Fin 256) (i : Fin 16384) (hi : i.val = t.val * 256 + a.val) :
    pickRow (decBlk (V7 m) c 1 t) (decBlk (V7 m) c 2 t) a = chosen (Zk m c) (Bk m c) i := by
  funext x
  unfold pickRow
  rw [dec_blk2 m c t a i hi, select_parity]
  have hn := (nk m c i).isLt
  have hx := x.isLt
  show _ = Bk m c (nk m c i) x
  split
  · exact (dec_blk1 m c t a ⟨x.val, _⟩ i hi).trans (pair_at m c i ⟨x.val, _⟩ (nk m c i) x (by show _ = _ / 2 * 128 + x.val; omega))
  · exact (dec_blk1 m c t a ⟨64 + x.val, _⟩ i hi).trans (pair_at m c i ⟨64 + x.val, _⟩ (nk m c i) x (by show _ = _ / 2 * 128 + (64 + x.val); omega))

theorem z_blk (c : Dev nD) (t : Fin cfg3.N) (a : Fin 256) (i : Fin 16384) (hi : i.val = t.val * 256 + a.val) :
    row (decBlk (V7 m) c 0 t) a = Zk m c i := funext fun x => dec_blk0 m c t a x i hi

end Cert.Proof.Run

end
-- ==== Proof.DecVal.lean ====
/-
  The decoder over the reals: its rows, and the sum of the squared differences over all blocks.
-/
module

public import proofs.«01_k».proof.Proof.GatherVal
public import proofs.«01_k».proof.Proof.Dec
public import Idealize.ShloMosaic.Lib.Pipeline.ValueKit
public import Idealize.ShloMosaic.Lib.StableHlo.RunRead
public import Idealize.ShloMosaic.Lib.StableHlo.ReadAt

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

open Cert.Proof.Model

/-- The decoder's body, entry by entry: the network of the row handed through. -/
theorem decVal_eq (x0 : Vec Ideal S256x64 .f32) (x1 : Vec Ideal S256x128 .f32) (x2 : Vec Ideal S256x1 .i32) (x3 : Vec Ideal S2x64x64 .f32)
    (x4 x5 x6 x7 x8 : Vec Ideal S2x1x64 .f32) (x9 : Vec Ideal S64x64 .f32) (x10 : Vec Ideal S1x64 .f32) (x11 : Vec Ideal S64x64 .f32) (x12 : Vec Ideal S1x64 .f32) (a : Fin 256) (j : Fin 64) :
    (decVal x0 x1 x2 x3 x4 x5 x6 x7 x8 x9 x10 x11 x12 (ix2 a j) : EReal)
      = net (fun y => x3 (ix3 (y 0) (y 2) (y 1))) (fun y => x4 (ix3 (y 0) 0 (y 1))) (fun y => x5 (ix3 (y 0) 0 (y 1))) (fun y => x6 (ix3 (y 0) 0 (y 1)))
          (fun y => x7 (ix3 (y 0) 0 (y 1))) (fun y => x8 (ix3 (y 0) 0 (y 1))) (fun y => x9 (ix2 (y 1) (y 0))) (fun y => x10 (ix2 0 (y 0)))
          (fun y => x11 (ix2 (y 1) (y 0))) (fun y => x12 (ix2 0 (y 0))) (through (row x0 a) (pickRow x1 x2 a)) j := by
  unfold decVal k3_pay1 k3_pay8 k3_pay7 k3_pay6 k3_pay3 k3_pay2 net head layer row through pickRow
  pointwise

theorem decOut_eq (x0 : Vec Ideal S256x64 .f32) (x1 : Vec Ideal S256x128 .f32) (x2 : Vec Ideal S256x1 .i32) (x3 : Vec Ideal S2x64x64 .f32)
    (x4 x5 x6 x7 x8 : Vec Ideal S2x1x64 .f32) (x9 : Vec Ideal S64x64 .f32) (x10 : Vec Ideal S1x64 .f32) (x11 : Vec Ideal S64x64 .f32) (x12 : Vec Ideal S1x64 .f32) :
    decOut x0 x1 x2 x3 x4 x5 x6 x7 x8 x9 x10 x11 x12 = decVal x0 x1 x2 x3 x4 x5 x6 x7 x8 x9 x10 x11 x12 :=
  View.canon_cons_unit_lit (Val := Elt Ideal) (S := S256x64) (e := .f32) inb_S256x64_S256x64_0_0 _ [] (by decide)

/-- The accumulator after a block: what it held, plus the block's squared differences. -/
theorem decAcc_eq (x0 : Vec Ideal S256x64 .f32) (x1 : Vec Ideal S256x128 .f32) (x2 : Vec Ideal S256x1 .i32) (a : Vec Ideal S1x1 .f32) :
    (decAcc x0 x1 x2 a (ix2 0 0) : EReal) = a (ix2 0 0) + ∑ r : Fin 256, ∑ x : Fin 64,
      (pickRow x1 x2 r x - row x0 r x) * (pickRow x1 x2 r x - row x0 r x) := by
  rw [show decAcc x0 x1 x2 a = k3_pay5 (View.ld x0 dX) (View.ld x1 dP) (View.ld x2 dI) a from
    View.canon_cons_unit_lit (Val := Elt Ideal) (S := S1x1) (e := .f32) inb_S1x1_S1x1_0_0 _ [] (by decide)]
  unfold k3_pay5 k3_pay3 k3_pay2 row pickRow
  pointwise

theorem acc_start : (k3_pay4 (F := Ideal) (ix2 0 0) : EReal) = 0 := by
  unfold k3_pay4
  pointwise

variable (m : (ℓ : Loc nD τ sig) → Buf (Elt Ideal) ℓ)

theorem dec_idx : ∀ t : Fin cfg3.N, win3_3.index t = ![0, 0, 0] ∧ win3_4.index t = ![0, 0, 0] ∧ win3_5.index t = ![0, 0, 0] ∧ win3_6.index t = ![0, 0, 0] ∧ win3_7.index t = ![0, 0, 0] ∧ win3_8.index t = ![0, 0, 0] ∧ win3_9.index t = ![0, 0] ∧ win3_10.index t = ![0, 0] ∧ win3_11.index t = ![0, 0] ∧ win3_12.index t = ![0, 0] := by
  decide +kernel

theorem dec_blk3 (c : Dev nD) (t : Fin cfg3.N) (l : Fin 2) (x j : Fin 64) :
    (decBlk (V7 m) c 3 t (ix3 l x j) : EReal) = W6 m c (Proc.devRef .tc main_arg11) (ix3 l j x) := by
  unfold decBlk
  blk_simp
  rw [show (win3_3.blk t).view.emb (ix3 l x j) = ix3 l x j by blk_ext [(dec_idx t).1]]
  after_reads_at

theorem dec_blk4 (c : Dev nD) (t : Fin cfg3.N) (l : Fin 2) (j : Fin 64) :
    (decBlk (V7 m) c 4 t (ix3 l 0 j) : EReal) = W6 m c (Proc.devRef .tc main_arg12) (ix2 l j) := by
  unfold decBlk
  blk_simp
  rw [show (win3_4.blk t).view.emb (ix3 l 0 j) = ix3 l 0 j by blk_ext [(dec_idx t).2.1]]
  after_reads_at

theorem dec_blk5 (c : Dev nD) (t : Fin cfg3.N) (l : Fin 2) (j : Fin 64) :
    (decBlk (V7 m) c 5 t (ix3 l 0 j) : EReal) = W6 m c (Proc.devRef .tc main_arg13) (ix2 l j) := by
  unfold decBlk
  blk_simp
  rw [show (win3_5.blk t).view.emb (ix3 l 0 j) = ix3 l 0 j by blk_ext [(dec_idx t).2.2.1]]
  after_reads_at

theorem dec_blk6 (c : Dev nD) (t : Fin cfg3.N) (l : Fin 2) (j : Fin 64) :
    (decBlk (V7 m) c 6 t (ix3 l 0 j) : EReal) = W6 m c (Proc.devRef .tc main_arg14) (ix2 l j) := by
  unfold decBlk
  blk_simp
  rw [show (win3_6.blk t).view.emb (ix3 l 0 j) = ix3 l 0 j by blk_ext [(dec_idx t).2.2.2.1]]
  after_reads_at

theorem dec_blk7 (c : Dev nD) (t : Fin cfg3.N) (l : Fin 2) (j : Fin 64) :
    (decBlk (V7 m) c 7 t (ix3 l 0 j) : EReal) = W6 m c (Proc.devRef .tc main_arg15) (ix2 l j) := by
  unfold decBlk
  blk_simp
  rw [show (win3_7.blk t).view.emb (ix3 l 0 j) = ix3 l 0 j by blk_ext [(dec_idx t).2.2.2.2.1]]
  after_reads_at

theorem dec_blk8 (c : Dev nD) (t : Fin cfg3.N) (l : Fin 2) (j : Fin 64) :
    (decBlk (V7 m) c 8 t (ix3 l 0 j) : EReal) = W6 m c (Proc.devRef .tc main_arg16) (ix2 l j) := by
  unfold decBlk
  blk_simp
  rw [show (win3_8.blk t).view.emb (ix3 l 0 j) = ix3 l 0 j by blk_ext [(dec_idx t).2.2.2.2.2.1]]
  after_reads_at

theorem dec_blk9 (c : Dev nD) (t : Fin cfg3.N) (x j : Fin 64) :
    (decBlk (V7 m) c 9 t (ix2 x j) : EReal) = W6 m c (Proc.devRef .tc main_arg17) (ix2 j x) := by
  unfold decBlk
  blk_simp
  rw [show (win3_9.blk t).view.emb (ix2 x j) = ix2 x j by blk_ext [(dec_idx t).2.2.2.2.2.2.1]]
  after_reads_at

theorem dec_blk10 (c : Dev nD) (t : Fin cfg3.N) (j : Fin 64) :
    (decBlk (V7 m) c 10 t (ix2 0 j) : EReal) = W6 m c (Proc.devRef .tc main_arg18) (ix1 j) := by
  unfold decBlk
  blk_simp
  rw [show (win3_10.blk t).view.emb (ix2 0 j) = ix2 0 j by blk_ext [(dec_idx t).2.2.2.2.2.2.2.1]]
  after_reads_at

theorem dec_blk11 (c : Dev nD) (t : Fin cfg3.N) (x j : Fin 64) :
    (decBlk (V7 m) c 11 t (ix2 x j) : EReal) = W6 m c (Proc.devRef .tc main_arg19) (ix2 j x) := by
  unfold decBlk
  blk_simp
  rw [show (win3_11.blk t).view.emb (ix2 x j) = ix2 x j by blk_ext [(dec_idx t).2.2.2.2.2.2.2.2.1]]
  after_reads_at

theorem dec_blk12 (c : Dev nD) (t : Fin cfg3.N) (j : Fin 64) :
    (decBlk (V7 m) c 12 t (ix2 0 j) : EReal) = W6 m c (Proc.devRef .tc main_arg20) (ix1 j) := by
  unfold decBlk
  blk_simp
  rw [show (win3_12.blk t).view.emb (ix2 0 j) = ix2 0 j by blk_ext [(dec_idx t).2.2.2.2.2.2.2.2.2]]
  after_reads_at

/-- The decoder's rows: the network of every row handed through. -/
theorem dec_arr (c : Dev nD) : ((decDat (V7 m) (Own (F := Ideal) 1) (Bnd (F := Ideal) 1) c).arrAt 13 cfg3.N : Arr 2 ![16384, 64]) = fun z =>
    decoded (Zk m c) (Bk m c) (W0 m c (Proc.devRef .tc main_arg11)) (W0 m c (Proc.devRef .tc main_arg12)) (W0 m c (Proc.devRef .tc main_arg13)) (W0 m c (Proc.devRef .tc main_arg14)) (W0 m c (Proc.devRef .tc main_arg15)) (W0 m c (Proc.devRef .tc main_arg16)) (W0 m c (Proc.devRef .tc main_arg17)) (W0 m c (Proc.devRef .tc main_arg18)) (W0 m c (Proc.devRef .tc main_arg19)) (W0 m c (Proc.devRef .tc main_arg20)) (z 0) (z 1) := by
  refine (decDat (V7 m) (Own (F := Ideal) 1) (Bnd (F := Ideal) 1) c).arrAt_eq_of_covers 13 _ (by decide +kernel) (fun t hf y => ?_)
  rw [decDat_after13, decOut_eq]
  blk_simp
  obtain ⟨a, j, rfl⟩ : ∃ (a : Fin 256) (j : Fin 64), y = ix2 a j := ⟨y 0, y 1, by funext b; match b with | ⟨0, _⟩ => rfl | ⟨1, _⟩ => rfl⟩
  have ht := t.isLt
  have ha := a.isLt
  have hN : t.val < 64 := ht
  have hi : t.val * 256 + a.val < 16384 := by omega
  rw [show (win3_13.blk t).view.emb (ix2 a j) = ix2 (⟨t.val * 256 + a.val, hi⟩ : Fin 16384) j by blk_ext [(dec_rows_idx t).2.2.2], decVal_eq,
    pick_row m c t a ⟨t.val * 256 + a.val, hi⟩ rfl, z_blk m c t a ⟨t.val * 256 + a.val, hi⟩ rfl]
  unfold decoded net head layer
  simp only [ix2_0, ix2_1, ix1_0, ix3_0, ix3_1, ix3_2, dec_blk3 m c t, dec_blk4 m c t, dec_blk5 m c t, dec_blk6 m c t, dec_blk7 m c t, dec_blk8 m c t, dec_blk9 m c t, dec_blk10 m c t, dec_blk11 m c t, dec_blk12 m c t, W6_args m c main_arg11 (by decide +kernel), W6_args m c main_arg12 (by decide +kernel), W6_args m c main_arg13 (by decide +kernel), W6_args m c main_arg14 (by decide +kernel), W6_args m c main_arg15 (by decide +kernel), W6_args m c main_arg16 (by decide +kernel), W6_args m c main_arg17 (by decide +kernel), W6_args m c main_arg18 (by decide +kernel), W6_args m c main_arg19 (by decide +kernel), W6_args m c main_arg20 (by decide +kernel)]

/-- The result's rows. -/
theorem rows_end (c : Dev nD) (i : Fin 16384) : row (W9 m c (Proc.devRef .tc main_v62_0)) i
    = decoded (Zk m c) (Bk m c) (W0 m c (Proc.devRef .tc main_arg11)) (W0 m c (Proc.devRef .tc main_arg12)) (W0 m c (Proc.devRef .tc main_arg13)) (W0 m c (Proc.devRef .tc main_arg14)) (W0 m c (Proc.devRef .tc main_arg15)) (W0 m c (Proc.devRef .tc main_arg16)) (W0 m c (Proc.devRef .tc main_arg17)) (W0 m c (Proc.devRef .tc main_arg18)) (W0 m c (Proc.devRef .tc main_arg19)) (W0 m c (Proc.devRef .tc main_arg20)) i := by
  rw [W9_of m c main_v62_0 (by decide +kernel)]
  funext x
  unfold row
  exact (congrFun ((W8_arr m c 13).trans (dec_arr m c)) (ix2 i x))

/-! ## The sum of the squared differences -/

/-- The squared differences of row `i`. -/
def rowDiff (c : Dev nD) (i : Fin 16384) : EReal :=
  ∑ x, (chosen (Zk m c) (Bk m c) i x - Zk m c i x) * (chosen (Zk m c) (Bk m c) i x - Zk m c i x)

/-- The squared differences of block `n`. -/
def blkDiff (c : Dev nD) (n : ℕ) : EReal := ∑ r : Fin 256, if h : n * 256 + r.val < 16384 then rowDiff m c ⟨n * 256 + r.val, h⟩ else 0

theorem acc_step (c : Dev nD) (t : Fin cfg3.N) (a : Vec Ideal S1x1 .f32) :
    (decAcc (decBlk (V7 m) c 0 t) (decBlk (V7 m) c 1 t) (decBlk (V7 m) c 2 t) a (ix2 0 0) : EReal) = a (ix2 0 0) + blkDiff m c t.val := by
  rw [decAcc_eq]
  unfold blkDiff
  have hN : t.val < 64 := t.isLt
  refine congrArg (a (ix2 0 0) + ·) (Finset.sum_congr rfl fun r _ => ?_)
  have hr := r.isLt
  have hi : t.val * 256 + r.val < 16384 := by omega
  rw [dif_pos hi, pick_row m c t r ⟨_, hi⟩ rfl, z_blk m c t r ⟨_, hi⟩ rfl]
  rfl

/-- The last grid point. -/
def tEnd : Fin cfg3.N := ⟨63, by decide⟩

theorem acc_end (c : Dev nD) : (accAt (V7 m) c tEnd.val tEnd.isLt (ix2 0 0) : EReal) = sqDiff (chosen (Zk m c) (Bk m c)) (Zk m c) := by
  have h := Pipeline.eq_sum_of_reset_step (M := EReal) (fun n h => (accAt (V7 m) c n h (ix2 0 0) : EReal)) 64 0 (blkDiff m c)
    (fun t h0 => by
      show (accAt (V7 m) c t.val t.isLt (ix2 0 0) : EReal) = _
      rw [accAt_first (V7 m) c t h0, acc_step, acc_start])
    (fun t h0 => by
      show (accAt (V7 m) c t.val t.isLt (ix2 0 0) : EReal) = _
      rw [accAt_next (V7 m) c t h0, acc_step]
      pointwise)
    tEnd
  refine h.trans ?_
  rw [zero_add]
  have e : ∀ k, 64 * (tEnd.val / 64) + k = k := fun k => by show 64 * (63 / 64) + k = k; omega
  simp only [e]
  show ∑ k ∈ Finset.range 64, blkDiff m c k = _
  rw [Finset.sum_range]
  exact Fin.sum_mul_add_congr (L := 16384) (S := 64) (n := 256) (f := rowDiff m c) fun s r hl => dif_pos hl

theorem acc_arr (c : Dev nD) : ((decDat (V7 m) (Own (F := Ideal) 1) (Bnd (F := Ideal) 1) c).arrAt 14 cfg3.N : Arr 2 ![1, 1]) = fun _ =>
    sqDiff (chosen (Zk m c) (Bk m c)) (Zk m c) := by
  refine (decDat (V7 m) (Own (F := Ideal) 1) (Bnd (F := Ideal) 1) c).arrAt_eq_of_after_last 14 tEnd (by decide +kernel) _ fun j => ?_
  rw [decDat_after14]
  blk_simp
  obtain rfl : j = ix2 0 0 := by
    funext b
    match b with
    | ⟨0, _⟩ => exact Subsingleton.elim (α := Fin 1) _ _
    | ⟨1, _⟩ => exact Subsingleton.elim (α := Fin 1) _ _
  exact acc_end m c

/-- The result's loss. -/
theorem loss_end (c : Dev nD) (y : S_.Idx) : (W9 m c (Proc.devRef .tc main_v64) y : EReal) = loss (Zk m c) (Bk m c) := by
  refine (v64_at (W8 m c) y).trans ?_
  unfold loss
  exact congrArg (Ideal.div · _) (congrFun ((W8_arr m c 14).trans (acc_arr m c)) (ix2 0 0))

end Cert.Proof.Run

end
-- ==== Proof.RefVal.lean ====
/-
  What the reference computes, stage by stage, in the terms of the model.
-/
module

public import proofs.«01_k».proof.Proof.Ref
public import proofs.«01_k».proof.Proof.Model
public import Idealize.ShloMosaic.PureOps.Reduce

@[expose] public section

noncomputable section

namespace Cert.Proof.Ref

open Cert.ReferenceIdeal Cert.ReferenceIdeal.Gen
open Idealize.ShloMosaic Idealize.ShloMosaic.TcCoe
open Idealize.SL Idealize.SL.Sem
open Cert.Proof.Model

variable (V : Valuation τ sig (Elt Ideal))

theorem v32_row (i : Fin 16384) : row (RL1 V (Proc.devRef .tc main_v32)) i
    = layer (V (Proc.devRef .tc main_arg1)) (V (Proc.devRef .tc main_arg2)) (V (Proc.devRef .tc main_arg3)) (V (Proc.devRef .tc main_arg4)) (V (Proc.devRef .tc main_arg5)) (V (Proc.devRef .tc main_arg6)) 0
      (row (V (Proc.devRef .tc main_arg0)) i) := by
  funext j
  unfold row layer
  after_reads_at

theorem v65_step (i : Fin 16384) : row (StableHlo.after sL2 (StableHlo.after sL2a V) (Proc.devRef .tc main_v65)) i
    = layer (V (Proc.devRef .tc main_arg1)) (V (Proc.devRef .tc main_arg2)) (V (Proc.devRef .tc main_arg3)) (V (Proc.devRef .tc main_arg4)) (V (Proc.devRef .tc main_arg5)) (V (Proc.devRef .tc main_arg6)) 1
      (row (V (Proc.devRef .tc main_v32)) i) := by
  funext j
  unfold row layer
  rw [← StableHlo.after_append]
  after_reads_at

theorem v76_step (i : Fin 16384) : row (StableHlo.after sHd V (Proc.devRef .tc main_v76)) i
    = head (V (Proc.devRef .tc main_arg7)) (V (Proc.devRef .tc main_arg8)) (V (Proc.devRef .tc main_arg9)) (V (Proc.devRef .tc main_arg10))
      (row (V (Proc.devRef .tc main_v65)) i) := by
  funext j
  unfold row head
  after_reads_at

theorem v81_step (i : Fin 16384) : row (StableHlo.after sNm V (Proc.devRef .tc main_v81)) i = unit (row (V (Proc.devRef .tc main_v76)) i) := by
  funext j
  unfold row unit
  after_reads_at

theorem v86_step (i : Fin 8192) : row (StableHlo.after sNm V (Proc.devRef .tc main_v86)) i = unit (row (V (Proc.devRef .tc main_arg21)) i) := by
  funext j
  unfold row unit
  after_reads_at

theorem v100_step (i : Fin 16384) (k : Fin 8192) : (StableHlo.after sDs V (Proc.devRef .tc main_v100) : Arr 2 ![16384, 8192]) (ix2 i k)
    = sqDist (row (V (Proc.devRef .tc main_v81)) i) (row (V (Proc.devRef .tc main_v86)) k) := by
  unfold row sqDist
  after_reads_at

theorem v107_step (y : S_.Idx) : (StableHlo.after sLs V (Proc.devRef .tc main_v107) : Arr 0 ![]) y
    = Ideal.div (sqDiff (row (V (Proc.devRef .tc main_v102))) (row (V (Proc.devRef .tc main_v81)))) (Ideal.ofBits .f32 1233125376#32) := by
  unfold row sqDiff
  after_reads_at

theorem v109_step (i : Fin 16384) : row (StableHlo.after sLs V (Proc.devRef .tc main_v109)) i
    = through (row (V (Proc.devRef .tc main_v81)) i) (row (V (Proc.devRef .tc main_v102)) i) := by
  funext j
  unfold row through
  after_reads_at

theorem v142_step (i : Fin 16384) : row (StableHlo.after sM1 V (Proc.devRef .tc main_v142)) i
    = layer (V (Proc.devRef .tc main_arg11)) (V (Proc.devRef .tc main_arg12)) (V (Proc.devRef .tc main_arg13)) (V (Proc.devRef .tc main_arg14)) (V (Proc.devRef .tc main_arg15)) (V (Proc.devRef .tc main_arg16)) 0
      (row (V (Proc.devRef .tc main_v109)) i) := by
  funext j
  unfold row layer
  after_reads_at

theorem v175_step (i : Fin 16384) : row (StableHlo.after sM2 (StableHlo.after sM2a V) (Proc.devRef .tc main_v175)) i
    = layer (V (Proc.devRef .tc main_arg11)) (V (Proc.devRef .tc main_arg12)) (V (Proc.devRef .tc main_arg13)) (V (Proc.devRef .tc main_arg14)) (V (Proc.devRef .tc main_arg15)) (V (Proc.devRef .tc main_arg16)) 1
      (row (V (Proc.devRef .tc main_v142)) i) := by
  funext j
  unfold row layer
  rw [← StableHlo.after_append]
  after_reads_at

theorem v186_step (i : Fin 16384) : row (StableHlo.after sMh V (Proc.devRef .tc main_v186)) i
    = head (V (Proc.devRef .tc main_arg17)) (V (Proc.devRef .tc main_arg18)) (V (Proc.devRef .tc main_arg19)) (V (Proc.devRef .tc main_arg20))
      (row (V (Proc.devRef .tc main_v175)) i) := by
  funext j
  unfold row head
  after_reads_at

end Cert.Proof.Ref

end
-- ==== Proof.RefCode.lean ====
/-
  The reference's choice of a code for every row, and the row of the codebook that it takes.
-/
module

public import proofs.«01_k».proof.Proof.RefVal
public import Idealize.ShloMosaic.PureOps.Ideal.Laws
public import Idealize.ShloMosaic.Lib.Pointwise.Index

@[expose] public section

noncomputable section

namespace Cert.Proof.Ref

open Cert.ReferenceIdeal Cert.ReferenceIdeal.Gen
open Idealize.ShloMosaic Idealize.ShloMosaic.TcCoe
open Idealize.SL Idealize.SL.Sem
open Cert.Proof.Model

/-- The order of (value, index) pairs: the value first, then the index. -/
def Below (p q : EReal × BitVec 32) : Prop := p.1 < q.1 ∨ p.1 = q.1 ∧ p.2.toInt ≤ q.2.toInt

theorem Below.refl (p : EReal × BitVec 32) : Below p p := .inr ⟨rfl, le_rfl⟩

theorem Below.trans {p q r : EReal × BitVec 32} (h : Below p q) (h' : Below q r) : Below p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- The reducer keeps one of its pairs, and the one it keeps is below both. -/
theorem reducer_spec (a b : EReal × BitVec 32) :
    ((reducer_argmin_f32_i32 (F := Ideal) a b : EReal × BitVec 32) = a ∨ (reducer_argmin_f32_i32 (F := Ideal) a b : EReal × BitVec 32) = b)
    ∧ Below (reducer_argmin_f32_i32 (F := Ideal) a b) a ∧ Below (reducer_argmin_f32_i32 (F := Ideal) a b) b := by
  obtain ⟨x, i⟩ := a
  obtain ⟨y, j⟩ := b
  have hone : (FloatOps.cmpf (F := Ideal) (φ := .f32) .une x x : BitVec 1) = 0#1 := by simp [Ideal.cmpf_def, Ideal.cmp]
  rcases lt_trichotomy x y with h | h | h
  · have h1 : (FloatOps.cmpf (F := Ideal) (φ := .f32) .olt x y : BitVec 1) = 1#1 := by simp [Ideal.cmpf_def, Ideal.cmp, h]
    have e : (reducer_argmin_f32_i32 (F := Ideal) (x, i) (y, j) : EReal × BitVec 32) = (x, i) := by
      simp [reducer_argmin_f32_i32, hone, h1, IntOp.ori, Scalar.select]
      intro hq
      refine absurd ?_ hq
      generalize IntOp.andi _ _ = q
      revert q; decide
    rw [e]; exact ⟨.inl rfl, Below.refl _, .inl h⟩
  · subst h
    have h1 : (FloatOps.cmpf (F := Ideal) (φ := .f32) .olt x x : BitVec 1) = 0#1 := by simp [Ideal.cmpf_def, Ideal.cmp]
    have h2 : (FloatOps.cmpf (F := Ideal) (φ := .f32) .oeq x x : BitVec 1) = 1#1 := by simp [Ideal.cmpf_def, Ideal.cmp]
    by_cases hij : i.slt j = true
    · have e : (reducer_argmin_f32_i32 (F := Ideal) (x, i) (x, j) : EReal × BitVec 32) = (x, i) := by
        simp [reducer_argmin_f32_i32, hone, h1, h2, IntOp.ori, IntOp.andi, IntOp.cmpi, Scalar.select, hij]
      rw [BitVec.slt_eq_decide, decide_eq_true_eq] at hij
      rw [e]; exact ⟨.inl rfl, Below.refl _, .inr ⟨rfl, hij.le⟩⟩
    · have e : (reducer_argmin_f32_i32 (F := Ideal) (x, i) (x, j) : EReal × BitVec 32) = (x, j) := by
        simp [reducer_argmin_f32_i32, hone, h1, h2, IntOp.ori, IntOp.andi, IntOp.cmpi, Scalar.select, hij]
      rw [BitVec.slt_eq_decide, decide_eq_true_eq, not_lt] at hij
      rw [e]; exact ⟨.inr rfl, .inr ⟨rfl, hij⟩, Below.refl _⟩
  · have h1 : (FloatOps.cmpf (F := Ideal) (φ := .f32) .olt x y : BitVec 1) = 0#1 := by
      simp only [Ideal.cmpf_def, Ideal.cmp]; rw [decide_eq_false (not_lt.mpr h.le)]; rfl
    have h2 : (FloatOps.cmpf (F := Ideal) (φ := .f32) .oeq x y : BitVec 1) = 0#1 := by simp [Ideal.cmpf_def, Ideal.cmp, h.ne']
    have e : (reducer_argmin_f32_i32 (F := Ideal) (x, i) (y, j) : EReal × BitVec 32) = (y, j) := by
      simp [reducer_argmin_f32_i32, hone, h1, h2, IntOp.ori, IntOp.andi, Scalar.select]
    rw [e]; exact ⟨.inr rfl, .inl h, Below.refl _⟩

/-- A fold of the reducer ends at one of its pairs, below every one. -/
theorem foldl_reducer (l : List (EReal × BitVec 32)) : ∀ a : EReal × BitVec 32,
    (l.foldl (reducer_argmin_f32_i32 (F := Ideal)) a : EReal × BitVec 32) ∈ a :: l
      ∧ ∀ p ∈ a :: l, Below (l.foldl (reducer_argmin_f32_i32 (F := Ideal)) a) p := by
  induction l with
  | nil => exact fun a => ⟨List.mem_singleton.mpr rfl, fun p hp => by rw [List.mem_singleton.mp hp]; exact Below.refl _⟩
  | cons b l ih =>
    intro a
    obtain ⟨hor, ha, hb⟩ := reducer_spec a b
    obtain ⟨hm, hle⟩ := ih (reducer_argmin_f32_i32 (F := Ideal) a b)
    refine ⟨?_, fun p hp => ?_⟩
    · rcases List.mem_cons.mp hm with h | h
      · rcases hor with e | e
        · exact List.mem_cons.mpr (.inl (h.trans e))
        · exact List.mem_cons.mpr (.inr (List.mem_cons.mpr (.inl (h.trans e))))
      · exact List.mem_cons.mpr (.inr (List.mem_cons.mpr (.inr h)))
    · have h0 := hle _ (List.mem_cons.mpr (.inl rfl))
      rcases List.mem_cons.mp hp with rfl | hp
      · exact h0.trans ha
      · rcases List.mem_cons.mp hp with rfl | hp
        · exact h0.trans hb
        · exact hle p (List.mem_cons.mpr (.inr hp))

/-- The pairs of row `i` are its entries, each with its column. -/
theorem mem_fiber (x : S16384x8192.Idx → EReal) (i : Fin 16384) (p : EReal × BitVec 32) :
    p ∈ Host.argReduceFiber x (iotaInDim S16384x8192 32 1) reducesTo_S16384x8192_S16384_d1 (ix1 i)
      ↔ ∃ k : Fin 8192, p = (x (ix2 i k), BitVec.ofNat 32 k.val) := by
  unfold Host.argReduceFiber
  rw [List.mem_map]
  constructor
  · rintro ⟨n, hn, rfl⟩
    rw [List.mem_filter, decide_eq_true_eq] at hn
    generalize S16384x8192.rowMajor.symm n = z at hn ⊢
    have h0 : z 0 = i := Fin.ext ((Shape.ReducesTo.drop_apply_val_of_eq reducesTo_S16384x8192_S16384_d1 z 0 0).symm.trans
      (congrArg (fun j : S16384.Idx => (j 0 : ℕ)) hn.2))
    have hz : z = ix2 i (z 1) := by
      funext a
      match a with
      | ⟨0, _⟩ => exact h0
      | ⟨1, _⟩ => rfl
    exact ⟨z 1, Prod.ext (congrArg x hz) rfl⟩
  · rintro ⟨k, rfl⟩
    refine ⟨S16384x8192.rowMajor (ix2 i k), ?_, ?_⟩
    · rw [List.mem_filter, decide_eq_true_eq, Equiv.symm_apply_apply]
      refine ⟨List.mem_finRange _, ?_⟩
      funext b
      match b with
      | ⟨0, _⟩ => exact Fin.ext (Shape.ReducesTo.drop_apply_val_of_eq reducesTo_S16384x8192_S16384_d1 (ix2 i k) 0 0)
    · rw [Equiv.symm_apply_apply]; rfl

theorem toInt_col (k : Fin 8192) : (BitVec.ofNat 32 k.val).toInt = k.val := by
  have := k.isLt
  rw [BitVec.toInt_eq_toNat_cond, BitVec.toNat_ofNat, Nat.mod_eq_of_lt (by omega), if_pos (by omega)]

theorem ofBits_top : Ideal.ofBits .f32 2139095040#32 = ⊤ := by simp [Ideal.ofBits, Ideal.ieee]

/-- The reference's code of row `i` is the least index of a least entry. -/
theorem argmin_row (x : S16384x8192.Idx → EReal) (i : Fin 16384) : ∃ n : Fin 8192, IsLeast (fun k => x (ix2 i k)) n
    ∧ (Host.argReduce (F := Ideal) (φ := .f32) reducer_argmin_f32_i32 x (iotaInDim S16384x8192 32 1) (constant S_ .f32 2139095040#32) (constantI S_ 32 0#32)
        reducesTo_S16384x8192_S16384_d1 h_S_ (ix1 i)).2 = BitVec.ofNat 32 n.val := by
  rw [Ideal.argReduce_eq_reduce2, Host.reduce2_eq_foldl_fiber]
  obtain ⟨hm, hle⟩ := foldl_reducer (Host.argReduceFiber x (iotaInDim S16384x8192 32 1) reducesTo_S16384x8192_S16384_d1 (ix1 i)) (⊤, 0#32)
  rw [show ((constant S_ .f32 2139095040#32 : S_.Idx → Ideal .f32) (Shape.Idx.first h_S_), (constantI S_ 32 0#32 : S_.Idx → BitVec 32) (Shape.Idx.first h_S_))
    = ((⊤ : EReal), 0#32) from Prod.ext ofBits_top rfl]
  generalize ((Host.argReduceFiber x (iotaInDim S16384x8192 32 1) reducesTo_S16384x8192_S16384_d1 (ix1 i)).foldl
    (reducer_argmin_f32_i32 (F := Ideal)) (⊤, 0#32) : EReal × BitVec 32) = r at hm hle
  have hk : ∀ k : Fin 8192, Below r (x (ix2 i k), BitVec.ofNat 32 k.val) := fun k =>
    hle _ (List.mem_cons.mpr (.inr ((mem_fiber x i _).mpr ⟨k, rfl⟩)))
  have key : ∀ n : Fin 8192, r.1 = x (ix2 i n) → r.2 = BitVec.ofNat 32 n.val → IsLeast (fun k => x (ix2 i k)) n := fun n h1 h2 => by
    refine ⟨fun k => ?_, fun k hkn => ?_⟩
    · rcases hk k with h | ⟨h, -⟩
      · exact (h1 ▸ h.le : x (ix2 i n) ≤ x (ix2 i k))
      · exact (h1.symm.trans h).le
    · rcases hk k with h | ⟨-, h⟩
      · exact absurd (h1 ▸ h : x (ix2 i n) < x (ix2 i k)) (not_lt.mpr hkn)
      · rw [h2] at h
        simp only [toInt_col] at h
        exact Fin.le_def.mpr (by exact_mod_cast h)
  rcases List.mem_cons.mp hm with h | h
  · have h1 : r.1 = ⊤ := congrArg Prod.fst h
    have h2 : r.2 = 0#32 := congrArg Prod.snd h
    have h0 : r.1 = x (ix2 i 0) := by
      rcases hk 0 with h' | ⟨h', -⟩
      · exact absurd (h1 ▸ h') not_top_lt
      · exact h'
    exact ⟨0, key 0 h0 h2, h2⟩
  · obtain ⟨n, rfl⟩ := (mem_fiber x i _).mp h
    exact ⟨n, key n rfl rfl, rfl⟩

/-- The take of a row: the start is read signed and held within the table. -/
theorem gather_row (x : S8192x64.Idx → EReal) (idx : IVec S16384x1 32) (i : Fin 16384) (j : Fin 64) (n : Fin 8192)
    (h : idx (ix2 i 0) = BitVec.ofNat 32 n.val) :
    Host.gather gather_S8192x64_S16384x1_S16384x64_1_0_n_n_0_1_164 x idx (ix2 i j) = x (ix2 n j) := by
  unfold Host.gather
  congr 1
  funext a
  match a with
  | ⟨0, _⟩ =>
    apply Fin.ext
    have hs : (gather_S8192x64_S16384x1_S16384x64_1_0_n_n_0_1_164).start (ix2 i j) idx 0 = min (idx (ix2 i 0)).toInt.toNat 8191 := by
      unfold GatherDims.start
      rw [dif_pos (by decide)]
      refine congrArg (fun z => min (idx z).toInt.toNat 8191) ?_
      funext b
      match b with
      | ⟨0, _⟩ => rfl
      | ⟨1, _⟩ => rfl
    have hn := n.isLt
    rw [h, toInt_col] at hs
    show (gather_S8192x64_S16384x1_S16384x64_1_0_n_n_0_1_164).start (ix2 i j) idx 0 + 0 + 0 = n.val
    rw [hs]
    simp; omega
  | ⟨1, _⟩ =>
    apply Fin.ext
    show 0 + 0 + j.val = j.val
    omega

theorem wrap_col (n : Fin 8192) : (Scalar.select (IntOp.cmpi .slt (BitVec.ofNat 32 n.val) 0#32) (IntOp.addi (BitVec.ofNat 32 n.val) 8192#32)
    (BitVec.ofNat 32 n.val) : BitVec 32) = BitVec.ofNat 32 n.val := by
  refine if_neg ?_
  have : (BitVec.ofNat 32 n.val).slt 0#32 = false := by
    rw [BitVec.slt_eq_decide, toInt_col, decide_eq_false_iff_not]; simp
  simp [IntOp.cmpi, this]

theorem ge_col (n : Fin 8192) : (IntOp.cmpi .sge (BitVec.ofNat 32 n.val) 0#32 : BitVec 1) = 1#1 := by
  have : (0#32).sle (BitVec.ofNat 32 n.val) = true := by
    rw [BitVec.sle_eq_decide, toInt_col, decide_eq_true_eq]; simp
  simp [IntOp.cmpi, this]

theorem le_col (n : Fin 8192) : (IntOp.cmpi .sle (BitVec.ofNat 32 n.val) 8191#32 : BitVec 1) = 1#1 := by
  have hn := n.isLt
  have : (BitVec.ofNat 32 n.val).sle 8191#32 = true := by
    rw [BitVec.sle_eq_decide, toInt_col, decide_eq_true_eq, show (8191#32).toInt = 8191 from rfl]; omega
  simp [IntOp.cmpi, this]

theorem fold_ones {ι : Type} (S : Finset ι) : S.fold IntOp.andi (1#1) (fun _ => IntOp.andi (1#1) (1#1)) = 1#1 := by
  classical
  induction S using Finset.induction_on with
  | empty => rfl
  | insert a S ha ih => rw [Finset.fold_insert ha, ih]; rfl

variable (V : Valuation τ sig (Elt Ideal))

theorem v101_step (i : Fin 16384) : ∃ n : Fin 8192, IsLeast (fun k => (V (Proc.devRef .tc main_v100) : S16384x8192.Idx → EReal) (ix2 i k)) n
    ∧ (StableHlo.after sAm V (Proc.devRef .tc main_v101) : S16384.Idx → BitVec 32) (ix1 i) = BitVec.ofNat 32 n.val := by
  obtain ⟨n, hn, e⟩ := argmin_row (V (Proc.devRef .tc main_v100)) i
  refine ⟨n, hn, Eq.trans ?_ e⟩
  after_reads_at

theorem v102_step (i : Fin 16384) (n : Fin 8192) (h : (V (Proc.devRef .tc main_v101) : S16384.Idx → BitVec 32) (ix1 i) = BitVec.ofNat 32 n.val) :
    row (StableHlo.after sTk V (Proc.devRef .tc main_v102)) i = row (V (Proc.devRef .tc main_v86)) n := by
  funext j
  unfold row
  after_reads_at
  rw [gather_row _ _ i j n (by
    pointwise
    rw [h]; exact wrap_col n)]
  simp only [h, wrap_col, ge_col, le_col]
  exact if_pos (fold_ones _)

end Cert.Proof.Ref

end
-- ==== Proof.RefFinal.lean ====
/-
  The results of the reference, in the terms of the model.
-/
module

public import proofs.«01_k».proof.Proof.RefCode
public import proofs.«01_k».proof.Proof.Spec

@[expose] public section

noncomputable section

namespace Cert.Proof.Ref

open Cert.ReferenceIdeal Cert.ReferenceIdeal.Gen
open Idealize.ShloMosaic Idealize.ShloMosaic.TcCoe
open Idealize.SL Idealize.SL.Sem
open Cert.Proof.Model

variable (V : Valuation τ sig (Elt Ideal))

/-- The normalised rows, of the arguments. -/
abbrev Zr : Fin 16384 → Row := zRows (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
/-- The normalised codes, of the arguments. -/
abbrev Br : Fin 8192 → Row := codeRows (V (Proc.devRef .tc main_arg21))

theorem zRow (i : Fin 16384) : row (RNm V (Proc.devRef .tc main_v81)) i = Zr V i := by
  rw [v81_step, v76_step, v65_step, v32_row, RL1_args V main_arg1 (by decide +kernel), RL1_args V main_arg2 (by decide +kernel), RL1_args V main_arg3 (by decide +kernel), RL1_args V main_arg4 (by decide +kernel), RL1_args V main_arg5 (by decide +kernel), RL1_args V main_arg6 (by decide +kernel), RL2_args V main_arg7 (by decide +kernel), RL2_args V main_arg8 (by decide +kernel), RL2_args V main_arg9 (by decide +kernel), RL2_args V main_arg10 (by decide +kernel)]
  rfl

theorem bRow (k : Fin 8192) : row (RNm V (Proc.devRef .tc main_v86)) k = Br V k := by
  rw [v86_step, RHd_args V main_arg21 (by decide +kernel)]
  rfl

theorem qRow (i : Fin 16384) : row (RTk V (Proc.devRef .tc main_v102)) i = chosen (Zr V) (Br V) i := by
  obtain ⟨n, hn, e⟩ := v101_step (RDs V) i
  have hd : (fun k => (RDs V (Proc.devRef .tc main_v100) : S16384x8192.Idx → EReal) (ix2 i k)) = fun k => sqDist (Zr V i) (Br V k) := by
    funext k
    rw [← zRow V i, ← bRow V k]
    exact v100_step (RNm V) i k
  rw [hd] at hn
  rw [v102_step (RAm V) i n e]
  unfold chosen
  rw [nearest_eq hn, ← bRow V n, RAm_of V main_v86 (by decide +kernel), RDs_of V main_v86 (by decide +kernel)]

theorem zRow_kept (i : Fin 16384) : row (RTk V (Proc.devRef .tc main_v81)) i = Zr V i := by
  rw [RTk_of V main_v81 (by decide +kernel), RAm_of V main_v81 (by decide +kernel), RDs_of V main_v81 (by decide +kernel), zRow]

/-- The reference's second result. -/
theorem loss_eq (y : S_.Idx) : (RMh V (Proc.devRef .tc main_v107) : Arr 0 ![]) y = loss (Zr V) (Br V) := by
  rw [RMh_of V main_v107 (by decide +kernel), RM2_of V main_v107 (by decide +kernel), RM2a_of V main_v107 (by decide +kernel), RM1_of V main_v107 (by decide +kernel)]
  refine (v107_step (RTk V) y).trans ?_
  unfold loss
  rw [show row (RTk V (Proc.devRef .tc main_v102)) = chosen (Zr V) (Br V) from funext (qRow V), show row (RTk V (Proc.devRef .tc main_v81)) = Zr V from funext (zRow_kept V)]

/-- The reference's first result. -/
theorem decoded_eq (i : Fin 16384) : row (RMh V (Proc.devRef .tc main_v186)) i
    = decoded (Zr V) (Br V) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) i := by
  rw [v186_step, v175_step, v142_step, v109_step, qRow, zRow_kept, RLs_args V main_arg11 (by decide +kernel), RLs_args V main_arg12 (by decide +kernel), RLs_args V main_arg13 (by decide +kernel), RLs_args V main_arg14 (by decide +kernel), RLs_args V main_arg15 (by decide +kernel), RLs_args V main_arg16 (by decide +kernel), RM1_args V main_arg11 (by decide +kernel), RM1_args V main_arg12 (by decide +kernel), RM1_args V main_arg13 (by decide +kernel), RM1_args V main_arg14 (by decide +kernel), RM1_args V main_arg15 (by decide +kernel), RM1_args V main_arg16 (by decide +kernel), RM2_args V main_arg17 (by decide +kernel), RM2_args V main_arg18 (by decide +kernel), RM2_args V main_arg19 (by decide +kernel), RM2_args V main_arg20 (by decide +kernel)]
  rfl

end Cert.Proof.Ref

end
-- ==== Proof.Algebraic.lean ====
/-
  Over the reals both programs compute the same results.
-/
module

public import proofs.«01_k».proof.Proof.DecVal
public import proofs.«01_k».proof.Proof.Frames
public import proofs.«01_k».proof.Proof.RefFrame
public import proofs.«01_k».proof.Proof.RefFinal

@[expose] public section

noncomputable section

namespace Cert.Proof.Run

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)

variable {F : FTy → Type} [FloatOps F]

local notation "𝕄" => MT nD τ sig (HIx 1) (Elt F) ℕ UU ℕ

open Cert.Proof.Model

variable (m : (ℓ : Loc nD τ sig) → Buf (Elt Ideal) ℓ)
  (m' : (ℓ : Loc Cert.ReferenceIdeal.nD Cert.ReferenceIdeal.τ Cert.ReferenceIdeal.sig) → Buf (Elt Ideal) ℓ)

theorem zRows_congr {a0 a'0 : Arr 2 ![16384, 64]} {a1 a'1 : Arr 3 ![2, 64, 64]} {a2 a'2 : Arr 2 ![2, 64]} {a3 a'3 : Arr 2 ![2, 64]} {a4 a'4 : Arr 2 ![2, 64]} {a5 a'5 : Arr 2 ![2, 64]} {a6 a'6 : Arr 2 ![2, 64]} {a7 a'7 : Arr 2 ![64, 64]} {a8 a'8 : Arr 1 ![64]} {a9 a'9 : Arr 2 ![64, 64]} {a10 a'10 : Arr 1 ![64]} (h0 : a'0 = a0) (h1 : a'1 = a1) (h2 : a'2 = a2) (h3 : a'3 = a3) (h4 : a'4 = a4) (h5 : a'5 = a5) (h6 : a'6 = a6) (h7 : a'7 = a7) (h8 : a'8 = a8) (h9 : a'9 = a9) (h10 : a'10 = a10) :
    zRows a'0 a'1 a'2 a'3 a'4 a'5 a'6 a'7 a'8 a'9 a'10 = zRows a0 a1 a2 a3 a4 a5 a6 a7 a8 a9 a10 := by
  subst h0 h1 h2 h3 h4 h5 h6 h7 h8 h9 h10; rfl

theorem decoded_congr {Z Z' : Fin 16384 → Row} {B B' : Fin 8192 → Row} {a11 a'11 : Arr 3 ![2, 64, 64]} {a12 a'12 : Arr 2 ![2, 64]} {a13 a'13 : Arr 2 ![2, 64]} {a14 a'14 : Arr 2 ![2, 64]} {a15 a'15 : Arr 2 ![2, 64]} {a16 a'16 : Arr 2 ![2, 64]} {a17 a'17 : Arr 2 ![64, 64]} {a18 a'18 : Arr 1 ![64]} {a19 a'19 : Arr 2 ![64, 64]} {a20 a'20 : Arr 1 ![64]} (hZ : Z' = Z) (hB : B' = B) (h11 : a'11 = a11) (h12 : a'12 = a12) (h13 : a'13 = a13) (h14 : a'14 = a14) (h15 : a'15 = a15) (h16 : a'16 = a16) (h17 : a'17 = a17) (h18 : a'18 = a18) (h19 : a'19 = a19) (h20 : a'20 = a20) :
    decoded Z' B' a'11 a'12 a'13 a'14 a'15 a'16 a'17 a'18 a'19 a'20 = decoded Z B a11 a12 a13 a14 a15 a16 a17 a18 a19 a20 := by
  subst hZ hB h11 h12 h13 h14 h15 h16 h17 h18 h19 h20; rfl

/-- The two programs' arguments agree on a core. -/
abbrev Agree (c : Dev nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)

theorem z_agree (c : Dev nD) (h : Agree m m' c) : Ref.Zr (fun b => m' (c, b) : Valuation Cert.ReferenceIdeal.τ Cert.ReferenceIdeal.sig (Elt Ideal)) = Zk m c := by
  obtain ⟨h0, h1, h2, h3, h4, h5, h6, h7, h8, h9, h10, h11, h12, h13, h14, h15, h16, h17, h18, h19, h20, h21⟩ := h
  exact zRows_congr h0 h1 h2 h3 h4 h5 h6 h7 h8 h9 h10

theorem b_agree (c : Dev nD) (h : Agree m m' c) : Ref.Br (fun b => m' (c, b) : Valuation Cert.ReferenceIdeal.τ Cert.ReferenceIdeal.sig (Elt Ideal)) = Bk m c := by
  obtain ⟨h0, h1, h2, h3, h4, h5, h6, h7, h8, h9, h10, h11, h12, h13, h14, h15, h16, h17, h18, h19, h20, h21⟩ := h
  exact congrArg codeRows h21

/-- The first results are the same, -/
theorem rows_agree (c : Dev nD) (h : Agree m m' c) :
    (Ref.RMh (fun b => m' (c, b) : Valuation Cert.ReferenceIdeal.τ Cert.ReferenceIdeal.sig (Elt Ideal)) (Proc.devRef .tc Cert.ReferenceIdeal.main_v186) : Arr 2 ![16384, 64]) = W9 m c (Proc.devRef .tc main_v62_0) := by
  have hZ := z_agree m m' c h
  have hB := b_agree m m' c h
  obtain ⟨h0, h1, h2, h3, h4, h5, h6, h7, h8, h9, h10, h11, h12, h13, h14, h15, h16, h17, h18, h19, h20, h21⟩ := h
  funext z
  obtain ⟨i, j, rfl⟩ : ∃ (i : Fin 16384) (j : Fin 64), z = ix2 i j := ⟨z 0, z 1, by funext b; match b with | ⟨0, _⟩ => rfl | ⟨1, _⟩ => rfl⟩
  have e := decoded_congr hZ hB h11 h12 h13 h14 h15 h16 h17 h18 h19 h20
  exact congrFun (((Ref.decoded_eq (fun b => m' (c, b) : Valuation Cert.ReferenceIdeal.τ Cert.ReferenceIdeal.sig (Elt Ideal)) i).trans (congrFun e i)).trans (rows_end m c i).symm) j

/-- and the second. -/
theorem loss_agree (c : Dev nD) (h : Agree m m' c) :
    (Ref.RMh (fun b => m' (c, b) : Valuation Cert.ReferenceIdeal.τ Cert.ReferenceIdeal.sig (Elt Ideal)) (Proc.devRef .tc Cert.ReferenceIdeal.main_v107) : Arr 0 ![]) = W9 m c (Proc.devRef .tc main_v64) := by
  funext y
  refine (Ref.loss_eq (fun b => m' (c, b) : Valuation Cert.ReferenceIdeal.τ Cert.ReferenceIdeal.sig (Elt Ideal)) y).trans ?_
  rw [z_agree m m' c h, b_agree m m' c h]
  exact (loss_end m c y).symm

/-- Over the reals the kernel computes the reference's results. -/
theorem algebraic : Cert.algebraic_KernelIdeal_ReferenceIdeal := fun m g m' g' _ h =>
  ⟨fun c => W9 m c (Proc.devRef .tc main_v62_0), fun c => W9 m c (Proc.devRef .tc main_v64),
    (θ_run (Cert.KernelIdeal.defs (F := Ideal)) _ _).mono
      (fun _ hr c => ⟨hr.1 c (Proc.devRef .tc main_v62_0) (mem_uc main_v62_0 (by decide)), hr.1 c (Proc.devRef .tc main_v64) (mem_uc main_v64 (by decide)),
        arg_end m hr.1 c main_arg0 (by decide), arg_end m hr.1 c main_arg1 (by decide), arg_end m hr.1 c main_arg2 (by decide), arg_end m hr.1 c main_arg3 (by decide), arg_end m hr.1 c main_arg4 (by decide), arg_end m hr.1 c main_arg5 (by decide), arg_end m hr.1 c main_arg6 (by decide), arg_end m hr.1 c main_arg7 (by decide), arg_end m hr.1 c main_arg8 (by decide), arg_end m hr.1 c main_arg9 (by decide), arg_end m hr.1 c main_arg10 (by decide), arg_end m hr.1 c main_arg11 (by decide), arg_end m hr.1 c main_arg12 (by decide), arg_end m hr.1 c main_arg13 (by decide), arg_end m hr.1 c main_arg14 (by decide), arg_end m hr.1 c main_arg15 (by decide), arg_end m hr.1 c main_arg16 (by decide), arg_end m hr.1 c main_arg17 (by decide), arg_end m hr.1 c main_arg18 (by decide), arg_end m hr.1 c main_arg19 (by decide), arg_end m hr.1 c main_arg20 (by decide), arg_end m hr.1 c main_arg21 (by decide)⟩)
      (run_main (F := Ideal) m g (ix_lt m)),
    (θ_run (Cert.ReferenceIdeal.defs (F := Ideal)) _ _).mono
      (fun _ hr c => ⟨(hr.1 c Cert.ReferenceIdeal.main_v186).trans (rows_agree m m' c (h c)), (hr.1 c Cert.ReferenceIdeal.main_v107).trans (loss_agree m m' c (h c)),
        Ref.arg_end m' hr.1 c Cert.ReferenceIdeal.main_arg0 (by decide), Ref.arg_end m' hr.1 c Cert.ReferenceIdeal.main_arg1 (by decide), Ref.arg_end m' hr.1 c Cert.ReferenceIdeal.main_arg2 (by decide), Ref.arg_end m' hr.1 c Cert.ReferenceIdeal.main_arg3 (by decide), Ref.arg_end m' hr.1 c Cert.ReferenceIdeal.main_arg4 (by decide), Ref.arg_end m' hr.1 c Cert.ReferenceIdeal.main_arg5 (by decide), Ref.arg_end m' hr.1 c Cert.ReferenceIdeal.main_arg6 (by decide), Ref.arg_end m' hr.1 c Cert.ReferenceIdeal.main_arg7 (by decide), Ref.arg_end m' hr.1 c Cert.ReferenceIdeal.main_arg8 (by decide), Ref.arg_end m' hr.1 c Cert.ReferenceIdeal.main_arg9 (by decide), Ref.arg_end m' hr.1 c Cert.ReferenceIdeal.main_arg10 (by decide), Ref.arg_end m' hr.1 c Cert.ReferenceIdeal.main_arg11 (by decide), Ref.arg_end m' hr.1 c Cert.ReferenceIdeal.main_arg12 (by decide), Ref.arg_end m' hr.1 c Cert.ReferenceIdeal.main_arg13 (by decide), Ref.arg_end m' hr.1 c Cert.ReferenceIdeal.main_arg14 (by decide), Ref.arg_end m' hr.1 c Cert.ReferenceIdeal.main_arg15 (by decide), Ref.arg_end m' hr.1 c Cert.ReferenceIdeal.main_arg16 (by decide), Ref.arg_end m' hr.1 c Cert.ReferenceIdeal.main_arg17 (by decide), Ref.arg_end m' hr.1 c Cert.ReferenceIdeal.main_arg18 (by decide), Ref.arg_end m' hr.1 c Cert.ReferenceIdeal.main_arg19 (by decide), Ref.arg_end m' hr.1 c Cert.ReferenceIdeal.main_arg20 (by decide), Ref.arg_end m' hr.1 c Cert.ReferenceIdeal.main_arg21 (by decide)⟩)
      (Ref.run_main (F := Ideal) m' g')⟩

end Cert.Proof.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Frames
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Proof.Run.frame_kernel, Cert.Proof.Run.frame_ideal, Cert.Proof.Ref.frame_reference, trivial, Cert.Proof.Run.algebraic⟩

end Cert.Proof

end
